-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x2816 : Shape := ⟨3, ![8, 1, 2816]⟩
abbrev S8x1x6 : Shape := ⟨3, ![8, 1, 6]⟩
abbrev S16x2816x2816 : Shape := ⟨3, ![16, 2816, 2816]⟩
abbrev S16x2816 : Shape := ⟨2, ![16, 2816]⟩
abbrev S16x2816x1408 : Shape := ⟨3, ![16, 2816, 1408]⟩
abbrev S2816x2816 : Shape := ⟨2, ![2816, 2816]⟩
abbrev S2816 : Shape := ⟨1, ![2816]⟩
abbrev S2816x1408 : Shape := ⟨2, ![2816, 1408]⟩
abbrev S1x2816 : Shape := ⟨2, ![1, 2816]⟩
abbrev S2x2816x2816 : Shape := ⟨3, ![2, 2816, 2816]⟩
abbrev S2x2816x1408 : Shape := ⟨3, ![2, 2816, 1408]⟩
abbrev S8x2816 : Shape := ⟨2, ![8, 2816]⟩
abbrev S8x128 : Shape := ⟨2, ![8, 128]⟩
abbrev S16 : Shape := ⟨1, ![16]⟩
abbrev S2x2 : Shape := ⟨2, ![2, 2]⟩
abbrev S1x1 : Shape := ⟨2, ![1, 1]⟩
abbrev S_ : Shape := ⟨0, ![]⟩
abbrev S1x2816x2816 : Shape := ⟨3, ![1, 2816, 2816]⟩
abbrev S1x2816x1408 : Shape := ⟨3, ![1, 2816, 1408]⟩
abbrev S1x1x1 : Shape := ⟨3, ![1, 1, 1]⟩
abbrev S1 : Shape := ⟨1, ![1]⟩
abbrev S8x6 : Shape := ⟨2, ![8, 6]⟩
abbrev S8x1 : Shape := ⟨2, ![8, 1]⟩
abbrev S1x1408x2816 : Shape := ⟨3, ![1, 1408, 2816]⟩
abbrev S1408x2816 : Shape := ⟨2, ![1408, 2816]⟩
abbrev S8x1408 : Shape := ⟨2, ![8, 1408]⟩
abbrev S1x1408 : Shape := ⟨2, ![1, 1408]⟩
abbrev S8 : Shape := ⟨1, ![8]⟩

abbrev nBuf : Space → Nat
  | .hbm => 14
  | .vmem => 12
  | .smem => 2
  | _ => 0

abbrev bufTy : (tb : Table) → Fin (tcTables nBuf tb) → BufTy
  | .hbm, ⟨0, _⟩ => ⟨S8x1x2816, .bf16⟩
  | .hbm, ⟨1, _⟩ => ⟨S8x1x6, .i32⟩
  | .hbm, ⟨2, _⟩ => ⟨S8x1x6, .f32⟩
  | .hbm, ⟨3, _⟩ => ⟨S16x2816x2816, .i8⟩
  | .hbm, ⟨4, _⟩ => ⟨S16x2816, .f32⟩
  | .hbm, ⟨5, _⟩ => ⟨S16x2816x1408, .i8⟩
  | .hbm, ⟨6, _⟩ => ⟨S16x2816, .f32⟩
  | .hbm, ⟨7, _⟩ => ⟨S2816x2816, .i8⟩
  | .hbm, ⟨8, _⟩ => ⟨S2816, .f32⟩
  | .hbm, ⟨9, _⟩ => ⟨S2816x1408, .i8⟩
  | .hbm, ⟨10, _⟩ => ⟨S2816, .f32⟩
  | .hbm, ⟨11, _⟩ => ⟨S1x2816, .f32⟩
  | .hbm, ⟨12, _⟩ => ⟨S1x2816, .f32⟩
  | .hbm, ⟨13, _⟩ => ⟨S8x1x2816, .bf16⟩
  | .local _ .vmem, ⟨0, _⟩ => ⟨S8x1x6, .i32⟩
  | .local _ .vmem, ⟨1, _⟩ => ⟨S8x1x6, .f32⟩
  | .local _ .vmem, ⟨2, _⟩ => ⟨S8x1x2816, .bf16⟩
  | .local _ .vmem, ⟨3, _⟩ => ⟨S16x2816, .f32⟩
  | .local _ .vmem, ⟨4, _⟩ => ⟨S16x2816, .f32⟩
  | .local _ .vmem, ⟨5, _⟩ => ⟨S1x2816, .f32⟩
  | .local _ .vmem, ⟨6, _⟩ => ⟨S1x2816, .f32⟩
  | .local _ .vmem, ⟨7, _⟩ => ⟨S8x1x2816, .bf16⟩
  | .local _ .vmem, ⟨8, _⟩ => ⟨S2x2816x2816, .i8⟩
  | .local _ .vmem, ⟨9, _⟩ => ⟨S2x2816x1408, .i8⟩
  | .local _ .vmem, ⟨10, _⟩ => ⟨S8x2816, .f32⟩
  | .local _ .vmem, ⟨11, _⟩ => ⟨S8x128, .f32⟩
  | .local _ .smem, ⟨0, _⟩ => ⟨S8x1x6, .i32⟩
  | .local _ .smem, ⟨1, _⟩ => ⟨S16, .i32⟩
  | _, _ => ⟨S8x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_scratch4 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_off1 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let v396 : Index := Scalar.indexCast v395
  ![v396.toNat]

def k0_off2 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let v401 : Index := Scalar.indexCast v400
  ![v401.toNat]
def k0_off3 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let v406 : Index := Scalar.indexCast v405
  ![v406.toNat]
def k0_off4 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let v411 : Index := Scalar.indexCast v410
  ![v411.toNat]
def k0_off5 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let v416 : Index := Scalar.indexCast v415
  ![v416.toNat]
def k0_off6 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let v421 : Index := Scalar.indexCast v420
  ![v421.toNat]
def k0_off7 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let v426 : Index := Scalar.indexCast v425
  ![v426.toNat]
def k0_off8 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let v431 : Index := Scalar.indexCast v430
  ![v431.toNat]
def k0_off9 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let v436 : Index := Scalar.indexCast v435
  ![v436.toNat]
def k0_off10 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let v441 : Index := Scalar.indexCast v440
  ![v441.toNat]
def k0_off11 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let v446 : Index := Scalar.indexCast v445
  ![v446.toNat]
def k0_off12 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let v451 : Index := Scalar.indexCast v450
  ![v451.toNat]
def k0_off13 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let v456 : Index := Scalar.indexCast v455
  ![v456.toNat]
def k0_off14 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let v461 : Index := Scalar.indexCast v460
  ![v461.toNat]
def k0_off15 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Fin 1 → Nat :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let v466 : Index := Scalar.indexCast v465
  ![v466.toNat]
def k0_off16 : Fin 2 → Nat :=
  let c0_i32_490 : BitVec 32 := 0#32
  let c1_i32_488 : BitVec 32 := 1#32
  let c2_i32_489 : BitVec 32 := 2#32
  let v599 : BitVec 32 := Scalar.remsi c1_i32_488 c2_i32_489
  ![0, v599.toNat]
def k0_off17 : Fin 3 → Nat :=
  let c1_i32_488 : BitVec 32 := 1#32
  let c2_i32_489 : BitVec 32 := 2#32
  let v599 : BitVec 32 := Scalar.remsi c1_i32_488 c2_i32_489
  let c0_i32_491 : BitVec 32 := 0#32
  let c0_i32_492 : BitVec 32 := 0#32
  ![v599.toNat, 0, 0]
def k0_off18 (v598 : BitVec 32) : Fin 3 → Nat :=
  let c0_i32_493 : BitVec 32 := 0#32
  let c0_i32_494 : BitVec 32 := 0#32
  ![v598.toNat, 0, 0]
def k0_cond1 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : BitVec 1 :=
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c0_i32_420 : BitVec 32 := 0#32
  let v471 : BitVec 1 := Scalar.cmpi .sgt v470 c0_i32_420
  let v472 : BitVec 32 := Scalar.extui v471
  let c0_i32_421 : BitVec 32 := 0#32
  let v473 : BitVec 1 := Scalar.cmpi .ne v472 c0_i32_421
  v473

def k0_off19 : Fin 2 → Nat :=
  let c1_i32_495 : BitVec 32 := 1#32
  let c1_i32_488 : BitVec 32 := 1#32
  let c2_i32_489 : BitVec 32 := 2#32
  let v599 : BitVec 32 := Scalar.remsi c1_i32_488 c2_i32_489
  ![1, v599.toNat]
def k0_off20 : Fin 3 → Nat :=
  let c1_i32_488 : BitVec 32 := 1#32
  let c2_i32_489 : BitVec 32 := 2#32
  let v599 : BitVec 32 := Scalar.remsi c1_i32_488 c2_i32_489
  let c0_i32_496 : BitVec 32 := 0#32
  let c0_i32_497 : BitVec 32 := 0#32
  ![v599.toNat, 0, 0]
def k0_off21 (v598 : BitVec 32) : Fin 3 → Nat :=
  let c0_i32_498 : BitVec 32 := 0#32
  let c0_i32_499 : BitVec 32 := 0#32
  ![v598.toNat, 0, 0]

def k0_chk2 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (v598 : BitVec 32) : Prop :=
  (∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ a, (k0_off18 v598) a + S1x2816x2816.size a ≤ S16x2816x2816.size a) ∧
  (∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ (hinb : ∀ a, (k0_off18 v598) a + S1x2816x2816.size a ≤ S16x2816x2816.size a), (Rect.unit (s := S16x2816x2816) (k0_off18 v598) S1x2816x2816.size hinb).WholeWords (EltTy.packing .i8)) ∧
  (∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ a, (k0_off21 v598) a + S1x2816x1408.size a ≤ S16x2816x1408.size a) ∧
  (∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ (hinb : ∀ a, (k0_off21 v598) a + S1x2816x1408.size a ≤ S16x2816x1408.size a), (Rect.unit (s := S16x2816x1408) (k0_off21 v598) S1x2816x1408.size hinb).WholeWords (EltTy.packing .i8))
theorem k0_off18_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (v598 : BitVec 32) (k0_hw2 : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598), ∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ a, (k0_off18 v598) a + S1x2816x2816.size a ≤ S16x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1 => k0_hw2.1 k0_h1
theorem k0_off18_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (v598 : BitVec 32) (k0_hw2 : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598), ∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), (Rect.unit (s := S16x2816x2816) (k0_off18 v598) S1x2816x2816.size (k0_off18_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1 => k0_hw2.2.1 k0_h1 (k0_off18_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1)
theorem k0_off21_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (v598 : BitVec 32) (k0_hw2 : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598), ∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), ∀ a, (k0_off21 v598) a + S1x2816x1408.size a ≤ S16x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1 => k0_hw2.2.2.1 k0_h1
theorem k0_off21_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (v598 : BitVec 32) (k0_hw2 : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598), ∀ (k0_h1 : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1), (Rect.unit (s := S16x2816x1408) (k0_off21 v598) S1x2816x1408.size (k0_off21_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1 => k0_hw2.2.2.2 k0_h1 (k0_off21_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v598 k0_hw2 k0_h1)

@[reducible] def k0_t1_loop (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Scf.Loop 32 :=
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_480 : BitVec 32 := 1#32
  ⟨c0_i32_478, v593, c1_i32_480⟩
def k0_off22 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c1_i32_525 : BitVec 32 := 1#32
  let v671 : BitVec 32 := Scalar.subi v670 c1_i32_525
  let v672 : Index := Scalar.indexCast v671
  ![v672.toNat]
def k0_cond2 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : BitVec 1 :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let v600 : BitVec 1 := Scalar.cmpi .slt v599 v470
  let v601 : BitVec 32 := Scalar.extui v600
  let c0_i32_487 : BitVec 32 := 0#32
  let v602 : BitVec 1 := Scalar.cmpi .ne v601 c0_i32_487
  v602

def k0_off23 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c0_i32_527 : BitVec 32 := 0#32
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  ![0, v674.toNat]
def k0_off24 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  let c0_i32_528 : BitVec 32 := 0#32
  let c0_i32_529 : BitVec 32 := 0#32
  ![v674.toNat, 0, 0]
def k0_off25 (v673 : BitVec 32) : Fin 3 → Nat :=
  let c0_i32_530 : BitVec 32 := 0#32
  let c0_i32_531 : BitVec 32 := 0#32
  ![v673.toNat, 0, 0]

def k0_off26 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c1_i32_532 : BitVec 32 := 1#32
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  ![1, v674.toNat]
def k0_off27 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  let c0_i32_533 : BitVec 32 := 0#32
  let c0_i32_534 : BitVec 32 := 0#32
  ![v674.toNat, 0, 0]
def k0_off28 (v673 : BitVec 32) : Fin 3 → Nat :=
  let c0_i32_535 : BitVec 32 := 0#32
  let c0_i32_536 : BitVec 32 := 0#32
  ![v673.toNat, 0, 0]

def k0_chk3 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) : Prop :=
  (∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off25 v673) a + S1x2816x2816.size a ≤ S16x2816x2816.size a) ∧
  (∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ (hinb : ∀ a, (k0_off25 v673) a + S1x2816x2816.size a ≤ S16x2816x2816.size a), (Rect.unit (s := S16x2816x2816) (k0_off25 v673) S1x2816x2816.size hinb).WholeWords (EltTy.packing .i8)) ∧
  (∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off28 v673) a + S1x2816x1408.size a ≤ S16x2816x1408.size a) ∧
  (∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ (hinb : ∀ a, (k0_off28 v673) a + S1x2816x1408.size a ≤ S16x2816x1408.size a), (Rect.unit (s := S16x2816x1408) (k0_off28 v673) S1x2816x1408.size hinb).WholeWords (EltTy.packing .i8))
theorem k0_off25_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw3 : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off25 v673) a + S1x2816x2816.size a ≤ S16x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2 => k0_hw3.1 k0_h2
theorem k0_off25_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw3 : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), (Rect.unit (s := S16x2816x2816) (k0_off25 v673) S1x2816x2816.size (k0_off25_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2 => k0_hw3.2.1 k0_h2 (k0_off25_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2)
theorem k0_off28_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw3 : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off28 v673) a + S1x2816x1408.size a ≤ S16x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2 => k0_hw3.2.2.1 k0_h2
theorem k0_off28_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw3 : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), (Rect.unit (s := S16x2816x1408) (k0_off28 v673) S1x2816x1408.size (k0_off28_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2 => k0_hw3.2.2.2 k0_h2 (k0_off28_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 v673 k0_hw3 k0_h2)

def k0_off29 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_488 : BitVec 32 := 1#32
  let v603 : BitVec 32 := Scalar.subi v599 c1_i32_488
  let v604 : Index := Scalar.indexCast v603
  ![v604.toNat]
def k0_off30 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c0_i32_490 : BitVec 32 := 0#32
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  ![0, v606.toNat]
def k0_off31 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  let c0_i32_491 : BitVec 32 := 0#32
  let c0_i32_492 : BitVec 32 := 0#32
  ![v606.toNat, 0, 0]
def k0_off32 (v605 : BitVec 32) : Fin 3 → Nat :=
  let c0_i32_493 : BitVec 32 := 0#32
  let c0_i32_494 : BitVec 32 := 0#32
  ![v605.toNat, 0, 0]

def k0_off33 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c1_i32_495 : BitVec 32 := 1#32
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  ![1, v606.toNat]
def k0_off34 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  let c0_i32_496 : BitVec 32 := 0#32
  let c0_i32_497 : BitVec 32 := 0#32
  ![v606.toNat, 0, 0]
def k0_off35 (v605 : BitVec 32) : Fin 3 → Nat :=
  let c0_i32_498 : BitVec 32 := 0#32
  let c0_i32_499 : BitVec 32 := 0#32
  ![v605.toNat, 0, 0]

def k0_chk4 (v605 : BitVec 32) : Prop :=
  (∀ a, (k0_off32 v605) a + S1x2816x2816.size a ≤ S16x2816x2816.size a) ∧
  (∀ (hinb : ∀ a, (k0_off32 v605) a + S1x2816x2816.size a ≤ S16x2816x2816.size a), (Rect.unit (s := S16x2816x2816) (k0_off32 v605) S1x2816x2816.size hinb).WholeWords (EltTy.packing .i8)) ∧
  (∀ a, (k0_off35 v605) a + S1x2816x1408.size a ≤ S16x2816x1408.size a) ∧
  (∀ (hinb : ∀ a, (k0_off35 v605) a + S1x2816x1408.size a ≤ S16x2816x1408.size a), (Rect.unit (s := S16x2816x1408) (k0_off35 v605) S1x2816x1408.size hinb).WholeWords (EltTy.packing .i8))
theorem k0_off32_inb : ∀ (v605 : BitVec 32) (k0_hw4 : k0_chk4 v605), ∀ a, (k0_off32 v605) a + S1x2816x2816.size a ≤ S16x2816x2816.size a := fun v605 k0_hw4 => k0_hw4.1
theorem k0_off32_wordsi8 : ∀ (v605 : BitVec 32) (k0_hw4 : k0_chk4 v605), (Rect.unit (s := S16x2816x2816) (k0_off32 v605) S1x2816x2816.size (k0_off32_inb v605 k0_hw4)).WholeWords (EltTy.packing .i8) := fun v605 k0_hw4 => k0_hw4.2.1 (k0_off32_inb v605 k0_hw4)
theorem k0_off35_inb : ∀ (v605 : BitVec 32) (k0_hw4 : k0_chk4 v605), ∀ a, (k0_off35 v605) a + S1x2816x1408.size a ≤ S16x2816x1408.size a := fun v605 k0_hw4 => k0_hw4.2.2.1
theorem k0_off35_wordsi8 : ∀ (v605 : BitVec 32) (k0_hw4 : k0_chk4 v605), (Rect.unit (s := S16x2816x1408) (k0_off35 v605) S1x2816x1408.size (k0_off35_inb v605 k0_hw4)).WholeWords (EltTy.packing .i8) := fun v605 k0_hw4 => k0_hw4.2.2.2 (k0_off35_inb v605 k0_hw4)

def k0_off36 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c1_i32_500 : BitVec 32 := 1#32
  let v619 : BitVec 32 := Scalar.subi v599 c1_i32_500
  let v620 : Index := Scalar.indexCast v619
  ![v620.toNat]
def k0_off37 (v621 : BitVec 32) : Fin 2 → Nat :=
  let v630 : Index := Scalar.indexCast v621
  let c0_506 : Index := 0#32
  ![v630.toNat, 0]

def k0_chk5 (v621 : BitVec 32) : Prop :=
  (∀ a, (k0_off37 v621) a + S1x2816.size a ≤ S16x2816.size a)
theorem k0_off37_inb : ∀ (v621 : BitVec 32) (k0_hw5 : k0_chk5 v621), ∀ a, (k0_off37 v621) a + S1x2816.size a ≤ S16x2816.size a := fun v621 k0_hw5 => k0_hw5

def k0_off38 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v636 : Index := Scalar.indexCast v629
  let c0_511 : Index := 0#32
  let c0_512 : Index := 0#32
  ![v636.toNat, 0, 0]
def k0_off39 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v644 : Index := Scalar.indexCast v629
  let c1408_514 : Index := 1408#32
  let c0_515 : Index := 0#32
  ![v644.toNat, 1408, 0]
def k0_off40 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c1_i32_480 : BitVec 32 := 1#32
  let arg19 : BitVec 32 := Scf.iv c0_i32_478 c1_i32_480 k0_t1
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v656 : Index := Scalar.indexCast v629
  let c0_517 : Index := 0#32
  let c0_518 : Index := 0#32
  ![v656.toNat, 0, 0]
@[reducible] def k0_t2_loop (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Scf.Loop 32 :=
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let v590 : BitVec 32 := Scalar.addi c0_i32_478 v589
  let c1_i32_481 : BitVec 32 := 1#32
  ⟨v593, v590, c1_i32_481⟩
def k0_off41 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c1_i32_525 : BitVec 32 := 1#32
  let v671 : BitVec 32 := Scalar.subi v670 c1_i32_525
  let v672 : Index := Scalar.indexCast v671
  ![v672.toNat]
def k0_cond3 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : BitVec 1 :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let v600 : BitVec 1 := Scalar.cmpi .slt v599 v470
  let v601 : BitVec 32 := Scalar.extui v600
  let c0_i32_487 : BitVec 32 := 0#32
  let v602 : BitVec 1 := Scalar.cmpi .ne v601 c0_i32_487
  v602

def k0_off42 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c0_i32_527 : BitVec 32 := 0#32
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  ![0, v674.toNat]
def k0_off43 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  let c0_i32_528 : BitVec 32 := 0#32
  let c0_i32_529 : BitVec 32 := 0#32
  ![v674.toNat, 0, 0]
def k0_off44 (v673 : BitVec 32) : Fin 3 → Nat :=
  let c0_i32_530 : BitVec 32 := 0#32
  let c0_i32_531 : BitVec 32 := 0#32
  ![v673.toNat, 0, 0]

def k0_off45 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c1_i32_532 : BitVec 32 := 1#32
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  ![1, v674.toNat]
def k0_off46 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_524 : BitVec 32 := 1#32
  let v670 : BitVec 32 := Scalar.addi v599 c1_i32_524
  let c2_i32_526 : BitVec 32 := 2#32
  let v674 : BitVec 32 := Scalar.remsi v670 c2_i32_526
  let c0_i32_533 : BitVec 32 := 0#32
  let c0_i32_534 : BitVec 32 := 0#32
  ![v674.toNat, 0, 0]
def k0_off47 (v673 : BitVec 32) : Fin 3 → Nat :=
  let c0_i32_535 : BitVec 32 := 0#32
  let c0_i32_536 : BitVec 32 := 0#32
  ![v673.toNat, 0, 0]

def k0_chk6 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) : Prop :=
  (∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off44 v673) a + S1x2816x2816.size a ≤ S16x2816x2816.size a) ∧
  (∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ (hinb : ∀ a, (k0_off44 v673) a + S1x2816x2816.size a ≤ S16x2816x2816.size a), (Rect.unit (s := S16x2816x2816) (k0_off44 v673) S1x2816x2816.size hinb).WholeWords (EltTy.packing .i8)) ∧
  (∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off47 v673) a + S1x2816x1408.size a ≤ S16x2816x1408.size a) ∧
  (∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ (hinb : ∀ a, (k0_off47 v673) a + S1x2816x1408.size a ≤ S16x2816x1408.size a), (Rect.unit (s := S16x2816x1408) (k0_off47 v673) S1x2816x1408.size hinb).WholeWords (EltTy.packing .i8))
theorem k0_off44_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw6 : k0_chk6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off44 v673) a + S1x2816x2816.size a ≤ S16x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3 => k0_hw6.1 k0_h3
theorem k0_off44_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw6 : k0_chk6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), (Rect.unit (s := S16x2816x2816) (k0_off44 v673) S1x2816x2816.size (k0_off44_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3 => k0_hw6.2.1 k0_h3 (k0_off44_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3)
theorem k0_off47_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw6 : k0_chk6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off47 v673) a + S1x2816x1408.size a ≤ S16x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3 => k0_hw6.2.2.1 k0_h3
theorem k0_off47_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (v673 : BitVec 32) (k0_hw6 : k0_chk6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), (Rect.unit (s := S16x2816x1408) (k0_off47 v673) S1x2816x1408.size (k0_off47_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3 => k0_hw6.2.2.2 k0_h3 (k0_off47_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 v673 k0_hw6 k0_h3)

def k0_off48 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_488 : BitVec 32 := 1#32
  let v603 : BitVec 32 := Scalar.subi v599 c1_i32_488
  let v604 : Index := Scalar.indexCast v603
  ![v604.toNat]
def k0_off49 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c0_i32_490 : BitVec 32 := 0#32
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  ![0, v606.toNat]
def k0_off50 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  let c0_i32_491 : BitVec 32 := 0#32
  let c0_i32_492 : BitVec 32 := 0#32
  ![v606.toNat, 0, 0]
def k0_off51 (v605 : BitVec 32) : Fin 3 → Nat :=
  let c0_i32_493 : BitVec 32 := 0#32
  let c0_i32_494 : BitVec 32 := 0#32
  ![v605.toNat, 0, 0]

def k0_off52 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 2 → Nat :=
  let c1_i32_495 : BitVec 32 := 1#32
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  ![1, v606.toNat]
def k0_off53 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_489 : BitVec 32 := 2#32
  let v606 : BitVec 32 := Scalar.remsi v599 c2_i32_489
  let c0_i32_496 : BitVec 32 := 0#32
  let c0_i32_497 : BitVec 32 := 0#32
  ![v606.toNat, 0, 0]
def k0_off54 (v605 : BitVec 32) : Fin 3 → Nat :=
  let c0_i32_498 : BitVec 32 := 0#32
  let c0_i32_499 : BitVec 32 := 0#32
  ![v605.toNat, 0, 0]

def k0_chk7 (v605 : BitVec 32) : Prop :=
  (∀ a, (k0_off51 v605) a + S1x2816x2816.size a ≤ S16x2816x2816.size a) ∧
  (∀ (hinb : ∀ a, (k0_off51 v605) a + S1x2816x2816.size a ≤ S16x2816x2816.size a), (Rect.unit (s := S16x2816x2816) (k0_off51 v605) S1x2816x2816.size hinb).WholeWords (EltTy.packing .i8)) ∧
  (∀ a, (k0_off54 v605) a + S1x2816x1408.size a ≤ S16x2816x1408.size a) ∧
  (∀ (hinb : ∀ a, (k0_off54 v605) a + S1x2816x1408.size a ≤ S16x2816x1408.size a), (Rect.unit (s := S16x2816x1408) (k0_off54 v605) S1x2816x1408.size hinb).WholeWords (EltTy.packing .i8))
theorem k0_off51_inb : ∀ (v605 : BitVec 32) (k0_hw7 : k0_chk7 v605), ∀ a, (k0_off51 v605) a + S1x2816x2816.size a ≤ S16x2816x2816.size a := fun v605 k0_hw7 => k0_hw7.1
theorem k0_off51_wordsi8 : ∀ (v605 : BitVec 32) (k0_hw7 : k0_chk7 v605), (Rect.unit (s := S16x2816x2816) (k0_off51 v605) S1x2816x2816.size (k0_off51_inb v605 k0_hw7)).WholeWords (EltTy.packing .i8) := fun v605 k0_hw7 => k0_hw7.2.1 (k0_off51_inb v605 k0_hw7)
theorem k0_off54_inb : ∀ (v605 : BitVec 32) (k0_hw7 : k0_chk7 v605), ∀ a, (k0_off54 v605) a + S1x2816x1408.size a ≤ S16x2816x1408.size a := fun v605 k0_hw7 => k0_hw7.2.2.1
theorem k0_off54_wordsi8 : ∀ (v605 : BitVec 32) (k0_hw7 : k0_chk7 v605), (Rect.unit (s := S16x2816x1408) (k0_off54 v605) S1x2816x1408.size (k0_off54_inb v605 k0_hw7)).WholeWords (EltTy.packing .i8) := fun v605 k0_hw7 => k0_hw7.2.2.2 (k0_off54_inb v605 k0_hw7)

def k0_off55 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 1 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c1_i32_500 : BitVec 32 := 1#32
  let v619 : BitVec 32 := Scalar.subi v599 c1_i32_500
  let v620 : Index := Scalar.indexCast v619
  ![v620.toNat]
def k0_off56 (v621 : BitVec 32) : Fin 2 → Nat :=
  let v630 : Index := Scalar.indexCast v621
  let c0_506 : Index := 0#32
  ![v630.toNat, 0]

def k0_chk8 (v621 : BitVec 32) : Prop :=
  (∀ a, (k0_off56 v621) a + S1x2816.size a ≤ S16x2816.size a)
theorem k0_off56_inb : ∀ (v621 : BitVec 32) (k0_hw8 : k0_chk8 v621), ∀ a, (k0_off56 v621) a + S1x2816.size a ≤ S16x2816.size a := fun v621 k0_hw8 => k0_hw8

def k0_off57 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v636 : Index := Scalar.indexCast v629
  let c0_511 : Index := 0#32
  let c0_512 : Index := 0#32
  ![v636.toNat, 0, 0]
def k0_off58 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v644 : Index := Scalar.indexCast v629
  let c1408_514 : Index := 1408#32
  let c0_515 : Index := 0#32
  ![v644.toNat, 1408, 0]
def k0_off59 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Fin 3 → Nat :=
  let c1_i32_477 : BitVec 32 := 1#32
  let c0_i32_478 : BitVec 32 := 0#32
  let c0_i32_387 : BitVec 32 := 0#32
  let c0_i32_13 : BitVec 32 := 0#32
  let c0_i32_10 : BitVec 32 := 0#32
  let v9 : BitVec 1 := Scalar.cmpi .sge v8 c0_i32_10
  let c16_i32 : BitVec 32 := 16#32
  let v10 : BitVec 1 := Scalar.cmpi .slt v8 c16_i32
  let v11 : BitVec 1 := Scalar.andi v9 v10
  let c1_i32_11 : BitVec 32 := 1#32
  let c15_i32 : BitVec 32 := 15#32
  let v12 : BitVec 32 := Scalar.andi v8 c15_i32
  let v13 : BitVec 32 := Scalar.shli c1_i32_11 v12
  let c0_i32_12 : BitVec 32 := 0#32
  let v14 : BitVec 32 := Scalar.select v11 v13 c0_i32_12
  let v15 : BitVec 32 := Scalar.ori c0_i32_13 v14
  let c0_i32_16 : BitVec 32 := 0#32
  let v17 : BitVec 1 := Scalar.cmpi .sge v16 c0_i32_16
  let c16_i32_17 : BitVec 32 := 16#32
  let v18 : BitVec 1 := Scalar.cmpi .slt v16 c16_i32_17
  let v19 : BitVec 1 := Scalar.andi v17 v18
  let c1_i32_19 : BitVec 32 := 1#32
  let c15_i32_18 : BitVec 32 := 15#32
  let v20 : BitVec 32 := Scalar.andi v16 c15_i32_18
  let v21 : BitVec 32 := Scalar.shli c1_i32_19 v20
  let c0_i32_20 : BitVec 32 := 0#32
  let v22 : BitVec 32 := Scalar.select v19 v21 c0_i32_20
  let v23 : BitVec 32 := Scalar.ori v15 v22
  let c0_i32_23 : BitVec 32 := 0#32
  let v25 : BitVec 1 := Scalar.cmpi .sge v24 c0_i32_23
  let c16_i32_24 : BitVec 32 := 16#32
  let v26 : BitVec 1 := Scalar.cmpi .slt v24 c16_i32_24
  let v27 : BitVec 1 := Scalar.andi v25 v26
  let c1_i32_26 : BitVec 32 := 1#32
  let c15_i32_25 : BitVec 32 := 15#32
  let v28 : BitVec 32 := Scalar.andi v24 c15_i32_25
  let v29 : BitVec 32 := Scalar.shli c1_i32_26 v28
  let c0_i32_27 : BitVec 32 := 0#32
  let v30 : BitVec 32 := Scalar.select v27 v29 c0_i32_27
  let v31 : BitVec 32 := Scalar.ori v23 v30
  let c0_i32_30 : BitVec 32 := 0#32
  let v33 : BitVec 1 := Scalar.cmpi .sge v32 c0_i32_30
  let c16_i32_31 : BitVec 32 := 16#32
  let v34 : BitVec 1 := Scalar.cmpi .slt v32 c16_i32_31
  let v35 : BitVec 1 := Scalar.andi v33 v34
  let c1_i32_33 : BitVec 32 := 1#32
  let c15_i32_32 : BitVec 32 := 15#32
  let v36 : BitVec 32 := Scalar.andi v32 c15_i32_32
  let v37 : BitVec 32 := Scalar.shli c1_i32_33 v36
  let c0_i32_34 : BitVec 32 := 0#32
  let v38 : BitVec 32 := Scalar.select v35 v37 c0_i32_34
  let v39 : BitVec 32 := Scalar.ori v31 v38
  let c0_i32_37 : BitVec 32 := 0#32
  let v41 : BitVec 1 := Scalar.cmpi .sge v40 c0_i32_37
  let c16_i32_38 : BitVec 32 := 16#32
  let v42 : BitVec 1 := Scalar.cmpi .slt v40 c16_i32_38
  let v43 : BitVec 1 := Scalar.andi v41 v42
  let c1_i32_40 : BitVec 32 := 1#32
  let c15_i32_39 : BitVec 32 := 15#32
  let v44 : BitVec 32 := Scalar.andi v40 c15_i32_39
  let v45 : BitVec 32 := Scalar.shli c1_i32_40 v44
  let c0_i32_41 : BitVec 32 := 0#32
  let v46 : BitVec 32 := Scalar.select v43 v45 c0_i32_41
  let v47 : BitVec 32 := Scalar.ori v39 v46
  let c0_i32_44 : BitVec 32 := 0#32
  let v49 : BitVec 1 := Scalar.cmpi .sge v48 c0_i32_44
  let c16_i32_45 : BitVec 32 := 16#32
  let v50 : BitVec 1 := Scalar.cmpi .slt v48 c16_i32_45
  let v51 : BitVec 1 := Scalar.andi v49 v50
  let c1_i32_47 : BitVec 32 := 1#32
  let c15_i32_46 : BitVec 32 := 15#32
  let v52 : BitVec 32 := Scalar.andi v48 c15_i32_46
  let v53 : BitVec 32 := Scalar.shli c1_i32_47 v52
  let c0_i32_48 : BitVec 32 := 0#32
  let v54 : BitVec 32 := Scalar.select v51 v53 c0_i32_48
  let v55 : BitVec 32 := Scalar.ori v47 v54
  let c0_i32_52 : BitVec 32 := 0#32
  let v57 : BitVec 1 := Scalar.cmpi .sge v56 c0_i32_52
  let c16_i32_53 : BitVec 32 := 16#32
  let v58 : BitVec 1 := Scalar.cmpi .slt v56 c16_i32_53
  let v59 : BitVec 1 := Scalar.andi v57 v58
  let c1_i32_55 : BitVec 32 := 1#32
  let c15_i32_54 : BitVec 32 := 15#32
  let v60 : BitVec 32 := Scalar.andi v56 c15_i32_54
  let v61 : BitVec 32 := Scalar.shli c1_i32_55 v60
  let c0_i32_56 : BitVec 32 := 0#32
  let v62 : BitVec 32 := Scalar.select v59 v61 c0_i32_56
  let v63 : BitVec 32 := Scalar.ori v55 v62
  let c0_i32_60 : BitVec 32 := 0#32
  let v65 : BitVec 1 := Scalar.cmpi .sge v64 c0_i32_60
  let c16_i32_61 : BitVec 32 := 16#32
  let v66 : BitVec 1 := Scalar.cmpi .slt v64 c16_i32_61
  let v67 : BitVec 1 := Scalar.andi v65 v66
  let c1_i32_63 : BitVec 32 := 1#32
  let c15_i32_62 : BitVec 32 := 15#32
  let v68 : BitVec 32 := Scalar.andi v64 c15_i32_62
  let v69 : BitVec 32 := Scalar.shli c1_i32_63 v68
  let c0_i32_64 : BitVec 32 := 0#32
  let v70 : BitVec 32 := Scalar.select v67 v69 c0_i32_64
  let v71 : BitVec 32 := Scalar.ori v63 v70
  let c0_i32_68 : BitVec 32 := 0#32
  let v73 : BitVec 1 := Scalar.cmpi .sge v72 c0_i32_68
  let c16_i32_69 : BitVec 32 := 16#32
  let v74 : BitVec 1 := Scalar.cmpi .slt v72 c16_i32_69
  let v75 : BitVec 1 := Scalar.andi v73 v74
  let c1_i32_71 : BitVec 32 := 1#32
  let c15_i32_70 : BitVec 32 := 15#32
  let v76 : BitVec 32 := Scalar.andi v72 c15_i32_70
  let v77 : BitVec 32 := Scalar.shli c1_i32_71 v76
  let c0_i32_72 : BitVec 32 := 0#32
  let v78 : BitVec 32 := Scalar.select v75 v77 c0_i32_72
  let v79 : BitVec 32 := Scalar.ori v71 v78
  let c0_i32_76 : BitVec 32 := 0#32
  let v81 : BitVec 1 := Scalar.cmpi .sge v80 c0_i32_76
  let c16_i32_77 : BitVec 32 := 16#32
  let v82 : BitVec 1 := Scalar.cmpi .slt v80 c16_i32_77
  let v83 : BitVec 1 := Scalar.andi v81 v82
  let c1_i32_79 : BitVec 32 := 1#32
  let c15_i32_78 : BitVec 32 := 15#32
  let v84 : BitVec 32 := Scalar.andi v80 c15_i32_78
  let v85 : BitVec 32 := Scalar.shli c1_i32_79 v84
  let c0_i32_80 : BitVec 32 := 0#32
  let v86 : BitVec 32 := Scalar.select v83 v85 c0_i32_80
  let v87 : BitVec 32 := Scalar.ori v79 v86
  let c0_i32_84 : BitVec 32 := 0#32
  let v89 : BitVec 1 := Scalar.cmpi .sge v88 c0_i32_84
  let c16_i32_85 : BitVec 32 := 16#32
  let v90 : BitVec 1 := Scalar.cmpi .slt v88 c16_i32_85
  let v91 : BitVec 1 := Scalar.andi v89 v90
  let c1_i32_87 : BitVec 32 := 1#32
  let c15_i32_86 : BitVec 32 := 15#32
  let v92 : BitVec 32 := Scalar.andi v88 c15_i32_86
  let v93 : BitVec 32 := Scalar.shli c1_i32_87 v92
  let c0_i32_88 : BitVec 32 := 0#32
  let v94 : BitVec 32 := Scalar.select v91 v93 c0_i32_88
  let v95 : BitVec 32 := Scalar.ori v87 v94
  let c0_i32_92 : BitVec 32 := 0#32
  let v97 : BitVec 1 := Scalar.cmpi .sge v96 c0_i32_92
  let c16_i32_93 : BitVec 32 := 16#32
  let v98 : BitVec 1 := Scalar.cmpi .slt v96 c16_i32_93
  let v99 : BitVec 1 := Scalar.andi v97 v98
  let c1_i32_95 : BitVec 32 := 1#32
  let c15_i32_94 : BitVec 32 := 15#32
  let v100 : BitVec 32 := Scalar.andi v96 c15_i32_94
  let v101 : BitVec 32 := Scalar.shli c1_i32_95 v100
  let c0_i32_96 : BitVec 32 := 0#32
  let v102 : BitVec 32 := Scalar.select v99 v101 c0_i32_96
  let v103 : BitVec 32 := Scalar.ori v95 v102
  let c0_i32_100 : BitVec 32 := 0#32
  let v105 : BitVec 1 := Scalar.cmpi .sge v104 c0_i32_100
  let c16_i32_101 : BitVec 32 := 16#32
  let v106 : BitVec 1 := Scalar.cmpi .slt v104 c16_i32_101
  let v107 : BitVec 1 := Scalar.andi v105 v106
  let c1_i32_103 : BitVec 32 := 1#32
  let c15_i32_102 : BitVec 32 := 15#32
  let v108 : BitVec 32 := Scalar.andi v104 c15_i32_102
  let v109 : BitVec 32 := Scalar.shli c1_i32_103 v108
  let c0_i32_104 : BitVec 32 := 0#32
  let v110 : BitVec 32 := Scalar.select v107 v109 c0_i32_104
  let v111 : BitVec 32 := Scalar.ori v103 v110
  let c0_i32_108 : BitVec 32 := 0#32
  let v113 : BitVec 1 := Scalar.cmpi .sge v112 c0_i32_108
  let c16_i32_109 : BitVec 32 := 16#32
  let v114 : BitVec 1 := Scalar.cmpi .slt v112 c16_i32_109
  let v115 : BitVec 1 := Scalar.andi v113 v114
  let c1_i32_111 : BitVec 32 := 1#32
  let c15_i32_110 : BitVec 32 := 15#32
  let v116 : BitVec 32 := Scalar.andi v112 c15_i32_110
  let v117 : BitVec 32 := Scalar.shli c1_i32_111 v116
  let c0_i32_112 : BitVec 32 := 0#32
  let v118 : BitVec 32 := Scalar.select v115 v117 c0_i32_112
  let v119 : BitVec 32 := Scalar.ori v111 v118
  let c0_i32_116 : BitVec 32 := 0#32
  let v121 : BitVec 1 := Scalar.cmpi .sge v120 c0_i32_116
  let c16_i32_117 : BitVec 32 := 16#32
  let v122 : BitVec 1 := Scalar.cmpi .slt v120 c16_i32_117
  let v123 : BitVec 1 := Scalar.andi v121 v122
  let c1_i32_119 : BitVec 32 := 1#32
  let c15_i32_118 : BitVec 32 := 15#32
  let v124 : BitVec 32 := Scalar.andi v120 c15_i32_118
  let v125 : BitVec 32 := Scalar.shli c1_i32_119 v124
  let c0_i32_120 : BitVec 32 := 0#32
  let v126 : BitVec 32 := Scalar.select v123 v125 c0_i32_120
  let v127 : BitVec 32 := Scalar.ori v119 v126
  let c0_i32_124 : BitVec 32 := 0#32
  let v129 : BitVec 1 := Scalar.cmpi .sge v128 c0_i32_124
  let c16_i32_125 : BitVec 32 := 16#32
  let v130 : BitVec 1 := Scalar.cmpi .slt v128 c16_i32_125
  let v131 : BitVec 1 := Scalar.andi v129 v130
  let c1_i32_127 : BitVec 32 := 1#32
  let c15_i32_126 : BitVec 32 := 15#32
  let v132 : BitVec 32 := Scalar.andi v128 c15_i32_126
  let v133 : BitVec 32 := Scalar.shli c1_i32_127 v132
  let c0_i32_128 : BitVec 32 := 0#32
  let v134 : BitVec 32 := Scalar.select v131 v133 c0_i32_128
  let v135 : BitVec 32 := Scalar.ori v127 v134
  let c0_i32_132 : BitVec 32 := 0#32
  let v137 : BitVec 1 := Scalar.cmpi .sge v136 c0_i32_132
  let c16_i32_133 : BitVec 32 := 16#32
  let v138 : BitVec 1 := Scalar.cmpi .slt v136 c16_i32_133
  let v139 : BitVec 1 := Scalar.andi v137 v138
  let c1_i32_135 : BitVec 32 := 1#32
  let c15_i32_134 : BitVec 32 := 15#32
  let v140 : BitVec 32 := Scalar.andi v136 c15_i32_134
  let v141 : BitVec 32 := Scalar.shli c1_i32_135 v140
  let c0_i32_136 : BitVec 32 := 0#32
  let v142 : BitVec 32 := Scalar.select v139 v141 c0_i32_136
  let v143 : BitVec 32 := Scalar.ori v135 v142
  let c0_i32_140 : BitVec 32 := 0#32
  let v145 : BitVec 1 := Scalar.cmpi .sge v144 c0_i32_140
  let c16_i32_141 : BitVec 32 := 16#32
  let v146 : BitVec 1 := Scalar.cmpi .slt v144 c16_i32_141
  let v147 : BitVec 1 := Scalar.andi v145 v146
  let c1_i32_143 : BitVec 32 := 1#32
  let c15_i32_142 : BitVec 32 := 15#32
  let v148 : BitVec 32 := Scalar.andi v144 c15_i32_142
  let v149 : BitVec 32 := Scalar.shli c1_i32_143 v148
  let c0_i32_144 : BitVec 32 := 0#32
  let v150 : BitVec 32 := Scalar.select v147 v149 c0_i32_144
  let v151 : BitVec 32 := Scalar.ori v143 v150
  let c0_i32_148 : BitVec 32 := 0#32
  let v153 : BitVec 1 := Scalar.cmpi .sge v152 c0_i32_148
  let c16_i32_149 : BitVec 32 := 16#32
  let v154 : BitVec 1 := Scalar.cmpi .slt v152 c16_i32_149
  let v155 : BitVec 1 := Scalar.andi v153 v154
  let c1_i32_151 : BitVec 32 := 1#32
  let c15_i32_150 : BitVec 32 := 15#32
  let v156 : BitVec 32 := Scalar.andi v152 c15_i32_150
  let v157 : BitVec 32 := Scalar.shli c1_i32_151 v156
  let c0_i32_152 : BitVec 32 := 0#32
  let v158 : BitVec 32 := Scalar.select v155 v157 c0_i32_152
  let v159 : BitVec 32 := Scalar.ori v151 v158
  let c0_i32_156 : BitVec 32 := 0#32
  let v161 : BitVec 1 := Scalar.cmpi .sge v160 c0_i32_156
  let c16_i32_157 : BitVec 32 := 16#32
  let v162 : BitVec 1 := Scalar.cmpi .slt v160 c16_i32_157
  let v163 : BitVec 1 := Scalar.andi v161 v162
  let c1_i32_159 : BitVec 32 := 1#32
  let c15_i32_158 : BitVec 32 := 15#32
  let v164 : BitVec 32 := Scalar.andi v160 c15_i32_158
  let v165 : BitVec 32 := Scalar.shli c1_i32_159 v164
  let c0_i32_160 : BitVec 32 := 0#32
  let v166 : BitVec 32 := Scalar.select v163 v165 c0_i32_160
  let v167 : BitVec 32 := Scalar.ori v159 v166
  let c0_i32_164 : BitVec 32 := 0#32
  let v169 : BitVec 1 := Scalar.cmpi .sge v168 c0_i32_164
  let c16_i32_165 : BitVec 32 := 16#32
  let v170 : BitVec 1 := Scalar.cmpi .slt v168 c16_i32_165
  let v171 : BitVec 1 := Scalar.andi v169 v170
  let c1_i32_167 : BitVec 32 := 1#32
  let c15_i32_166 : BitVec 32 := 15#32
  let v172 : BitVec 32 := Scalar.andi v168 c15_i32_166
  let v173 : BitVec 32 := Scalar.shli c1_i32_167 v172
  let c0_i32_168 : BitVec 32 := 0#32
  let v174 : BitVec 32 := Scalar.select v171 v173 c0_i32_168
  let v175 : BitVec 32 := Scalar.ori v167 v174
  let c0_i32_172 : BitVec 32 := 0#32
  let v177 : BitVec 1 := Scalar.cmpi .sge v176 c0_i32_172
  let c16_i32_173 : BitVec 32 := 16#32
  let v178 : BitVec 1 := Scalar.cmpi .slt v176 c16_i32_173
  let v179 : BitVec 1 := Scalar.andi v177 v178
  let c1_i32_175 : BitVec 32 := 1#32
  let c15_i32_174 : BitVec 32 := 15#32
  let v180 : BitVec 32 := Scalar.andi v176 c15_i32_174
  let v181 : BitVec 32 := Scalar.shli c1_i32_175 v180
  let c0_i32_176 : BitVec 32 := 0#32
  let v182 : BitVec 32 := Scalar.select v179 v181 c0_i32_176
  let v183 : BitVec 32 := Scalar.ori v175 v182
  let c0_i32_180 : BitVec 32 := 0#32
  let v185 : BitVec 1 := Scalar.cmpi .sge v184 c0_i32_180
  let c16_i32_181 : BitVec 32 := 16#32
  let v186 : BitVec 1 := Scalar.cmpi .slt v184 c16_i32_181
  let v187 : BitVec 1 := Scalar.andi v185 v186
  let c1_i32_183 : BitVec 32 := 1#32
  let c15_i32_182 : BitVec 32 := 15#32
  let v188 : BitVec 32 := Scalar.andi v184 c15_i32_182
  let v189 : BitVec 32 := Scalar.shli c1_i32_183 v188
  let c0_i32_184 : BitVec 32 := 0#32
  let v190 : BitVec 32 := Scalar.select v187 v189 c0_i32_184
  let v191 : BitVec 32 := Scalar.ori v183 v190
  let c0_i32_188 : BitVec 32 := 0#32
  let v193 : BitVec 1 := Scalar.cmpi .sge v192 c0_i32_188
  let c16_i32_189 : BitVec 32 := 16#32
  let v194 : BitVec 1 := Scalar.cmpi .slt v192 c16_i32_189
  let v195 : BitVec 1 := Scalar.andi v193 v194
  let c1_i32_191 : BitVec 32 := 1#32
  let c15_i32_190 : BitVec 32 := 15#32
  let v196 : BitVec 32 := Scalar.andi v192 c15_i32_190
  let v197 : BitVec 32 := Scalar.shli c1_i32_191 v196
  let c0_i32_192 : BitVec 32 := 0#32
  let v198 : BitVec 32 := Scalar.select v195 v197 c0_i32_192
  let v199 : BitVec 32 := Scalar.ori v191 v198
  let c0_i32_196 : BitVec 32 := 0#32
  let v201 : BitVec 1 := Scalar.cmpi .sge v200 c0_i32_196
  let c16_i32_197 : BitVec 32 := 16#32
  let v202 : BitVec 1 := Scalar.cmpi .slt v200 c16_i32_197
  let v203 : BitVec 1 := Scalar.andi v201 v202
  let c1_i32_199 : BitVec 32 := 1#32
  let c15_i32_198 : BitVec 32 := 15#32
  let v204 : BitVec 32 := Scalar.andi v200 c15_i32_198
  let v205 : BitVec 32 := Scalar.shli c1_i32_199 v204
  let c0_i32_200 : BitVec 32 := 0#32
  let v206 : BitVec 32 := Scalar.select v203 v205 c0_i32_200
  let v207 : BitVec 32 := Scalar.ori v199 v206
  let c0_i32_204 : BitVec 32 := 0#32
  let v209 : BitVec 1 := Scalar.cmpi .sge v208 c0_i32_204
  let c16_i32_205 : BitVec 32 := 16#32
  let v210 : BitVec 1 := Scalar.cmpi .slt v208 c16_i32_205
  let v211 : BitVec 1 := Scalar.andi v209 v210
  let c1_i32_207 : BitVec 32 := 1#32
  let c15_i32_206 : BitVec 32 := 15#32
  let v212 : BitVec 32 := Scalar.andi v208 c15_i32_206
  let v213 : BitVec 32 := Scalar.shli c1_i32_207 v212
  let c0_i32_208 : BitVec 32 := 0#32
  let v214 : BitVec 32 := Scalar.select v211 v213 c0_i32_208
  let v215 : BitVec 32 := Scalar.ori v207 v214
  let c0_i32_212 : BitVec 32 := 0#32
  let v217 : BitVec 1 := Scalar.cmpi .sge v216 c0_i32_212
  let c16_i32_213 : BitVec 32 := 16#32
  let v218 : BitVec 1 := Scalar.cmpi .slt v216 c16_i32_213
  let v219 : BitVec 1 := Scalar.andi v217 v218
  let c1_i32_215 : BitVec 32 := 1#32
  let c15_i32_214 : BitVec 32 := 15#32
  let v220 : BitVec 32 := Scalar.andi v216 c15_i32_214
  let v221 : BitVec 32 := Scalar.shli c1_i32_215 v220
  let c0_i32_216 : BitVec 32 := 0#32
  let v222 : BitVec 32 := Scalar.select v219 v221 c0_i32_216
  let v223 : BitVec 32 := Scalar.ori v215 v222
  let c0_i32_220 : BitVec 32 := 0#32
  let v225 : BitVec 1 := Scalar.cmpi .sge v224 c0_i32_220
  let c16_i32_221 : BitVec 32 := 16#32
  let v226 : BitVec 1 := Scalar.cmpi .slt v224 c16_i32_221
  let v227 : BitVec 1 := Scalar.andi v225 v226
  let c1_i32_223 : BitVec 32 := 1#32
  let c15_i32_222 : BitVec 32 := 15#32
  let v228 : BitVec 32 := Scalar.andi v224 c15_i32_222
  let v229 : BitVec 32 := Scalar.shli c1_i32_223 v228
  let c0_i32_224 : BitVec 32 := 0#32
  let v230 : BitVec 32 := Scalar.select v227 v229 c0_i32_224
  let v231 : BitVec 32 := Scalar.ori v223 v230
  let c0_i32_228 : BitVec 32 := 0#32
  let v233 : BitVec 1 := Scalar.cmpi .sge v232 c0_i32_228
  let c16_i32_229 : BitVec 32 := 16#32
  let v234 : BitVec 1 := Scalar.cmpi .slt v232 c16_i32_229
  let v235 : BitVec 1 := Scalar.andi v233 v234
  let c1_i32_231 : BitVec 32 := 1#32
  let c15_i32_230 : BitVec 32 := 15#32
  let v236 : BitVec 32 := Scalar.andi v232 c15_i32_230
  let v237 : BitVec 32 := Scalar.shli c1_i32_231 v236
  let c0_i32_232 : BitVec 32 := 0#32
  let v238 : BitVec 32 := Scalar.select v235 v237 c0_i32_232
  let v239 : BitVec 32 := Scalar.ori v231 v238
  let c0_i32_236 : BitVec 32 := 0#32
  let v241 : BitVec 1 := Scalar.cmpi .sge v240 c0_i32_236
  let c16_i32_237 : BitVec 32 := 16#32
  let v242 : BitVec 1 := Scalar.cmpi .slt v240 c16_i32_237
  let v243 : BitVec 1 := Scalar.andi v241 v242
  let c1_i32_239 : BitVec 32 := 1#32
  let c15_i32_238 : BitVec 32 := 15#32
  let v244 : BitVec 32 := Scalar.andi v240 c15_i32_238
  let v245 : BitVec 32 := Scalar.shli c1_i32_239 v244
  let c0_i32_240 : BitVec 32 := 0#32
  let v246 : BitVec 32 := Scalar.select v243 v245 c0_i32_240
  let v247 : BitVec 32 := Scalar.ori v239 v246
  let c0_i32_244 : BitVec 32 := 0#32
  let v249 : BitVec 1 := Scalar.cmpi .sge v248 c0_i32_244
  let c16_i32_245 : BitVec 32 := 16#32
  let v250 : BitVec 1 := Scalar.cmpi .slt v248 c16_i32_245
  let v251 : BitVec 1 := Scalar.andi v249 v250
  let c1_i32_247 : BitVec 32 := 1#32
  let c15_i32_246 : BitVec 32 := 15#32
  let v252 : BitVec 32 := Scalar.andi v248 c15_i32_246
  let v253 : BitVec 32 := Scalar.shli c1_i32_247 v252
  let c0_i32_248 : BitVec 32 := 0#32
  let v254 : BitVec 32 := Scalar.select v251 v253 c0_i32_248
  let v255 : BitVec 32 := Scalar.ori v247 v254
  let c0_i32_252 : BitVec 32 := 0#32
  let v257 : BitVec 1 := Scalar.cmpi .sge v256 c0_i32_252
  let c16_i32_253 : BitVec 32 := 16#32
  let v258 : BitVec 1 := Scalar.cmpi .slt v256 c16_i32_253
  let v259 : BitVec 1 := Scalar.andi v257 v258
  let c1_i32_255 : BitVec 32 := 1#32
  let c15_i32_254 : BitVec 32 := 15#32
  let v260 : BitVec 32 := Scalar.andi v256 c15_i32_254
  let v261 : BitVec 32 := Scalar.shli c1_i32_255 v260
  let c0_i32_256 : BitVec 32 := 0#32
  let v262 : BitVec 32 := Scalar.select v259 v261 c0_i32_256
  let v263 : BitVec 32 := Scalar.ori v255 v262
  let c0_i32_260 : BitVec 32 := 0#32
  let v265 : BitVec 1 := Scalar.cmpi .sge v264 c0_i32_260
  let c16_i32_261 : BitVec 32 := 16#32
  let v266 : BitVec 1 := Scalar.cmpi .slt v264 c16_i32_261
  let v267 : BitVec 1 := Scalar.andi v265 v266
  let c1_i32_263 : BitVec 32 := 1#32
  let c15_i32_262 : BitVec 32 := 15#32
  let v268 : BitVec 32 := Scalar.andi v264 c15_i32_262
  let v269 : BitVec 32 := Scalar.shli c1_i32_263 v268
  let c0_i32_264 : BitVec 32 := 0#32
  let v270 : BitVec 32 := Scalar.select v267 v269 c0_i32_264
  let v271 : BitVec 32 := Scalar.ori v263 v270
  let c0_i32_268 : BitVec 32 := 0#32
  let v273 : BitVec 1 := Scalar.cmpi .sge v272 c0_i32_268
  let c16_i32_269 : BitVec 32 := 16#32
  let v274 : BitVec 1 := Scalar.cmpi .slt v272 c16_i32_269
  let v275 : BitVec 1 := Scalar.andi v273 v274
  let c1_i32_271 : BitVec 32 := 1#32
  let c15_i32_270 : BitVec 32 := 15#32
  let v276 : BitVec 32 := Scalar.andi v272 c15_i32_270
  let v277 : BitVec 32 := Scalar.shli c1_i32_271 v276
  let c0_i32_272 : BitVec 32 := 0#32
  let v278 : BitVec 32 := Scalar.select v275 v277 c0_i32_272
  let v279 : BitVec 32 := Scalar.ori v271 v278
  let c0_i32_276 : BitVec 32 := 0#32
  let v281 : BitVec 1 := Scalar.cmpi .sge v280 c0_i32_276
  let c16_i32_277 : BitVec 32 := 16#32
  let v282 : BitVec 1 := Scalar.cmpi .slt v280 c16_i32_277
  let v283 : BitVec 1 := Scalar.andi v281 v282
  let c1_i32_279 : BitVec 32 := 1#32
  let c15_i32_278 : BitVec 32 := 15#32
  let v284 : BitVec 32 := Scalar.andi v280 c15_i32_278
  let v285 : BitVec 32 := Scalar.shli c1_i32_279 v284
  let c0_i32_280 : BitVec 32 := 0#32
  let v286 : BitVec 32 := Scalar.select v283 v285 c0_i32_280
  let v287 : BitVec 32 := Scalar.ori v279 v286
  let c0_i32_284 : BitVec 32 := 0#32
  let v289 : BitVec 1 := Scalar.cmpi .sge v288 c0_i32_284
  let c16_i32_285 : BitVec 32 := 16#32
  let v290 : BitVec 1 := Scalar.cmpi .slt v288 c16_i32_285
  let v291 : BitVec 1 := Scalar.andi v289 v290
  let c1_i32_287 : BitVec 32 := 1#32
  let c15_i32_286 : BitVec 32 := 15#32
  let v292 : BitVec 32 := Scalar.andi v288 c15_i32_286
  let v293 : BitVec 32 := Scalar.shli c1_i32_287 v292
  let c0_i32_288 : BitVec 32 := 0#32
  let v294 : BitVec 32 := Scalar.select v291 v293 c0_i32_288
  let v295 : BitVec 32 := Scalar.ori v287 v294
  let c0_i32_291 : BitVec 32 := 0#32
  let v297 : BitVec 1 := Scalar.cmpi .sge v296 c0_i32_291
  let c16_i32_292 : BitVec 32 := 16#32
  let v298 : BitVec 1 := Scalar.cmpi .slt v296 c16_i32_292
  let v299 : BitVec 1 := Scalar.andi v297 v298
  let c1_i32_294 : BitVec 32 := 1#32
  let c15_i32_293 : BitVec 32 := 15#32
  let v300 : BitVec 32 := Scalar.andi v296 c15_i32_293
  let v301 : BitVec 32 := Scalar.shli c1_i32_294 v300
  let c0_i32_295 : BitVec 32 := 0#32
  let v302 : BitVec 32 := Scalar.select v299 v301 c0_i32_295
  let v303 : BitVec 32 := Scalar.ori v295 v302
  let c0_i32_299 : BitVec 32 := 0#32
  let v305 : BitVec 1 := Scalar.cmpi .sge v304 c0_i32_299
  let c16_i32_300 : BitVec 32 := 16#32
  let v306 : BitVec 1 := Scalar.cmpi .slt v304 c16_i32_300
  let v307 : BitVec 1 := Scalar.andi v305 v306
  let c1_i32_302 : BitVec 32 := 1#32
  let c15_i32_301 : BitVec 32 := 15#32
  let v308 : BitVec 32 := Scalar.andi v304 c15_i32_301
  let v309 : BitVec 32 := Scalar.shli c1_i32_302 v308
  let c0_i32_303 : BitVec 32 := 0#32
  let v310 : BitVec 32 := Scalar.select v307 v309 c0_i32_303
  let v311 : BitVec 32 := Scalar.ori v303 v310
  let c0_i32_307 : BitVec 32 := 0#32
  let v313 : BitVec 1 := Scalar.cmpi .sge v312 c0_i32_307
  let c16_i32_308 : BitVec 32 := 16#32
  let v314 : BitVec 1 := Scalar.cmpi .slt v312 c16_i32_308
  let v315 : BitVec 1 := Scalar.andi v313 v314
  let c1_i32_310 : BitVec 32 := 1#32
  let c15_i32_309 : BitVec 32 := 15#32
  let v316 : BitVec 32 := Scalar.andi v312 c15_i32_309
  let v317 : BitVec 32 := Scalar.shli c1_i32_310 v316
  let c0_i32_311 : BitVec 32 := 0#32
  let v318 : BitVec 32 := Scalar.select v315 v317 c0_i32_311
  let v319 : BitVec 32 := Scalar.ori v311 v318
  let c0_i32_315 : BitVec 32 := 0#32
  let v321 : BitVec 1 := Scalar.cmpi .sge v320 c0_i32_315
  let c16_i32_316 : BitVec 32 := 16#32
  let v322 : BitVec 1 := Scalar.cmpi .slt v320 c16_i32_316
  let v323 : BitVec 1 := Scalar.andi v321 v322
  let c1_i32_318 : BitVec 32 := 1#32
  let c15_i32_317 : BitVec 32 := 15#32
  let v324 : BitVec 32 := Scalar.andi v320 c15_i32_317
  let v325 : BitVec 32 := Scalar.shli c1_i32_318 v324
  let c0_i32_319 : BitVec 32 := 0#32
  let v326 : BitVec 32 := Scalar.select v323 v325 c0_i32_319
  let v327 : BitVec 32 := Scalar.ori v319 v326
  let c0_i32_323 : BitVec 32 := 0#32
  let v329 : BitVec 1 := Scalar.cmpi .sge v328 c0_i32_323
  let c16_i32_324 : BitVec 32 := 16#32
  let v330 : BitVec 1 := Scalar.cmpi .slt v328 c16_i32_324
  let v331 : BitVec 1 := Scalar.andi v329 v330
  let c1_i32_326 : BitVec 32 := 1#32
  let c15_i32_325 : BitVec 32 := 15#32
  let v332 : BitVec 32 := Scalar.andi v328 c15_i32_325
  let v333 : BitVec 32 := Scalar.shli c1_i32_326 v332
  let c0_i32_327 : BitVec 32 := 0#32
  let v334 : BitVec 32 := Scalar.select v331 v333 c0_i32_327
  let v335 : BitVec 32 := Scalar.ori v327 v334
  let c0_i32_331 : BitVec 32 := 0#32
  let v337 : BitVec 1 := Scalar.cmpi .sge v336 c0_i32_331
  let c16_i32_332 : BitVec 32 := 16#32
  let v338 : BitVec 1 := Scalar.cmpi .slt v336 c16_i32_332
  let v339 : BitVec 1 := Scalar.andi v337 v338
  let c1_i32_334 : BitVec 32 := 1#32
  let c15_i32_333 : BitVec 32 := 15#32
  let v340 : BitVec 32 := Scalar.andi v336 c15_i32_333
  let v341 : BitVec 32 := Scalar.shli c1_i32_334 v340
  let c0_i32_335 : BitVec 32 := 0#32
  let v342 : BitVec 32 := Scalar.select v339 v341 c0_i32_335
  let v343 : BitVec 32 := Scalar.ori v335 v342
  let c0_i32_338 : BitVec 32 := 0#32
  let v345 : BitVec 1 := Scalar.cmpi .sge v344 c0_i32_338
  let c16_i32_339 : BitVec 32 := 16#32
  let v346 : BitVec 1 := Scalar.cmpi .slt v344 c16_i32_339
  let v347 : BitVec 1 := Scalar.andi v345 v346
  let c1_i32_341 : BitVec 32 := 1#32
  let c15_i32_340 : BitVec 32 := 15#32
  let v348 : BitVec 32 := Scalar.andi v344 c15_i32_340
  let v349 : BitVec 32 := Scalar.shli c1_i32_341 v348
  let c0_i32_342 : BitVec 32 := 0#32
  let v350 : BitVec 32 := Scalar.select v347 v349 c0_i32_342
  let v351 : BitVec 32 := Scalar.ori v343 v350
  let c0_i32_346 : BitVec 32 := 0#32
  let v353 : BitVec 1 := Scalar.cmpi .sge v352 c0_i32_346
  let c16_i32_347 : BitVec 32 := 16#32
  let v354 : BitVec 1 := Scalar.cmpi .slt v352 c16_i32_347
  let v355 : BitVec 1 := Scalar.andi v353 v354
  let c1_i32_349 : BitVec 32 := 1#32
  let c15_i32_348 : BitVec 32 := 15#32
  let v356 : BitVec 32 := Scalar.andi v352 c15_i32_348
  let v357 : BitVec 32 := Scalar.shli c1_i32_349 v356
  let c0_i32_350 : BitVec 32 := 0#32
  let v358 : BitVec 32 := Scalar.select v355 v357 c0_i32_350
  let v359 : BitVec 32 := Scalar.ori v351 v358
  let c0_i32_354 : BitVec 32 := 0#32
  let v361 : BitVec 1 := Scalar.cmpi .sge v360 c0_i32_354
  let c16_i32_355 : BitVec 32 := 16#32
  let v362 : BitVec 1 := Scalar.cmpi .slt v360 c16_i32_355
  let v363 : BitVec 1 := Scalar.andi v361 v362
  let c1_i32_357 : BitVec 32 := 1#32
  let c15_i32_356 : BitVec 32 := 15#32
  let v364 : BitVec 32 := Scalar.andi v360 c15_i32_356
  let v365 : BitVec 32 := Scalar.shli c1_i32_357 v364
  let c0_i32_358 : BitVec 32 := 0#32
  let v366 : BitVec 32 := Scalar.select v363 v365 c0_i32_358
  let v367 : BitVec 32 := Scalar.ori v359 v366
  let c0_i32_362 : BitVec 32 := 0#32
  let v369 : BitVec 1 := Scalar.cmpi .sge v368 c0_i32_362
  let c16_i32_363 : BitVec 32 := 16#32
  let v370 : BitVec 1 := Scalar.cmpi .slt v368 c16_i32_363
  let v371 : BitVec 1 := Scalar.andi v369 v370
  let c1_i32_365 : BitVec 32 := 1#32
  let c15_i32_364 : BitVec 32 := 15#32
  let v372 : BitVec 32 := Scalar.andi v368 c15_i32_364
  let v373 : BitVec 32 := Scalar.shli c1_i32_365 v372
  let c0_i32_366 : BitVec 32 := 0#32
  let v374 : BitVec 32 := Scalar.select v371 v373 c0_i32_366
  let v375 : BitVec 32 := Scalar.ori v367 v374
  let c0_i32_370 : BitVec 32 := 0#32
  let v377 : BitVec 1 := Scalar.cmpi .sge v376 c0_i32_370
  let c16_i32_371 : BitVec 32 := 16#32
  let v378 : BitVec 1 := Scalar.cmpi .slt v376 c16_i32_371
  let v379 : BitVec 1 := Scalar.andi v377 v378
  let c1_i32_373 : BitVec 32 := 1#32
  let c15_i32_372 : BitVec 32 := 15#32
  let v380 : BitVec 32 := Scalar.andi v376 c15_i32_372
  let v381 : BitVec 32 := Scalar.shli c1_i32_373 v380
  let c0_i32_374 : BitVec 32 := 0#32
  let v382 : BitVec 32 := Scalar.select v379 v381 c0_i32_374
  let v383 : BitVec 32 := Scalar.ori v375 v382
  let c0_i32_378 : BitVec 32 := 0#32
  let v385 : BitVec 1 := Scalar.cmpi .sge v384 c0_i32_378
  let c16_i32_379 : BitVec 32 := 16#32
  let v386 : BitVec 1 := Scalar.cmpi .slt v384 c16_i32_379
  let v387 : BitVec 1 := Scalar.andi v385 v386
  let c1_i32_381 : BitVec 32 := 1#32
  let c15_i32_380 : BitVec 32 := 15#32
  let v388 : BitVec 32 := Scalar.andi v384 c15_i32_380
  let v389 : BitVec 32 := Scalar.shli c1_i32_381 v388
  let c0_i32_382 : BitVec 32 := 0#32
  let v390 : BitVec 32 := Scalar.select v387 v389 c0_i32_382
  let v391 : BitVec 32 := Scalar.ori v383 v390
  let c0_i32_385 : BitVec 32 := 0#32
  let v393 : BitVec 32 := Scalar.shrsi v391 c0_i32_385
  let c1_i32_386 : BitVec 32 := 1#32
  let v394 : BitVec 32 := Scalar.andi v393 c1_i32_386
  let v395 : BitVec 32 := Scalar.addi c0_i32_387 v394
  let c1_i32_389 : BitVec 32 := 1#32
  let v398 : BitVec 32 := Scalar.shrsi v391 c1_i32_389
  let c1_i32_390 : BitVec 32 := 1#32
  let v399 : BitVec 32 := Scalar.andi v398 c1_i32_390
  let v400 : BitVec 32 := Scalar.addi v395 v399
  let c2_i32_391 : BitVec 32 := 2#32
  let v403 : BitVec 32 := Scalar.shrsi v391 c2_i32_391
  let c1_i32_392 : BitVec 32 := 1#32
  let v404 : BitVec 32 := Scalar.andi v403 c1_i32_392
  let v405 : BitVec 32 := Scalar.addi v400 v404
  let c3_i32_393 : BitVec 32 := 3#32
  let v408 : BitVec 32 := Scalar.shrsi v391 c3_i32_393
  let c1_i32_394 : BitVec 32 := 1#32
  let v409 : BitVec 32 := Scalar.andi v408 c1_i32_394
  let v410 : BitVec 32 := Scalar.addi v405 v409
  let c4_i32_395 : BitVec 32 := 4#32
  let v413 : BitVec 32 := Scalar.shrsi v391 c4_i32_395
  let c1_i32_396 : BitVec 32 := 1#32
  let v414 : BitVec 32 := Scalar.andi v413 c1_i32_396
  let v415 : BitVec 32 := Scalar.addi v410 v414
  let c5_i32_397 : BitVec 32 := 5#32
  let v418 : BitVec 32 := Scalar.shrsi v391 c5_i32_397
  let c1_i32_398 : BitVec 32 := 1#32
  let v419 : BitVec 32 := Scalar.andi v418 c1_i32_398
  let v420 : BitVec 32 := Scalar.addi v415 v419
  let c6_i32_399 : BitVec 32 := 6#32
  let v423 : BitVec 32 := Scalar.shrsi v391 c6_i32_399
  let c1_i32_400 : BitVec 32 := 1#32
  let v424 : BitVec 32 := Scalar.andi v423 c1_i32_400
  let v425 : BitVec 32 := Scalar.addi v420 v424
  let c7_i32_401 : BitVec 32 := 7#32
  let v428 : BitVec 32 := Scalar.shrsi v391 c7_i32_401
  let c1_i32_402 : BitVec 32 := 1#32
  let v429 : BitVec 32 := Scalar.andi v428 c1_i32_402
  let v430 : BitVec 32 := Scalar.addi v425 v429
  let c8_i32_403 : BitVec 32 := 8#32
  let v433 : BitVec 32 := Scalar.shrsi v391 c8_i32_403
  let c1_i32_404 : BitVec 32 := 1#32
  let v434 : BitVec 32 := Scalar.andi v433 c1_i32_404
  let v435 : BitVec 32 := Scalar.addi v430 v434
  let c9_i32_405 : BitVec 32 := 9#32
  let v438 : BitVec 32 := Scalar.shrsi v391 c9_i32_405
  let c1_i32_406 : BitVec 32 := 1#32
  let v439 : BitVec 32 := Scalar.andi v438 c1_i32_406
  let v440 : BitVec 32 := Scalar.addi v435 v439
  let c10_i32_407 : BitVec 32 := 10#32
  let v443 : BitVec 32 := Scalar.shrsi v391 c10_i32_407
  let c1_i32_408 : BitVec 32 := 1#32
  let v444 : BitVec 32 := Scalar.andi v443 c1_i32_408
  let v445 : BitVec 32 := Scalar.addi v440 v444
  let c11_i32_409 : BitVec 32 := 11#32
  let v448 : BitVec 32 := Scalar.shrsi v391 c11_i32_409
  let c1_i32_410 : BitVec 32 := 1#32
  let v449 : BitVec 32 := Scalar.andi v448 c1_i32_410
  let v450 : BitVec 32 := Scalar.addi v445 v449
  let c12_i32_411 : BitVec 32 := 12#32
  let v453 : BitVec 32 := Scalar.shrsi v391 c12_i32_411
  let c1_i32_412 : BitVec 32 := 1#32
  let v454 : BitVec 32 := Scalar.andi v453 c1_i32_412
  let v455 : BitVec 32 := Scalar.addi v450 v454
  let c13_i32_413 : BitVec 32 := 13#32
  let v458 : BitVec 32 := Scalar.shrsi v391 c13_i32_413
  let c1_i32_414 : BitVec 32 := 1#32
  let v459 : BitVec 32 := Scalar.andi v458 c1_i32_414
  let v460 : BitVec 32 := Scalar.addi v455 v459
  let c14_i32_415 : BitVec 32 := 14#32
  let v463 : BitVec 32 := Scalar.shrsi v391 c14_i32_415
  let c1_i32_416 : BitVec 32 := 1#32
  let v464 : BitVec 32 := Scalar.andi v463 c1_i32_416
  let v465 : BitVec 32 := Scalar.addi v460 v464
  let c15_i32_418 : BitVec 32 := 15#32
  let v468 : BitVec 32 := Scalar.shrsi v391 c15_i32_418
  let c1_i32_419 : BitVec 32 := 1#32
  let v469 : BitVec 32 := Scalar.andi v468 c1_i32_419
  let v470 : BitVec 32 := Scalar.addi v465 v469
  let c1_i32_471 : BitVec 32 := 1#32
  let v584 : BitVec 32 := Scalar.addi v470 c1_i32_471
  let c1_i32_472 : BitVec 32 := 1#32
  let v585 : BitVec 32 := Scalar.subi v584 c1_i32_472
  let c1_i32_473 : BitVec 32 := 1#32
  let c1_i32_474 : BitVec 32 := 1#32
  let v586 : BitVec 32 := Scalar.subi c1_i32_473 c1_i32_474
  let v587 : BitVec 32 := Scalar.addi v585 v586
  let c1_i32_475 : BitVec 32 := 1#32
  let v588 : BitVec 32 := Scalar.divsi v587 c1_i32_475
  let v589 : BitVec 32 := Scalar.subi v588 c0_i32_478
  let c1_i32_479 : BitVec 32 := 1#32
  let v591 : BitVec 32 := Scalar.divsi v589 c1_i32_479
  let v592 : BitVec 32 := Scalar.muli v591 c1_i32_479
  let v593 : BitVec 32 := Scalar.addi c0_i32_478 v592
  let c1_i32_481 : BitVec 32 := 1#32
  let arg19 : BitVec 32 := Scf.iv v593 c1_i32_481 k0_t2
  let c1_i32_476 : BitVec 32 := 1#32
  let v598 : BitVec 32 := Scalar.muli arg19 c1_i32_476
  let v599 : BitVec 32 := Scalar.addi c1_i32_477 v598
  let c2_i32_505 : BitVec 32 := 2#32
  let v629 : BitVec 32 := Scalar.remsi v599 c2_i32_505
  let v656 : Index := Scalar.indexCast v629
  let c0_517 : Index := 0#32
  let c0_518 : Index := 0#32
  ![v656.toNat, 0, 0]

def k0_chk1_0 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Prop :=
  (∀ a, (k0_off1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off4 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off7 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off8 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off9 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off10 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off11 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off13 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off14 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  (∀ a, (k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a) ∧
  ((k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ (hinb : ∀ a, (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a), (Rect.unit (s := S2x2816x2816) (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x2816.size hinb).WholeWords (EltTy.packing .i8)) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ (hinb : ∀ a, (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a), (Rect.unit (s := S2x2816x1408) (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x1408.size hinb).WholeWords (EltTy.packing .i8)) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (hinb : ∀ a, (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a), (Rect.unit (s := S2x2816x2816) (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x2816.size hinb).WholeWords (EltTy.packing .i8)) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (hinb : ∀ a, (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a), (Rect.unit (s := S2x2816x1408) (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x1408.size hinb).WholeWords (EltTy.packing .i8)) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1408x2816.size a ≤ S2x2816x2816.size a)
def k0_chk1_1 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Prop :=
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1408x2816.size a ≤ S2x2816x2816.size a) ∧
  (∀ k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a) ∧
  ((k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off41 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off42 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off43 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ (hinb : ∀ a, (k0_off43 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a), (Rect.unit (s := S2x2816x2816) (k0_off43 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x2816.size hinb).WholeWords (EltTy.packing .i8)) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off45 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off46 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ (hinb : ∀ a, (k0_off46 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a), (Rect.unit (s := S2x2816x1408) (k0_off46 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x1408.size hinb).WholeWords (EltTy.packing .i8)) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off48 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off49 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off50 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (hinb : ∀ a, (k0_off50 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a), (Rect.unit (s := S2x2816x2816) (k0_off50 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x2816.size hinb).WholeWords (EltTy.packing .i8)) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off52 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off53 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ (hinb : ∀ a, (k0_off53 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a), (Rect.unit (s := S2x2816x1408) (k0_off53 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x1408.size hinb).WholeWords (EltTy.packing .i8)) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off55 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off57 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1408x2816.size a ≤ S2x2816x2816.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off58 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1408x2816.size a ≤ S2x2816x2816.size a) ∧
  (∀ k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, ∀ a, (k0_off59 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a)
def k0_chk1 (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) : Prop :=
  k0_chk1_0 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 ∧
  k0_chk1_1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
theorem k0_off1_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.1
theorem k0_off2_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.1
theorem k0_off3_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.1
theorem k0_off4_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off4 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.1
theorem k0_off5_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.1
theorem k0_off6_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.1
theorem k0_off7_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off7 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.1
theorem k0_off8_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off8 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.1
theorem k0_off9_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off9 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.1
theorem k0_off10_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off10 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.1
theorem k0_off11_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off11 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.1
theorem k0_off12_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.2.1
theorem k0_off13_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off13 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.2.2.1
theorem k0_off14_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off14 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.2.2.2.1
theorem k0_off15_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), ∀ a, (k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.2.2.2.2.1
theorem k0_t1_ok : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.1.2.2.2.2.2.2.2.2.2.2.2.2.2.2.2.1
theorem k0_off22_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.1 k0_t1 k0_h2
theorem k0_off23_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.1 k0_t1 k0_h2
theorem k0_off24_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.2.1 k0_t1 k0_h2
theorem k0_off24_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), (Rect.unit (s := S2x2816x2816) (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x2816.size (k0_off24_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.2.2.1 k0_t1 k0_h2 (k0_off24_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2)
theorem k0_off26_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.2.2.2.1 k0_t1 k0_h2
theorem k0_off27_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), ∀ a, (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.2.2.2.2.1 k0_t1 k0_h2
theorem k0_off27_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h2 : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1 = 1#1), (Rect.unit (s := S2x2816x1408) (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x1408.size (k0_off27_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2 => k0_hw1.1.2.2.2.2.2.2.2.2.2.2.2.2.2.2.2.2.2.2.2.2.2.2.1 k0_t1 k0_h2 (k0_off27_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 k0_h2)
theorem k0_off29_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.1 k0_t1
theorem k0_off30_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.1 k0_t1
theorem k0_off31_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.1 k0_t1
theorem k0_off31_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), (Rect.unit (s := S2x2816x2816) (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x2816.size (k0_off31_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.1 k0_t1 (k0_off31_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1)
theorem k0_off33_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.2.1 k0_t1
theorem k0_off34_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.2.2.1 k0_t1
theorem k0_off34_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), (Rect.unit (s := S2x2816x1408) (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) S1x2816x1408.size (k0_off34_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.2.2.2.1 k0_t1 (k0_off34_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1)
theorem k0_off36_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.2.2.2.2.1 k0_t1
theorem k0_off38_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1408x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.1.2.2.2.2.2.2.2.2.2.2.2.2.2.2.2.2.2.2.2.2.2.2.2.2.2.2.2.2.2.2.2 k0_t1
theorem k0_off39_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x1408x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.2.1 k0_t1
theorem k0_off40_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t1 : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t1) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t1 => k0_hw1.2.2.1 k0_t1
theorem k0_t2_ok : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 => k0_hw1.2.2.2.1
theorem k0_off41_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off41 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.1 k0_t2 k0_h3
theorem k0_off42_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off42 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.1 k0_t2 k0_h3
theorem k0_off43_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off43 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.2.1 k0_t2 k0_h3
theorem k0_off43_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), (Rect.unit (s := S2x2816x2816) (k0_off43 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x2816.size (k0_off43_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.2.2.1 k0_t2 k0_h3 (k0_off43_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3)
theorem k0_off45_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off45 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.2.2.2.1 k0_t2 k0_h3
theorem k0_off46_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), ∀ a, (k0_off46 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.2.2.2.2.1 k0_t2 k0_h3
theorem k0_off46_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ (k0_h3 : k0_cond3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2 = 1#1), (Rect.unit (s := S2x2816x1408) (k0_off46 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x1408.size (k0_off46_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3 => k0_hw1.2.2.2.2.2.2.2.2.2.2.1 k0_t2 k0_h3 (k0_off46_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 k0_h3)
theorem k0_off48_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off48 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.1 k0_t2
theorem k0_off49_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off49 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.1 k0_t2
theorem k0_off50_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off50 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.1 k0_t2
theorem k0_off50_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), (Rect.unit (s := S2x2816x2816) (k0_off50 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x2816.size (k0_off50_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.1 k0_t2 (k0_off50_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2)
theorem k0_off52_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off52 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1.size a ≤ S2x2.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.1 k0_t2
theorem k0_off53_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off53 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.1 k0_t2
theorem k0_off53_wordsi8 : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), (Rect.unit (s := S2x2816x1408) (k0_off53 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) S1x2816x1408.size (k0_off53_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2)).WholeWords (EltTy.packing .i8) := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.2.1 k0_t2 (k0_off53_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2)
theorem k0_off55_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off55 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1.size a ≤ S16.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.2.2.1 k0_t2
theorem k0_off57_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off57 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1408x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.2.2.2.1 k0_t2
theorem k0_off58_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off58 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x1408x2816.size a ≤ S2x2816x2816.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.2.2.2.2.1 k0_t2
theorem k0_off59_inb : ∀ (v8 : BitVec 32) (v16 : BitVec 32) (v24 : BitVec 32) (v32 : BitVec 32) (v40 : BitVec 32) (v48 : BitVec 32) (v56 : BitVec 32) (v64 : BitVec 32) (v72 : BitVec 32) (v80 : BitVec 32) (v88 : BitVec 32) (v96 : BitVec 32) (v104 : BitVec 32) (v112 : BitVec 32) (v120 : BitVec 32) (v128 : BitVec 32) (v136 : BitVec 32) (v144 : BitVec 32) (v152 : BitVec 32) (v160 : BitVec 32) (v168 : BitVec 32) (v176 : BitVec 32) (v184 : BitVec 32) (v192 : BitVec 32) (v200 : BitVec 32) (v208 : BitVec 32) (v216 : BitVec 32) (v224 : BitVec 32) (v232 : BitVec 32) (v240 : BitVec 32) (v248 : BitVec 32) (v256 : BitVec 32) (v264 : BitVec 32) (v272 : BitVec 32) (v280 : BitVec 32) (v288 : BitVec 32) (v296 : BitVec 32) (v304 : BitVec 32) (v312 : BitVec 32) (v320 : BitVec 32) (v328 : BitVec 32) (v336 : BitVec 32) (v344 : BitVec 32) (v352 : BitVec 32) (v360 : BitVec 32) (v368 : BitVec 32) (v376 : BitVec 32) (v384 : BitVec 32) (k0_hw1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k0_t2 : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips), ∀ a, (k0_off59 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_t2) a + S1x2816x1408.size a ≤ S2x2816x1408.size a := fun v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k0_hw1 k0_t2 => k0_hw1.2.2.2.2.2.2.2.2.2.2.2.2.2.2.2.2.2.2.2.2.2 k0_t2

abbrev stage0_0 : Fin 1 → Memref sig .tc .smem S8x1x6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S8x1x2816 : Shape := ⟨3, ![8, 1, 2816]⟩
abbrev S8x1x6 : Shape := ⟨3, ![8, 1, 6]⟩
abbrev S16x2816x2816 : Shape := ⟨3, ![16, 2816, 2816]⟩
abbrev S16x2816 : Shape := ⟨2, ![16, 2816]⟩
abbrev S16x2816x1408 : Shape := ⟨3, ![16, 2816, 1408]⟩
abbrev S2816x2816 : Shape := ⟨2, ![2816, 2816]⟩
abbrev S2816 : Shape := ⟨1, ![2816]⟩
abbrev S2816x1408 : Shape := ⟨2, ![2816, 1408]⟩
abbrev S8x2816 : Shape := ⟨2, ![8, 2816]⟩
abbrev S8x6 : Shape := ⟨2, ![8, 6]⟩
abbrev S8x6x1 : Shape := ⟨3, ![8, 6, 1]⟩
abbrev S16 : Shape := ⟨1, ![16]⟩
abbrev S1x1x16 : Shape := ⟨3, ![1, 1, 16]⟩
abbrev S8x6x16 : Shape := ⟨3, ![8, 6, 16]⟩
abbrev S_ : Shape := ⟨0, ![]⟩
abbrev S8x16 : Shape := ⟨2, ![8, 16]⟩
abbrev S16x2816x8 : Shape := ⟨3, ![16, 2816, 8]⟩
abbrev S16x8x2816 : Shape := ⟨3, ![16, 8, 2816]⟩
abbrev S16x1x2816 : Shape := ⟨3, ![16, 1, 2816]⟩
abbrev S16x8x1408 : Shape := ⟨3, ![16, 8, 1408]⟩
abbrev S16x8 : Shape := ⟨2, ![16, 8]⟩
abbrev S16x8x1 : Shape := ⟨3, ![16, 8, 1]⟩
abbrev S1x2816 : Shape := ⟨2, ![1, 2816]⟩
abbrev S8x1408 : Shape := ⟨2, ![8, 1408]⟩

abbrev nBuf : Space → Nat
  | .hbm => 88
  | .vmem => 0
  | .smem => 0
  | _ => 0

abbrev bufTy : (tb : Table) → Fin (tcTables nBuf tb) → BufTy
  | .hbm, ⟨0, _⟩ => ⟨S8x1x2816, .bf16⟩
  | .hbm, ⟨1, _⟩ => ⟨S8x1x6, .i32⟩
  | .hbm, ⟨2, _⟩ => ⟨S8x1x6, .f32⟩
  | .hbm, ⟨3, _⟩ => ⟨S16x2816x2816, .i8⟩
  | .hbm, ⟨4, _⟩ => ⟨S16x2816, .f32⟩
  | .hbm, ⟨5, _⟩ => ⟨S16x2816x1408, .i8⟩
  | .hbm, ⟨6, _⟩ => ⟨S16x2816, .f32⟩
  | .hbm, ⟨7, _⟩ => ⟨S2816x2816, .i8⟩
  | .hbm, ⟨8, _⟩ => ⟨S2816, .f32⟩
  | .hbm, ⟨9, _⟩ => ⟨S2816x1408, .i8⟩
  | .hbm, ⟨10, _⟩ => ⟨S2816, .f32⟩
  | .hbm, ⟨11, _⟩ => ⟨S8x2816, .bf16⟩
  | .hbm, ⟨12, _⟩ => ⟨S8x6, .i32⟩
  | .hbm, ⟨13, _⟩ => ⟨S8x6, .f32⟩
  | .hbm, ⟨14, _⟩ => ⟨S8x6x1, .i32⟩
  | .hbm, ⟨15, _⟩ => ⟨S16, .i32⟩
  | .hbm, ⟨16, _⟩ => ⟨S1x1x16, .i32⟩
  | .hbm, ⟨17, _⟩ => ⟨S8x6x16, .i32⟩
  | .hbm, ⟨18, _⟩ => ⟨S8x6x16, .i32⟩
  | .hbm, ⟨19, _⟩ => ⟨S8x6x16, .i1⟩
  | .hbm, ⟨20, _⟩ => ⟨S8x6x1, .f32⟩
  | .hbm, ⟨21, _⟩ => ⟨S_, .f32⟩
  | .hbm, ⟨22, _⟩ => ⟨S_, .f32⟩
  | .hbm, ⟨23, _⟩ => ⟨S8x6x16, .f32⟩
  | .hbm, ⟨24, _⟩ => ⟨S8x6x16, .f32⟩
  | .hbm, ⟨25, _⟩ => ⟨S8x6x16, .f32⟩
  | .hbm, ⟨26, _⟩ => ⟨S_, .f32⟩
  | .hbm, ⟨27, _⟩ => ⟨S8x16, .f32⟩
  | .hbm, ⟨28, _⟩ => ⟨S16x2816x2816, .i32⟩
  | .hbm, ⟨29, _⟩ => ⟨S16x2816x2816, .bf16⟩
  | .hbm, ⟨30, _⟩ => ⟨S16x2816x8, .f32⟩
  | .hbm, ⟨31, _⟩ => ⟨S16x8x2816, .f32⟩
  | .hbm, ⟨32, _⟩ => ⟨S16x1x2816, .f32⟩
  | .hbm, ⟨33, _⟩ => ⟨S16x8x2816, .f32⟩
  | .hbm, ⟨34, _⟩ => ⟨S16x8x2816, .f32⟩
  | .hbm, ⟨35, _⟩ => ⟨S16x8x1408, .f32⟩
  | .hbm, ⟨36, _⟩ => ⟨S16x8x1408, .f32⟩
  | .hbm, ⟨37, _⟩ => ⟨S16x8x1408, .f32⟩
  | .hbm, ⟨38, _⟩ => ⟨S16x8x1408, .f32⟩
  | .hbm, ⟨39, _⟩ => ⟨S_, .f32⟩
  | .hbm, ⟨40, _⟩ => ⟨S16x8x1408, .f32⟩
  | .hbm, ⟨41, _⟩ => ⟨S16x8x1408, .f32⟩
  | .hbm, ⟨42, _⟩ => ⟨S_, .f32⟩
  | .hbm, ⟨43, _⟩ => ⟨S16x8x1408, .f32⟩
  | .hbm, ⟨44, _⟩ => ⟨S16x8x1408, .f32⟩
  | .hbm, ⟨45, _⟩ => ⟨S16x8x1408, .f32⟩
  | .hbm, ⟨46, _⟩ => ⟨S16x8x1408, .f32⟩
  | .hbm, ⟨47, _⟩ => ⟨S16x8x1408, .bf16⟩
  | .hbm, ⟨48, _⟩ => ⟨S16x2816x1408, .i32⟩
  | .hbm, ⟨49, _⟩ => ⟨S16x2816x1408, .bf16⟩
  | .hbm, ⟨50, _⟩ => ⟨S16x8x2816, .f32⟩
  | .hbm, ⟨51, _⟩ => ⟨S16x1x2816, .f32⟩
  | .hbm, ⟨52, _⟩ => ⟨S16x8x2816, .f32⟩
  | .hbm, ⟨53, _⟩ => ⟨S16x8x2816, .f32⟩
  | .hbm, ⟨54, _⟩ => ⟨S16x8, .f32⟩
  | .hbm, ⟨55, _⟩ => ⟨S16x8x1, .f32⟩
  | .hbm, ⟨56, _⟩ => ⟨S16x8x2816, .f32⟩
  | .hbm, ⟨57, _⟩ => ⟨S16x8x2816, .f32⟩
  | .hbm, ⟨58, _⟩ => ⟨S_, .f32⟩
  | .hbm, ⟨59, _⟩ => ⟨S8x2816, .f32⟩
  | .hbm, ⟨60, _⟩ => ⟨S2816x2816, .i32⟩
  | .hbm, ⟨61, _⟩ => ⟨S2816x2816, .bf16⟩
  | .hbm, ⟨62, _⟩ => ⟨S8x2816, .f32⟩
  | .hbm, ⟨63, _⟩ => ⟨S1x2816, .f32⟩
  | .hbm, ⟨64, _⟩ => ⟨S8x2816, .f32⟩
  | .hbm, ⟨65, _⟩ => ⟨S8x2816, .f32⟩
  | .hbm, ⟨66, _⟩ => ⟨S8x1408, .f32⟩
  | .hbm, ⟨67, _⟩ => ⟨S8x1408, .f32⟩
  | .hbm, ⟨68, _⟩ => ⟨S8x1408, .f32⟩
  | .hbm, ⟨69, _⟩ => ⟨S8x1408, .f32⟩
  | .hbm, ⟨70, _⟩ => ⟨S_, .f32⟩
  | .hbm, ⟨71, _⟩ => ⟨S8x1408, .f32⟩
  | .hbm, ⟨72, _⟩ => ⟨S8x1408, .f32⟩
  | .hbm, ⟨73, _⟩ => ⟨S_, .f32⟩
  | .hbm, ⟨74, _⟩ => ⟨S8x1408, .f32⟩
  | .hbm, ⟨75, _⟩ => ⟨S8x1408, .f32⟩
  | .hbm, ⟨76, _⟩ => ⟨S8x1408, .f32⟩
  | .hbm, ⟨77, _⟩ => ⟨S8x1408, .f32⟩
  | .hbm, ⟨78, _⟩ => ⟨S8x1408, .bf16⟩
  | .hbm, ⟨79, _⟩ => ⟨S2816x1408, .i32⟩
  | .hbm, ⟨80, _⟩ => ⟨S2816x1408, .bf16⟩
  | .hbm, ⟨81, _⟩ => ⟨S8x2816, .f32⟩
  | .hbm, ⟨82, _⟩ => ⟨S1x2816, .f32⟩
  | .hbm, ⟨83, _⟩ => ⟨S8x2816, .f32⟩
  | .hbm, ⟨84, _⟩ => ⟨S8x2816, .f32⟩
  | .hbm, ⟨85, _⟩ => ⟨S8x2816, .f32⟩
  | .hbm, ⟨86, _⟩ => ⟨S8x2816, .bf16⟩
  | .hbm, ⟨87, _⟩ => ⟨S8x1x2816, .bf16⟩
  | _, _ => ⟨S8x1x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Proof.Bits.lean ====
/-
  Words: the set of experts that 48 words name, as the kernel keeps it — one bit per expert in a 32-bit mask —,
  the running count of its members, and the ascending list of them.
-/
module

public import Idealize.ShloMosaic.Lib.Affine

@[expose] public section

namespace Cert.Proof.Bits

open Idealize.ShloMosaic

/-- The bit of one word: `1 <<< w` when `0 ≤ w < 16` read signed, no bit otherwise. -/
def bitOf (w : BitVec 32) : BitVec 32 :=
  Scalar.select (Scalar.andi (Scalar.cmpi .sge w 0#32) (Scalar.cmpi .slt w 16#32)) (Scalar.shli 1#32 (Scalar.andi w 15#32)) 0#32
/-- The mask of a list of words. -/
def maskOf (l : List (BitVec 32)) : BitVec 32 := l.foldl (fun m w => Scalar.ori m (bitOf w)) 0#32
/-- Bit `e` of the mask, as a word. -/
def inc (M : BitVec 32) (e : ℕ) : BitVec 32 := Scalar.andi (Scalar.shrsi M (BitVec.ofNat 32 e)) 1#32
/-- How many of the bits below `n` are set, as a word. -/
def cw (M : BitVec 32) : ℕ → BitVec 32
  | 0 => 0#32
  | n + 1 => Scalar.addi (cw M n) (inc M n)
/-- The members below `n`, ascending. -/
def actTo (M : BitVec 32) (n : ℕ) : List ℕ := (List.range n).filter (fun e => M.getLsbD e)
/-- The number of members below 16. -/
def cnt (M : BitVec 32) : ℕ := (actTo M 16).length
/-- The `j`-th member (0 past the last). -/
def ord (M : BitVec 32) (j : ℕ) : ℕ := if h : j < (actTo M 16).length then (actTo M 16)[j] else 0

theorem actTo_succ (M : BitVec 32) (n : ℕ) : actTo M (n + 1) = actTo M n ++ (if M.getLsbD n then [n] else []) := by
  unfold actTo; rw [List.range_succ, List.filter_append]; simp [List.filter_cons]

theorem actTo_length_le (M : BitVec 32) (n : ℕ) : (actTo M n).length ≤ n := by
  unfold actTo; exact (List.length_filter_le _ _).trans (by simp)

theorem cnt_le (M : BitVec 32) : cnt M ≤ 16 := actTo_length_le M 16

theorem mem_actTo {M : BitVec 32} {n e : ℕ} : e ∈ actTo M n ↔ e < n ∧ M.getLsbD e = true := by
  unfold actTo; simp

theorem ord_mem {M : BitVec 32} {j : ℕ} (h : j < cnt M) : ord M j ∈ actTo M 16 := by
  unfold ord; unfold cnt at h; rw [dif_pos h]; exact List.getElem_mem h

theorem ord_lt (M : BitVec 32) (j : ℕ) : ord M j < 16 := by
  by_cases h : j < cnt M
  · exact (mem_actTo.1 (ord_mem h)).1
  · unfold ord; unfold cnt at h; rw [dif_neg h]; decide

theorem inc_toNat (M : BitVec 32) (e : ℕ) (he : e < 16) : (inc M e).toNat = if M.getLsbD e then 1 else 0 := by
  have e1 : inc M e = (M.sshiftRight e) &&& 1#32 := by
    unfold inc Scalar.andi Scalar.shrsi IntOp.andi IntOp.shrsi
    have : (BitVec.ofNat 32 e).toNat = e := by simp; omega
    rw [if_pos (by omega), BitVec.sshiftRight', this]
  rw [e1]
  have h1 : (M.sshiftRight e &&& 1#32).getLsbD 0 = M.getLsbD e := by
    rw [BitVec.getLsbD_and, BitVec.getLsbD_sshiftRight]; simp; omega
  have h2 : (M.sshiftRight e &&& 1#32) = if M.getLsbD e then 1#32 else 0#32 := by
    apply BitVec.eq_of_getLsbD_eq
    intro i hi
    by_cases h0 : i = 0
    · subst h0; rw [h1]; cases M.getLsbD e <;> simp
    · have : (1#32).getLsbD i = false := by rw [BitVec.getLsbD_one]; simp [h0]
      rw [BitVec.getLsbD_and, this]; cases M.getLsbD e <;> simp [this]
  rw [h2]; cases M.getLsbD e <;> simp

theorem cw_toNat (M : BitVec 32) : ∀ n, n ≤ 16 → (cw M n).toNat = (actTo M n).length
  | 0, _ => by simp [cw, actTo]
  | n + 1, h => by
    have hl := actTo_length_le M n
    have ih := cw_toNat M n (by omega)
    rw [actTo_succ, List.length_append, cw, Scalar.addi, IntOp.addi, BitVec.toNat_add, ih, inc_toNat M n (by omega)]
    cases M.getLsbD n <;> simp <;> omega

theorem bitOf_getLsbD (w : BitVec 32) (e : ℕ) (he : e < 16) : (bitOf w).getLsbD e = true ↔ w = BitVec.ofNat 32 e := by
  by_cases hw : w.toNat < 16
  · obtain ⟨k, rfl⟩ : ∃ k : Fin 16, w = BitVec.ofNat 32 k.val := ⟨⟨w.toNat, hw⟩, by simp⟩
    obtain ⟨e, rfl⟩ : ∃ e' : Fin 16, e = e'.val := ⟨⟨e, he⟩, rfl⟩
    clear hw he
    revert k e
    decide
  · have h0 : bitOf w = 0#32 := by
      unfold bitOf Scalar.select
      rw [if_neg]
      intro h
      have h' : (IntOp.cmpi .sge w 0#32) = 1#1 ∧ (IntOp.cmpi .slt w 16#32) = 1#1 := by
        revert h; unfold Scalar.andi Scalar.cmpi IntOp.andi
        generalize IntOp.cmpi .sge w 0#32 = a; generalize IntOp.cmpi .slt w 16#32 = b
        revert a b; decide
      have hs : 0 ≤ w.toInt ∧ w.toInt < 16 := by
        obtain ⟨h1, h2⟩ := h'
        rw [IntOp.cmpi_sge] at h1; rw [IntOp.cmpi_slt] at h2
        have e0 : (0#32 : BitVec 32).toInt = 0 := by decide
        have e16 : (16#32 : BitVec 32).toInt = 16 := by decide
        omega
      have hc := BitVec.toInt_eq_toNat_cond w
      split at hc <;> omega
    rw [h0]
    constructor
    · intro h; simp at h
    · intro h; exact absurd (by rw [h]; simp; omega) hw

theorem maskOf_getLsbD (l : List (BitVec 32)) (e : ℕ) (he : e < 16) :
    (maskOf l).getLsbD e = true ↔ BitVec.ofNat 32 e ∈ l := by
  have gen : ∀ (l : List (BitVec 32)) (m : BitVec 32),
      (l.foldl (fun m w => Scalar.ori m (bitOf w)) m).getLsbD e = true ↔ m.getLsbD e = true ∨ BitVec.ofNat 32 e ∈ l := by
    intro l
    induction l with
    | nil => intro m; simp
    | cons a l ih =>
      intro m
      rw [List.foldl_cons, ih, Scalar.ori, IntOp.ori, BitVec.getLsbD_or, Bool.or_eq_true, bitOf_getLsbD a e he, List.mem_cons]
      rw [or_assoc, eq_comm (a := a)]
  unfold maskOf; rw [gen]; simp

/-- What the table of members holds after the first `n` candidates: candidate `e` is put at the place of the
    count so far, whether a member or not. -/
def tab (M : BitVec 32) (g : ℕ → BitVec 32) : ℕ → ℕ → BitVec 32
  | 0, j => g j
  | n + 1, j => if j = (cw M n).toNat then BitVec.ofNat 32 n else tab M g n j

/-- Within the count, the table holds the members, ascending. -/
theorem tab_eq (M : BitVec 32) (g : ℕ → BitVec 32) : ∀ n, n ≤ 16 → ∀ j, (h : j < (actTo M n).length) →
    tab M g n j = BitVec.ofNat 32 ((actTo M n)[j])
  | 0, _, j, h => absurd h (by simp [actTo])
  | n + 1, hn, j, h => by
    have ih := tab_eq M g n (by omega)
    have hc := cw_toNat M n (by omega)
    have hs := actTo_succ M n
    rw [tab, hc]
    by_cases hb : M.getLsbD n = true
    · rw [if_pos hb] at hs
      rw [hs, List.length_append] at h
      by_cases hj : j = (actTo M n).length
      · rw [if_pos hj]; subst hj; congr 1; simp [hs]
      · rw [if_neg hj]
        have hj' : j < (actTo M n).length := by simp at h; omega
        rw [ih j hj']; congr 1; simp [hs, List.getElem_append_left hj']
    · rw [if_neg hb, List.append_nil] at hs
      rw [hs] at h
      rw [if_neg (by omega), ih j h]; congr 1; simp [hs]

theorem tab_ord (M : BitVec 32) (g : ℕ → BitVec 32) (j : ℕ) (h : j < cnt M) : tab M g 16 j = BitVec.ofNat 32 (ord M j) := by
  rw [tab_eq M g 16 (by omega) j h]; unfold ord; rw [dif_pos (show j < (actTo M 16).length from h)]; rfl

/-- A sum over the members, place by place, is the sum over the 16 candidates of the members' terms. -/
theorem sum_ord {A : Type} [AddCommMonoid A] (M : BitVec 32) (f : ℕ → A) :
    ((List.range (cnt M)).map (fun j => f (ord M j))).sum = ((List.range 16).map (fun e => if M.getLsbD e then f e else 0)).sum := by
  have h1 : (List.range (cnt M)).map (fun j => f (ord M j)) = (actTo M 16).map f := by
    apply List.ext_getElem
    · simp [cnt]
    · intro i h1 h2
      simp only [List.getElem_map, List.getElem_range]
      have : i < (actTo M 16).length := by simpa using h2
      unfold ord; rw [dif_pos this]
  rw [h1]; unfold actTo
  have gen : ∀ l : List ℕ, ((l.filter (fun e => M.getLsbD e)).map f).sum = (l.map (fun e => if M.getLsbD e then f e else 0)).sum := by
    intro l
    induction l with
    | nil => simp
    | cons a l ih =>
      rw [List.filter_cons]
      by_cases ha : M.getLsbD a = true
      · simp [ha, ih]
      · simp [ha, ih]
  exact gen _

end Cert.Proof.Bits
-- ==== Proof.KernelIdealChain.lean ====
/-
  The kernel's scalar chains in closed form: the count of active experts as a word, where each candidate is put in
  the table of active experts, the main loop's trips (one per active expert), what trip `k` names — slot and
  semaphores `(k + 1) % 2` waited, `(k + 2) % 2` refilled —, and the check the kernel makes of all of them, true at
  every 48 words.
-/
module

public import proofs.«01_k».proof.Proof.Gen.KernelIdeal.Launch
public import proofs.«01_k».proof.Proof.Gen.KernelIdeal.Skeleton
public import proofs.«01_k».proof.Proof.Bits
public import Idealize.ShloMosaic.Lib.Affine
public import Idealize.ShloMosaic.Lib.Ring

@[expose] public section

namespace Cert.Proof.RunKernelIdeal

open Cert.KernelIdeal Cert.KernelIdeal.Gen
open Idealize.ShloMosaic
open Cert.Proof.Bits
open Affine

abbrev aOff (s : Fin 2) : Fin 3 → Nat := ![s.val, 0, 0]
abbrev hOff (s : Fin 2) : Fin 3 → Nat := ![s.val, 1408, 0]
abbrev rOff (e : Fin 16) : Fin 3 → Nat := ![e.val, 0, 0]
abbrev cOff (r s : Fin 2) : Fin 2 → Nat := ![r.val, s.val]
abbrev oOff (j : ℕ) : Fin 1 → Nat := ![j]

theorem toInt_of_isInt {x : BitVec 32} {e : Int} (h : IsInt x e) : x.toInt = e := by
  delta Affine.IsInt at h; exact h

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32)

/-- The mask of the 48 words. -/
abbrev msk : BitVec 32 := maskOf [v8, v16, v24, v32, v40, v48, v56, v64, v72, v80, v88, v96, v104, v112, v120, v128, v136, v144, v152, v160, v168, v176, v184, v192, v200, v208, v216, v224, v232, v240, v248, v256, v264, v272, v280, v288, v296, v304, v312, v320, v328, v336, v344, v352, v360, v368, v376, v384]

theorem t1_def : k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ⟨0#32, Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32), 1#32⟩ := rfl
theorem t2_def : k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ⟨Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32),
   Scalar.addi 0#32 (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32), 1#32⟩ := rfl
theorem cond1_def : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = Scalar.cmpi .ne (Scalar.extui (Scalar.cmpi .sgt (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 0#32)) 0#32 := rfl
theorem off1_def : k0_off1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 1).toNat] := rfl
theorem off2_def : k0_off2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 2).toNat] := rfl
theorem off3_def : k0_off3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 3).toNat] := rfl
theorem off4_def : k0_off4 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 4).toNat] := rfl
theorem off5_def : k0_off5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 5).toNat] := rfl
theorem off6_def : k0_off6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 6).toNat] := rfl
theorem off7_def : k0_off7 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 7).toNat] := rfl
theorem off8_def : k0_off8 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 8).toNat] := rfl
theorem off9_def : k0_off9 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 9).toNat] := rfl
theorem off10_def : k0_off10 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 10).toNat] := rfl
theorem off11_def : k0_off11 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 11).toNat] := rfl
theorem off12_def : k0_off12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 12).toNat] := rfl
theorem off13_def : k0_off13 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 13).toNat] := rfl
theorem off14_def : k0_off14 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 14).toNat] := rfl
theorem off15_def : k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 15).toNat] := rfl

/-- The count of active experts. -/
abbrev nAct : ℕ := cnt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)

theorem nAct_le : nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 ≤ 16 := cnt_le _

theorem isInt_cnt : IsInt (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  delta Affine.IsInt
  have h := cw_toNat (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16 (by omega)
  have hl := cnt_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
  have hc := BitVec.toInt_eq_toNat_cond (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16)
  unfold nAct cnt at *
  split at hc <;> omega

theorem isInt_588 : IsInt (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h1 : IsInt (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) ((nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) + 1) := addi (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 1) 1 ⟨rfl, by decide⟩) ⟨by omega, by omega, by omega⟩
  have h2 : IsInt (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := subi h1 (ofNat (e := 1) 1 ⟨rfl, by decide⟩) ⟨by omega, by omega, by omega⟩
  have h3 : IsInt (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := addi h2 (ofNat (e := 0) 0 ⟨rfl, by decide⟩) ⟨by omega, by omega, by omega⟩
  exact divsi_one h3 (ofNat (e := 1) 1 ⟨rfl, by decide⟩) ⟨rfl, rfl⟩

theorem isInt_589 : IsInt (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  exact subi (isInt_588 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 0) 0 ⟨rfl, by decide⟩) ⟨by omega, by omega, by omega⟩

theorem isInt_593 : IsInt (Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32)) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h1 := divsi_one (isInt_589 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 1) 1 ⟨rfl, by decide⟩) ⟨rfl, rfl⟩
  have h2 : IsInt (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) :=
    muli h1 (ofNat (e := 1) 1 ⟨rfl, by decide⟩) ⟨by omega, by omega, by omega⟩
  exact addi (ofNat (e := 0) 0 ⟨rfl, by decide⟩) h2 ⟨by omega, by omega, by omega⟩

/-- The main loop runs once per active expert; -/
theorem trips1 : (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips = nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  rw [t1_def]; show Scf.trips _ _ _ = _
  unfold Scf.trips; rw [toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)]; simp
/-- the remainder loop never. -/
theorem trips2 : (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips = 0 := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h := addi (e := (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ)) (ofNat (e := 0) 0 ⟨rfl, by decide⟩) (isInt_589 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) ⟨by omega, by omega, by omega⟩
  rw [t2_def]; show Scf.trips _ _ _ = _
  unfold Scf.trips; rw [toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), toInt_of_isInt h]; simp

theorem guard_iff (p : BitVec 1) : Scalar.cmpi .ne (Scalar.extui p) 0#32 = 1#1 ↔ p = 1#1 := by
  revert p; decide

theorem cond1_iff : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1 ↔ 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  rw [cond1_def, guard_iff, Scalar.cmpi, IntOp.cmpi_sgt, toInt_of_isInt (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)]
  rw [show (0#32 : BitVec 32).toInt = 0 from by decide]; omega

variable (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips)

theorem k_lt : k.val < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := Nat.lt_of_lt_of_eq k.isLt (trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
theorem k_lt16 : k.val < 16 := (k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).trans_le (cnt_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))

theorem isInt_iv : IsInt (Scf.iv 0#32 1#32 k.val) k.val := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact iv (e := k.val) (ofNat (e := 0) 0 ⟨rfl, by decide⟩) (ofNat (e := 1) 1 ⟨rfl, by decide⟩) k.val ⟨by omega, by omega, by omega⟩
theorem isInt_step : IsInt (Scalar.addi 1#32 (Scalar.muli (Scf.iv 0#32 1#32 k.val) 1#32)) (k.val + 1 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have h : IsInt (Scalar.muli (Scf.iv 0#32 1#32 k.val) 1#32) k.val := muli (isInt_iv v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by omega, by omega, by omega⟩
  exact addi (ofNat (e := 1) 1 ⟨rfl, by decide⟩) h ⟨by push_cast; omega, by omega, by omega⟩
theorem isInt_prev : IsInt (Scalar.subi (Scalar.addi 1#32 (Scalar.muli (Scf.iv 0#32 1#32 k.val) 1#32)) 1#32) k.val := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact subi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_slot : IsInt (Scalar.remsi (Scalar.addi 1#32 (Scalar.muli (Scf.iv 0#32 1#32 k.val) 1#32)) 2#32) ((k.val + 1) % 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact remsi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 2) 2 ⟨rfl, by decide⟩) ⟨by push_cast; omega, by omega, by omega⟩
theorem isInt_next : IsInt (Scalar.addi (Scalar.addi 1#32 (Scalar.muli (Scf.iv 0#32 1#32 k.val) 1#32)) 1#32) (k.val + 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact addi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_nextPrev : IsInt (Scalar.subi (Scalar.addi (Scalar.addi 1#32 (Scalar.muli (Scf.iv 0#32 1#32 k.val) 1#32)) 1#32) 1#32) (k.val + 1 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact subi (isInt_next v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_nextSlot : IsInt (Scalar.remsi (Scalar.addi (Scalar.addi 1#32 (Scalar.muli (Scf.iv 0#32 1#32 k.val) 1#32)) 1#32) 2#32) (k.val % 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact remsi (isInt_next v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 2) 2 ⟨rfl, by decide⟩) ⟨by push_cast; omega, by omega, by omega⟩

/-- Trip `k` starts the next expert's copies when there is one. -/
theorem cond2_iff : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = 1#1 ↔ k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  show Scalar.cmpi .ne (Scalar.extui (Scalar.cmpi .slt (Scalar.addi 1#32 (Scalar.muli (Scf.iv 0#32 1#32 k.val) 1#32)) (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16))) 0#32 = 1#1 ↔ _
  rw [guard_iff, Scalar.cmpi, IntOp.cmpi_slt, toInt_of_isInt (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), toInt_of_isInt (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)]; omega

theorem off22_eq : k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff (k.val + 1) := vec_cons (indexCast (isInt_nextPrev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp) vec_nil
theorem off23_eq : k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 0 (Ring.sl 2 k.val) := congrArg (Matrix.vecCons 0) (vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off26_eq : k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 1 (Ring.sl 2 k.val) := congrArg (Matrix.vecCons 1) (vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off30_eq : k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 0 (Ring.sl 2 (k.val + 1)) := congrArg (Matrix.vecCons 0) (vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off33_eq : k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 1 (Ring.sl 2 (k.val + 1)) := congrArg (Matrix.vecCons 1) (vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off24_eq : k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 k.val) := vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off27_eq : k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 k.val) := vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off31_eq : k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off34_eq : k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off38_eq : k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off40_eq : k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off39_eq : k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = hOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off29_eq : k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff k.val := vec_cons (indexCast (isInt_prev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) rfl vec_nil
theorem off36_eq : k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff k.val := vec_cons (indexCast (isInt_prev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) rfl vec_nil

end

/-! ## The check -/

theorem aOff_inbA (s : Fin 2) : ∀ a, aOff s a + S1x2816x2816.size a ≤ S2x2816x2816.size a := by revert s; decide
theorem aOff_inbB (s : Fin 2) : ∀ a, aOff s a + S1x2816x1408.size a ≤ S2x2816x1408.size a := by revert s; decide
theorem aOff_inbG (s : Fin 2) : ∀ a, aOff s a + S1x1408x2816.size a ≤ S2x2816x2816.size a := by revert s; decide
theorem hOff_inbG (s : Fin 2) : ∀ a, hOff s a + S1x1408x2816.size a ≤ S2x2816x2816.size a := by revert s; decide
theorem rOff_inbA (e : Fin 16) : ∀ a, rOff e a + S1x2816x2816.size a ≤ S16x2816x2816.size a := by revert e; decide
theorem rOff_inbB (e : Fin 16) : ∀ a, rOff e a + S1x2816x1408.size a ≤ S16x2816x1408.size a := by revert e; decide
theorem cOff_inb (r s : Fin 2) : ∀ a, cOff r s a + S1x1.size a ≤ S2x2.size a := by revert r s; decide
theorem oOff_inb (j : ℕ) (hj : j < 16) : ∀ a, oOff j a + S1.size a ≤ S16.size a := by
  intro a; fin_cases a; show j + 1 ≤ 16; omega

theorem inb_congr {n : ℕ} {f g : Fin n → ℕ} {p q : Fin n → ℕ} (e : f = g) (h : ∀ a, g a + p a ≤ q a) : ∀ a, f a + p a ≤ q a := e ▸ h

theorem wwA {f : Fin 3 → ℕ} {s : Fin 2} (e : f = aOff s) (hinb : ∀ a, f a + S1x2816x2816.size a ≤ S2x2816x2816.size a) :
    (Rect.unit (s := S2x2816x2816) f S1x2816x2816.size hinb).WholeWords (EltTy.packing .i8) := by
  subst e; revert s; decide
theorem wwB {f : Fin 3 → ℕ} {s : Fin 2} (e : f = aOff s) (hinb : ∀ a, f a + S1x2816x1408.size a ≤ S2x2816x1408.size a) :
    (Rect.unit (s := S2x2816x1408) f S1x2816x1408.size hinb).WholeWords (EltTy.packing .i8) := by
  subst e; revert s; decide
theorem wwRA {f : Fin 3 → ℕ} {e : Fin 16} (he : f = rOff e) (hinb : ∀ a, f a + S1x2816x2816.size a ≤ S16x2816x2816.size a) :
    (Rect.unit (s := S16x2816x2816) f S1x2816x2816.size hinb).WholeWords (EltTy.packing .i8) := by
  subst he; revert e; decide
theorem wwRB {f : Fin 3 → ℕ} {e : Fin 16} (he : f = rOff e) (hinb : ∀ a, f a + S1x2816x1408.size a ≤ S16x2816x1408.size a) :
    (Rect.unit (s := S16x2816x1408) f S1x2816x1408.size hinb).WholeWords (EltTy.packing .i8) := by
  subst he; revert e; decide

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32)

theorem cwOff_inb (n : ℕ) (hn : n < 16) : ∀ a, (![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n).toNat] : Fin 1 → ℕ) a + S1.size a ≤ S16.size a := by
  have h := cw_toNat (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n (by omega)
  have hl := actTo_length_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n
  intro a; fin_cases a
  show (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n).toNat + 1 ≤ 16; omega

theorem t1_ok : (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := by
  have ht := trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  rw [t1_def] at ht ⊢
  refine ⟨by show 0 < (1#32 : BitVec 32).toInt; decide, ?_⟩
  show (0#32 : BitVec 32).toInt + ((_ : ℕ) : ℤ) * (1#32 : BitVec 32).toInt < 2 ^ 31
  rw [show (0#32 : BitVec 32).toInt = 0 from by decide, show (1#32 : BitVec 32).toInt = 1 from by decide]
  have ht' : Scf.trips _ _ _ = _ := ht
  rw [ht']; omega
theorem t2_ok : (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := by
  have ht := trips2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h5 := toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
  rw [t2_def] at ht ⊢
  refine ⟨by show 0 < (1#32 : BitVec 32).toInt; decide, ?_⟩
  have ht' : Scf.trips _ _ _ = _ := ht
  show (BitVec.toInt _) + ((Scf.trips _ _ _ : ℕ) : ℤ) * (1#32 : BitVec 32).toInt < 2 ^ 31
  rw [ht', h5]; push_cast; omega

/-- The check holds at every 48 words. -/
theorem chk1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  have no2 : ∀ k : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, False := fun k => Nat.not_lt_zero _ (Nat.lt_of_lt_of_eq k.isLt (trips2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))
  refine ⟨⟨?_, ?_, ?_, ?_, ?_, ?_, ?_, ?_, ?_, ?_, ?_, ?_, ?_, ?_, ?_, t1_ok v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384, ?_, ?_, ?_, ?_, ?_, ?_, ?_, ?_, ?_, ?_, ?_, ?_, ?_, ?_, ?_, ?_⟩,
    ⟨?_, ?_, t2_ok v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384, ?_, ?_, ?_, ?_, ?_, ?_, ?_, ?_, ?_, ?_, ?_, ?_, ?_, ?_, ?_, ?_, ?_, ?_⟩⟩
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 1 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 2 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 3 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 4 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 5 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 6 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 7 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 8 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 9 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 10 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 11 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 12 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 13 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 14 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 15 (by omega)
  · intro k h
    have h' := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).1 h
    have := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
    exact inb_congr (off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (by omega))
  · exact fun k h => inb_congr (off23_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k h => inb_congr (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbA _)
  · exact fun k h => wwA (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k h => inb_congr (off26_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k h => inb_congr (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  · exact fun k h => wwB (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k))
  · exact fun k => inb_congr (off30_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k => inb_congr (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbA _)
  · exact fun k => wwA (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off33_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k => inb_congr (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  · exact fun k => wwB (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k))
  · exact fun k => inb_congr (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbG _)
  · exact fun k => inb_congr (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (hOff_inbG _)
  · exact fun k => inb_congr (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  all_goals exact fun k => (no2 k).elim

/-- A word below 16 passes the checks made of an expert read from the table. -/
theorem rOff_of {w : BitVec 32} (h : w.toNat < 16) : (![w.toNat, 0, 0] : Fin 3 → ℕ) = rOff ⟨w.toNat, h⟩ := rfl
theorem chk2 (w : BitVec 32) (h : w.toNat < 16) : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 w :=
  ⟨fun _ => rOff_inbA ⟨w.toNat, h⟩, fun _ => wwRA (e := ⟨w.toNat, h⟩) rfl, fun _ => rOff_inbB ⟨w.toNat, h⟩, fun _ => wwRB (e := ⟨w.toNat, h⟩) rfl⟩
theorem chk3 (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (w : BitVec 32) (h : w.toNat < 16) : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k w :=
  ⟨fun _ => rOff_inbA ⟨w.toNat, h⟩, fun _ => wwRA (e := ⟨w.toNat, h⟩) rfl, fun _ => rOff_inbB ⟨w.toNat, h⟩, fun _ => wwRB (e := ⟨w.toNat, h⟩) rfl⟩
theorem chk4 (w : BitVec 32) (h : w.toNat < 16) : k0_chk4 w :=
  ⟨rOff_inbA ⟨w.toNat, h⟩, wwRA (e := ⟨w.toNat, h⟩) rfl, rOff_inbB ⟨w.toNat, h⟩, wwRB (e := ⟨w.toNat, h⟩) rfl⟩
theorem chk5 (w : BitVec 32) (h : w.toNat < 16) : k0_chk5 w := by
  show ∀ a, (![w.toNat, 0] : Fin 2 → ℕ) a + S1x2816.size a ≤ S16x2816.size a
  intro a; fin_cases a
  · show w.toNat + 1 ≤ 16; omega
  · show 0 + 2816 ≤ 2816; omega

end

end Cert.Proof.RunKernelIdeal
-- ==== Proof.KernelIdealNames.lean ====
/-
  The names the proof gives to what the kernel slices: expert `e`'s rows of the two stacked weight arrays, slot `s`
  of the two ring buffers, the semaphore of ring buffer `r`'s slot `s`; and the equations by which the kernel's own
  slices, at literal, trip and table-read offsets, are those.
-/
module

public import proofs.«01_k».proof.Proof.KernelIdealChain
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open Cert.Proof.Bits

abbrev wA : Memref sig .tc .hbm S16x2816x2816 .i8 := Memref.whole main_arg3
abbrev wB : Memref sig .tc .hbm S16x2816x1408 .i8 := Memref.whole main_arg5
abbrev shA : Memref sig .tc .hbm S2816x2816 .i8 := Memref.whole main_arg7
abbrev shB : Memref sig .tc .hbm S2816x1408 .i8 := Memref.whole main_arg9
abbrev bufA : Memref sig .tc .vmem S2x2816x2816 .i8 := Memref.whole cc0_scratch0
abbrev bufB : Memref sig .tc .vmem S2x2816x1408 .i8 := Memref.whole cc0_scratch1
abbrev accM : Memref sig .tc .vmem S8x2816 .f32 := Memref.whole cc0_scratch2
abbrev wteM : Memref sig .tc .vmem S8x128 .f32 := Memref.whole cc0_scratch3
abbrev ordM : Memref sig .tc .smem S16 .i32 := Memref.whole cc0_scratch4

/-- Expert `e`'s rows of the first stacked weight array, as the body slices and squeezes them; -/
def rowA (e : Fin 16) : Memref sig .tc .hbm S2816x2816 .i8 :=
  (wA.slice (Rect.unit (s := S16x2816x2816) (rOff e) S1x2816x2816.size (rOff_inbA e)) (fun _ => rfl)).squeeze S2816x2816 squeezes_S1x2816x2816_S2816x2816
/-- of the second. -/
def rowB (e : Fin 16) : Memref sig .tc .hbm S2816x1408 .i8 :=
  (wB.slice (Rect.unit (s := S16x2816x1408) (rOff e) S1x2816x1408.size (rOff_inbB e)) (fun _ => rfl)).squeeze S2816x1408 squeezes_S1x2816x1408_S2816x1408
/-- Slot `s` of the first ring buffer; -/
def slA (s : Fin 2) : Memref sig .tc .vmem S2816x2816 .i8 :=
  (bufA.slice (Rect.unit (s := S2x2816x2816) (aOff s) S1x2816x2816.size (aOff_inbA s)) (fun _ => rfl)).squeeze S2816x2816 squeezes_S1x2816x2816_S2816x2816
/-- of the second. -/
def slB (s : Fin 2) : Memref sig .tc .vmem S2816x1408 .i8 :=
  (bufB.slice (Rect.unit (s := S2x2816x1408) (aOff s) S1x2816x1408.size (aOff_inbB s)) (fun _ => rfl)).squeeze S2816x1408 squeezes_S1x2816x1408_S2816x1408
/-- The semaphore of ring buffer `r`'s slot `s`. -/
def csm (r s : Fin 2) : DmaSems sig S_ := (cc0_scratch5.slice (Rect.unit (s := S2x2) (cOff r s) S1x1.size (cOff_inb r s))).squeeze S_ squeezes_S1x1_S_

instance (s : Fin 2) : ClosedOff (aOff s) := ⟨aOff s, rfl⟩
instance (s : Fin 2) : ClosedOff (hOff s) := ⟨hOff s, rfl⟩
instance (e : Fin 16) : ClosedOff (rOff e) := ⟨rOff e, rfl⟩

instance (w : BitVec 32) : ClosedOff (k0_off37 w) := ⟨![w.toNat, 0], rfl⟩

/-- An expert read from the table. -/
abbrev eOf (w : BitVec 32) : Fin 16 := Fin.ofNat 16 w.toNat
theorem word_lt (M : BitVec 32) (j : ℕ) : (BitVec.ofNat 32 (ord M j)).toNat < 16 := by
  have := ord_lt M j
  rw [BitVec.toNat_ofNat, Nat.mod_eq_of_lt (by omega)]; exact this
/-- The `j`-th active expert. -/
abbrev eAt (M : BitVec 32) (j : ℕ) : Fin 16 := eOf (BitVec.ofNat 32 (ord M j))
theorem off37_eq {w : BitVec 32} {M : BitVec 32} {j : ℕ} (h : w = BitVec.ofNat 32 (ord M j)) : k0_off37 w = ![(eAt M j).val, 0] := by
  show ![w.toNat, 0] = ![(BitVec.ofNat 32 (ord M j)).toNat % 16, 0]
  rw [Nat.mod_eq_of_lt (word_lt M j), h]
theorem rOff_eOf {w : BitVec 32} (h : w.toNat < 16) : (![w.toNat, 0, 0] : Fin 3 → ℕ) = rOff (eOf w) := by
  show ![w.toNat, 0, 0] = ![w.toNat % 16, 0, 0]
  rw [Nat.mod_eq_of_lt h]

theorem csm_congr {off : Fin 2 → Nat} {r s : Fin 2} (e : off = cOff r s) (hh) :
    (cc0_scratch5.slice (Rect.unit (s := S2x2) off S1x1.size hh)).squeeze S_ squeezes_S1x1_S_ = csm r s :=
  congrArg (fun A : DmaSems sig S1x1 => A.squeeze S_ squeezes_S1x1_S_) (SemArray.slice_unit_congr _ e _ _)
theorem slA_congr {off : Fin 3 → Nat} {s : Fin 2} (e : off = aOff s) (hh hs) :
    (bufA.slice (Rect.unit (s := S2x2816x2816) off S1x2816x2816.size hh) hs).squeeze S2816x2816 squeezes_S1x2816x2816_S2816x2816 = slA s :=
  congrArg (fun M : Memref sig .tc .vmem S1x2816x2816 .i8 => M.squeeze S2816x2816 squeezes_S1x2816x2816_S2816x2816) (Memref.slice_unit_congr _ e _ _ _ _)
theorem slB_congr {off : Fin 3 → Nat} {s : Fin 2} (e : off = aOff s) (hh hs) :
    (bufB.slice (Rect.unit (s := S2x2816x1408) off S1x2816x1408.size hh) hs).squeeze S2816x1408 squeezes_S1x2816x1408_S2816x1408 = slB s :=
  congrArg (fun M : Memref sig .tc .vmem S1x2816x1408 .i8 => M.squeeze S2816x1408 squeezes_S1x2816x1408_S2816x1408) (Memref.slice_unit_congr _ e _ _ _ _)
theorem rowA_congr {off : Fin 3 → Nat} {e : Fin 16} (he : off = rOff e) (hh hs) :
    (wA.slice (Rect.unit (s := S16x2816x2816) off S1x2816x2816.size hh) hs).squeeze S2816x2816 squeezes_S1x2816x2816_S2816x2816 = rowA e :=
  congrArg (fun M : Memref sig .tc .hbm S1x2816x2816 .i8 => M.squeeze S2816x2816 squeezes_S1x2816x2816_S2816x2816) (Memref.slice_unit_congr _ he _ _ _ _)
theorem rowB_congr {off : Fin 3 → Nat} {e : Fin 16} (he : off = rOff e) (hh hs) :
    (wB.slice (Rect.unit (s := S16x2816x1408) off S1x2816x1408.size hh) hs).squeeze S2816x1408 squeezes_S1x2816x1408_S2816x1408 = rowB e :=
  congrArg (fun M : Memref sig .tc .hbm S1x2816x1408 .i8 => M.squeeze S2816x1408 squeezes_S1x2816x1408_S2816x1408) (Memref.slice_unit_congr _ he _ _ _ _)

/-! The literal slices: the shared expert's, slot 0. -/

@[sl_canon] theorem semL00 (hh) : (cc0_scratch5.slice (Rect.unit (s := S2x2) ![0, 0] S1x1.size hh)).squeeze S_ squeezes_S1x1_S_ = csm 0 0 := csm_congr (by decide) _
@[sl_canon] theorem semL10 (hh) : (cc0_scratch5.slice (Rect.unit (s := S2x2) ![1, 0] S1x1.size hh)).squeeze S_ squeezes_S1x1_S_ = csm 1 0 := csm_congr (by decide) _
@[sl_canon] theorem semL16 (hh) : (cc0_scratch5.slice (Rect.unit (s := S2x2) k0_off16 S1x1.size hh)).squeeze S_ squeezes_S1x1_S_ = csm 0 1 := csm_congr (by decide) _
@[sl_canon] theorem semL19 (hh) : (cc0_scratch5.slice (Rect.unit (s := S2x2) k0_off19 S1x1.size hh)).squeeze S_ squeezes_S1x1_S_ = csm 1 1 := csm_congr (by decide) _
@[sl_canon] theorem slAL0 (hh hs) : (bufA.slice (Rect.unit (s := S2x2816x2816) ![0, 0, 0] S1x2816x2816.size hh) hs).squeeze S2816x2816 squeezes_S1x2816x2816_S2816x2816 = slA 0 := slA_congr (by decide) _ _
@[sl_canon] theorem slBL0 (hh hs) : (bufB.slice (Rect.unit (s := S2x2816x1408) ![0, 0, 0] S1x2816x1408.size hh) hs).squeeze S2816x1408 squeezes_S1x2816x1408_S2816x1408 = slB 0 := slB_congr (by decide) _ _
@[sl_canon] theorem slAL1 (hh hs) : (bufA.slice (Rect.unit (s := S2x2816x2816) k0_off17 S1x2816x2816.size hh) hs).squeeze S2816x2816 squeezes_S1x2816x2816_S2816x2816 = slA 1 := slA_congr (by decide) _ _
@[sl_canon] theorem slBL1 (hh hs) : (bufB.slice (Rect.unit (s := S2x2816x1408) k0_off20 S1x2816x1408.size hh) hs).squeeze S2816x1408 squeezes_S1x2816x1408_S2816x1408 = slB 1 := slB_congr (by decide) _ _
@[sl_canon] theorem rowA18 (w : BitVec 32) (h : w.toNat < 16) (hh hs) : (wA.slice (Rect.unit (s := S16x2816x2816) (k0_off18 w) S1x2816x2816.size hh) hs).squeeze S2816x2816 squeezes_S1x2816x2816_S2816x2816 = rowA (eOf w) := rowA_congr (rOff_eOf h) _ _
@[sl_canon] theorem rowB21 (w : BitVec 32) (h : w.toNat < 16) (hh hs) : (wB.slice (Rect.unit (s := S16x2816x1408) (k0_off21 w) S1x2816x1408.size hh) hs).squeeze S2816x1408 squeezes_S1x2816x1408_S2816x1408 = rowB (eOf w) := rowB_congr (rOff_eOf h) _ _
@[sl_canon] theorem rowA25 (w : BitVec 32) (h : w.toNat < 16) (hh hs) : (wA.slice (Rect.unit (s := S16x2816x2816) (k0_off25 w) S1x2816x2816.size hh) hs).squeeze S2816x2816 squeezes_S1x2816x2816_S2816x2816 = rowA (eOf w) := rowA_congr (rOff_eOf h) _ _
@[sl_canon] theorem rowB28 (w : BitVec 32) (h : w.toNat < 16) (hh hs) : (wB.slice (Rect.unit (s := S16x2816x1408) (k0_off28 w) S1x2816x1408.size hh) hs).squeeze S2816x1408 squeezes_S1x2816x1408_S2816x1408 = rowB (eOf w) := rowB_congr (rOff_eOf h) _ _
@[sl_canon] theorem rowA32 (w : BitVec 32) (h : w.toNat < 16) (hh hs) : (wA.slice (Rect.unit (s := S16x2816x2816) (k0_off32 w) S1x2816x2816.size hh) hs).squeeze S2816x2816 squeezes_S1x2816x2816_S2816x2816 = rowA (eOf w) := rowA_congr (rOff_eOf h) _ _
@[sl_canon] theorem rowB35 (w : BitVec 32) (h : w.toNat < 16) (hh hs) : (wB.slice (Rect.unit (s := S16x2816x1408) (k0_off35 w) S1x2816x1408.size hh) hs).squeeze S2816x1408 squeezes_S1x2816x1408_S2816x1408 = rowB (eOf w) := rowB_congr (rOff_eOf h) _ _

/-! Trip `k`'s slices: slot `k % 2` refilled, slot `(k + 1) % 2` waited. -/

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips)

@[sl_canon] theorem sem23 (hh) : (cc0_scratch5.slice (Rect.unit (s := S2x2) (k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 0 (Ring.sl 2 k.val) := csm_congr (off23_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem26 (hh) : (cc0_scratch5.slice (Rect.unit (s := S2x2) (k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 1 (Ring.sl 2 k.val) := csm_congr (off26_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem30 (hh) : (cc0_scratch5.slice (Rect.unit (s := S2x2) (k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 0 (Ring.sl 2 (k.val + 1)) := csm_congr (off30_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem33 (hh) : (cc0_scratch5.slice (Rect.unit (s := S2x2) (k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 1 (Ring.sl 2 (k.val + 1)) := csm_congr (off33_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem slA24 (hh hs) : (bufA.slice (Rect.unit (s := S2x2816x2816) (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x2816.size hh) hs).squeeze S2816x2816 squeezes_S1x2816x2816_S2816x2816 = slA (Ring.sl 2 k.val) := slA_congr (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slA31 (hh hs) : (bufA.slice (Rect.unit (s := S2x2816x2816) (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x2816.size hh) hs).squeeze S2816x2816 squeezes_S1x2816x2816_S2816x2816 = slA (Ring.sl 2 (k.val + 1)) := slA_congr (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slB27 (hh hs) : (bufB.slice (Rect.unit (s := S2x2816x1408) (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x1408.size hh) hs).squeeze S2816x1408 squeezes_S1x2816x1408_S2816x1408 = slB (Ring.sl 2 k.val) := slB_congr (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slB34 (hh hs) : (bufB.slice (Rect.unit (s := S2x2816x1408) (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x1408.size hh) hs).squeeze S2816x1408 squeezes_S1x2816x1408_S2816x1408 = slB (Ring.sl 2 (k.val + 1)) := slB_congr (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _

instance : ClosedOff (k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff (k.val + 1), off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff k.val, off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff k.val, off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨aOff (Ring.sl 2 (k.val + 1)), off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨hOff (Ring.sl 2 (k.val + 1)), off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨aOff (Ring.sl 2 (k.val + 1)), off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩

end

end Cert.Proof.RunKernelIdeal
-- ==== Proof.KernelIdealReads.lean ====
/-
  What the loads read: an expert's rows landed in a slot of the ring buffers, as rows of the stacked weight arrays;
  and the shared expert's weights landed in slot 0.
-/
module

public import proofs.«01_k».proof.Proof.KernelIdealNames
public import Idealize.ShloMosaic.Lib.Pipeline.Value

@[expose] public section

noncomputable section

namespace Cert.Proof.RunKernelIdeal

open Cert.KernelIdeal Cert.KernelIdeal.Gen
open Idealize.ShloMosaic
open Idealize.ShloMosaic.TcCoe Idealize.ShloMosaic.Tactic
open Cert.Proof.Bits

variable {F : FTy → Type} [FloatOps F]

/-- Indices of the arrays read, by coordinates. -/
def ixA (e : Fin 16) (b c : Fin 2816) : S16x2816x2816.Idx := fun a => match a with | 0 => e | 1 => b | 2 => c
def ixB (e : Fin 16) (b : Fin 2816) (c : Fin 1408) : S16x2816x1408.Idx := fun a => match a with | 0 => e | 1 => b | 2 => c
def ixa (b c : Fin 2816) : S2816x2816.Idx := fun a => match a with | 0 => b | 1 => c
def ixb (b : Fin 2816) (c : Fin 1408) : S2816x1408.Idx := fun a => match a with | 0 => b | 1 => c

/-- Row `i` of the first half, -/
def lo (i : Fin 1408) : Fin 2816 := ⟨i.val, by omega⟩
/-- of the second half, of 2816 rows. -/
def hi (i : Fin 1408) : Fin 2816 := ⟨1408 + i.val, by omega⟩

/-- The first half of the rows of a matrix; the second half; the second matrix's rows: each as the body loads it. -/
def gate (p : S2816x2816.Idx → Elt F .i8) : S1x1408x2816.Idx → Elt F .i8 := fun i => p (ixa (lo (i 1)) (i 2))
def up (p : S2816x2816.Idx → Elt F .i8) : S1x1408x2816.Idx → Elt F .i8 := fun i => p (ixa (hi (i 1)) (i 2))
def down (p : S2816x1408.Idx → Elt F .i8) : S1x2816x1408.Idx → Elt F .i8 := fun i => p (ixb (i 1) (i 2))
/-- Expert `e`'s two matrices. -/
def exA (X : S16x2816x2816.Idx → Elt F .i8) (e : Fin 16) : S2816x2816.Idx → Elt F .i8 := fun i => X (ixA e (i 0) (i 1))
def exB (X : S16x2816x1408.Idx → Elt F .i8) (e : Fin 16) : S2816x1408.Idx → Elt F .i8 := fun i => X (ixB e (i 0) (i 1))

/-- A view of one leading row of an array, squeezed, reads the array's row. -/
theorem squeezed_at {sp : Space} {e : EltTy} {n0 n1 n2 : ℕ} (M : Memref sig .tc sp ⟨3, ![n0, n1, n2]⟩ e) (s : ℕ)
    (inb : ∀ a, (![s, 0, 0] : Fin 3 → ℕ) a + (![1, n1, n2] : Fin 3 → ℕ) a ≤ (![n0, n1, n2] : Fin 3 → ℕ) a)
    (hq : (⟨3, ![1, n1, n2]⟩ : Shape).Squeezes ⟨2, ![n1, n2]⟩) (f : M.view.ty.Contents (Elt F)) (j : (⟨2, ![n1, n2]⟩ : Shape).Idx)
    (y : (⟨3, ![n0, n1, n2]⟩ : Shape).Idx) (h0 : (y 0).val = s) (h1 : (y 1).val = (j 0).val) (h2 : (y 2).val = (j 1).val) :
    M.view.read (Elt F) f y
      = ((M.slice (Rect.unit (s := ⟨3, ![n0, n1, n2]⟩) ![s, 0, 0] ![1, n1, n2] inb) (fun _ => rfl)).squeeze ⟨2, ![n1, n2]⟩ hq).view.read (Elt F) f j := by
  rw [Memref.read_squeeze_slice (Val := Elt F) M (Rect.unit (s := ⟨3, ![n0, n1, n2]⟩) ![s, 0, 0] ![1, n1, n2] inb) (fun _ => rfl) hq hq.numel_eq f]
  refine Eq.trans ?_ (shapeCast_dropUnit_apply ![n1, n2] _ hq.numel_eq j).symm
  rw [View.readAt_apply]
  congr 1
  funext a
  apply Fin.ext
  fin_cases a
  · show (y 0).val = s + 1 * 0; omega
  · show (y 1).val = 0 + 1 * (j 0).val; omega
  · show (y 2).val = 0 + 1 * (j 1).val; omega

theorem slotA_at (s : Fin 2) (f : (slA s).view.ty.Contents (Elt F)) (j : S2816x2816.Idx)
    (y : S2x2816x2816.Idx) (h0 : (y 0).val = s.val) (h1 : (y 1).val = (j 0).val) (h2 : (y 2).val = (j 1).val) :
    bufA.view.read (Elt F) f y = (slA s).view.read (Elt F) f j :=
  squeezed_at bufA s.val (aOff_inbA s) squeezes_S1x2816x2816_S2816x2816 f j y h0 h1 h2
theorem slotB_at (s : Fin 2) (f : (slB s).view.ty.Contents (Elt F)) (j : S2816x1408.Idx)
    (y : S2x2816x1408.Idx) (h0 : (y 0).val = s.val) (h1 : (y 1).val = (j 0).val) (h2 : (y 2).val = (j 1).val) :
    bufB.view.read (Elt F) f y = (slB s).view.read (Elt F) f j :=
  squeezed_at bufB s.val (aOff_inbB s) squeezes_S1x2816x1408_S2816x1408 f j y h0 h1 h2

/-- Expert `e`'s rows, read through the view the transfers take. -/
theorem rowA_read (e : Fin 16) (X : wA.view.ty.Contents (Elt F)) : (rowA e).view.read (Elt F) X = exA (wA.view.read (Elt F) X) e := by
  funext j
  exact (squeezed_at wA e.val (rOff_inbA e) squeezes_S1x2816x2816_S2816x2816 X j (ixA e (j 0) (j 1)) rfl rfl rfl).symm
theorem rowB_read (e : Fin 16) (X : wB.view.ty.Contents (Elt F)) : (rowB e).view.read (Elt F) X = exB (wB.view.read (Elt F) X) e := by
  funext j
  exact (squeezed_at wB e.val (rOff_inbB e) squeezes_S1x2816x1408_S2816x1408 X j (ixB e (j 0) (j 1)) rfl rfl rfl).symm

/-- The three loads out of a slot holding `p`. -/
theorem load_gate (s : Fin 2) {o : Fin 3 → ℕ} (eo : o = aOff s) (h : ∀ a, o a + S1x1408x2816.size a ≤ S2x2816x2816.size a)
    (f : (slA s).view.ty.Contents (Elt F)) (p : S2816x2816.Idx → Elt F .i8) :
    bufA.view.readAt (Elt F) (Rect.unit (s := S2x2816x2816) o S1x1408x2816.size h).toLoadRect
      ((slA s).view.writes (Elt F) f [⟨Rect.whole S2816x2816, p⟩]) = gate p := by
  subst eo; funext i
  refine Eq.trans (slotA_at s _ (ixa (lo (i 1)) (i 2)) _ ?_ ?_ ?_) (congrFun (View.read_writes_whole (Val := Elt F) (slA s).view f p) _)
  · have := (i 0).isLt; show s.val + 1 * (i 0).val = s.val; have h1 : (i 0).val < 1 := this; omega
  · show 0 + 1 * (i 1).val = (i 1).val; omega
  · show 0 + 1 * (i 2).val = (i 2).val; omega
theorem load_up (s : Fin 2) {o : Fin 3 → ℕ} (eo : o = hOff s) (h : ∀ a, o a + S1x1408x2816.size a ≤ S2x2816x2816.size a)
    (f : (slA s).view.ty.Contents (Elt F)) (p : S2816x2816.Idx → Elt F .i8) :
    bufA.view.readAt (Elt F) (Rect.unit (s := S2x2816x2816) o S1x1408x2816.size h).toLoadRect
      ((slA s).view.writes (Elt F) f [⟨Rect.whole S2816x2816, p⟩]) = up p := by
  subst eo; funext i
  refine Eq.trans (slotA_at s _ (ixa (hi (i 1)) (i 2)) _ ?_ ?_ ?_) (congrFun (View.read_writes_whole (Val := Elt F) (slA s).view f p) _)
  · have := (i 0).isLt; show s.val + 1 * (i 0).val = s.val; have h1 : (i 0).val < 1 := this; omega
  · show 1408 + 1 * (i 1).val = 1408 + (i 1).val; omega
  · show 0 + 1 * (i 2).val = (i 2).val; omega
theorem load_down (s : Fin 2) {o : Fin 3 → ℕ} (eo : o = aOff s) (h : ∀ a, o a + S1x2816x1408.size a ≤ S2x2816x1408.size a)
    (f : (slB s).view.ty.Contents (Elt F)) (p : S2816x1408.Idx → Elt F .i8) :
    bufB.view.readAt (Elt F) (Rect.unit (s := S2x2816x1408) o S1x2816x1408.size h).toLoadRect
      ((slB s).view.writes (Elt F) f [⟨Rect.whole S2816x1408, p⟩]) = down p := by
  subst eo; funext i
  refine Eq.trans (slotB_at s _ (ixb (i 1) (i 2)) _ ?_ ?_ ?_) (congrFun (View.read_writes_whole (Val := Elt F) (slB s).view f p) _)
  · have := (i 0).isLt; show s.val + 1 * (i 0).val = s.val; have h1 : (i 0).val < 1 := this; omega
  · show 0 + 1 * (i 1).val = (i 1).val; omega
  · show 0 + 1 * (i 2).val = (i 2).val; omega

/-- A whole store into the accumulator, read back. -/
abbrev R00 : Rect S8x2816 := Rect.unit (s := S8x2816) ![0, 0] S8x2816.size inb_S8x2816_S8x2816_0_0
theorem acc_read (f : accM.view.ty.Contents (Elt F)) (w : S8x2816.Idx → Elt F .f32) :
    accM.view.readAt (Elt F) R00.toLoadRect (accM.view.writes (Elt F) f [⟨R00, w⟩]) = w := by
  funext y
  exact View.read_writes_cons_emb accM.view f R00 w [] y

def ixs (e : Fin 16) (c : Fin 2816) : S16x2816.Idx := fun a => match a with | 0 => e | 1 => c
/-- Row `e` of a table of sixteen rows of scales, as the body loads it. -/
def row (g : S16x2816.Idx → Elt F .f32) (e : Fin 16) : S1x2816.Idx → Elt F .f32 := fun i => g (ixs e (i 1))
theorem load_row {sp : Space} (M : Memref sig .tc sp S16x2816 .f32) (e : Fin 16) {o : Fin 2 → ℕ} (eo : o = ![e.val, 0])
    (h : ∀ a, o a + S1x2816.size a ≤ S16x2816.size a) (g : M.view.ty.Contents (Elt F)) :
    M.view.readAt (Elt F) (Rect.unit (s := S16x2816) o S1x2816.size h).toLoadRect g = row (M.view.read (Elt F) g) e := by
  subst eo; funext i
  rw [View.readAt_apply]; unfold row; congr 1; funext a; apply Fin.ext; fin_cases a
  · show e.val + 1 * (i 0).val = e.val; have h1 : (i 0).val < 1 := (i 0).isLt; omega
  · show 0 + 1 * (i 1).val = (i 1).val; omega
/-- A load at offset zero of the whole extent reads everything. -/
theorem load_zero {sp : Space} {s : Shape} {e : EltTy} (v : View sig .tc sp s e) {o : Fin s.rank → ℕ} (eo : o = fun _ => 0)
    (h : ∀ a, o a + s.size a ≤ s.size a) (g : v.ty.Contents (Elt F)) :
    v.readAt (Elt F) (Rect.unit (s := s) o s.size h).toLoadRect g = v.read (Elt F) g := by
  subst eo; funext i
  rw [View.readAt_apply]; congr 1; funext a; apply Fin.ext
  show 0 + 1 * (i a).val = (i a).val; omega

/-- One expert's contribution added to the accumulator `a`: `w` the expert's number, `wte` the dense table of the
    tokens' weights per expert, `x` the tokens, `s13`, `s2` the two tables of scales, `w13`, `w2` the stacked weights. -/
def accStep (v478 : IVec S8x128 32) (wte : Vec F S8x128 .f32) (x : Vec F S8x1x2816 .bf16) (s13 s2 : Vec F S16x2816 .f32)
    (w13 : S16x2816x2816.Idx → Elt F .i8) (w2 : S16x2816x1408.Idx → Elt F .i8) (w : BitVec 32) (a : Vec F S8x2816 .f32) : Vec F S8x2816 .f32 :=
  k0_pay16 (k0_pay1 v478 w wte) (row s13 (eOf w)) (row s2 (eOf w)) x (gate (exA w13 (eOf w))) (up (exA w13 (eOf w))) (down (exB w2 (eOf w))) a

end Cert.Proof.RunKernelIdeal
-- ==== Proof.KernelIdealTrip.lean ====
/-
  One trip of the main loop: the pieces it holds, and its run.
-/
module

public import proofs.«01_k».proof.Proof.KernelIdealReads

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ
abbrev 𝒱₀ : Variants := Variants.none

theorem rowA_sub (e : Fin 16) : (rowA e).view.set ⊆ wA.view.set := by
  show _ ⊆ (View.whole main_arg3).set; rw [View.set_whole]; exact Finset.subset_univ _
theorem rowB_sub (e : Fin 16) : (rowB e).view.set ⊆ wB.view.set := by
  show _ ⊆ (View.whole main_arg5).set; rw [View.set_whole]; exact Finset.subset_univ _

section Pieces
variable (c : Dev nD)
  (XA : Buf (Elt F) (wA.view.loc (c : Thread nD τ))) (XB : Buf (Elt F) (wB.view.loc (c : Thread nD τ)))

abbrev cellP (r s : Fin 2) : sProp 𝕄 := semVal ((c : Thread nD τ), SemLoc.dma (csm r s).sem) 0
abbrev slotA (s : Fin 2) (f : Buf (Elt F) ((slA s).view.loc (c : Thread nD τ))) : sProp 𝕄 :=
  (slA s).view.loc (c : Thread nD τ) ↦[(slA s).view.set]{fullShare} f
abbrev slotB (s : Fin 2) (f : Buf (Elt F) ((slB s).view.loc (c : Thread nD τ))) : sProp 𝕄 :=
  (slB s).view.loc (c : Thread nD τ) ↦[(slB s).view.set]{fullShare} f
/-- What expert `e`'s transfers leave in slot `s`. -/
abbrev landA (s : Fin 2) (e : Fin 16) (f : Buf (Elt F) ((slA s).view.loc (c : Thread nD τ))) : Buf (Elt F) ((slA s).view.loc (c : Thread nD τ)) :=
  (slA s).view.writes (Elt F) f [⟨Rect.whole S2816x2816, ReadAs.same.apply ((rowA e).view.read (Elt F) XA)⟩]
abbrev landB (s : Fin 2) (e : Fin 16) (f : Buf (Elt F) ((slB s).view.loc (c : Thread nD τ))) : Buf (Elt F) ((slB s).view.loc (c : Thread nD τ)) :=
  (slB s).view.writes (Elt F) f [⟨Rect.whole S2816x1408, ReadAs.same.apply ((rowB e).view.read (Elt F) XB)⟩]

/-- Half of each stacked weight array's share serves the transfers into one slot. -/
def shr (s : Fin 2) : PosShare TreeShare := if s = 0 then (fullShare : PosShare TreeShare).left else (fullShare : PosShare TreeShare).right

/-- The stacked arrays at slot `s`'s half. -/
abbrev homeA (s : Fin 2) : sProp 𝕄 := wA.view.loc (c : Thread nD τ) ↦[wA.view.set]{shr s} XA
abbrev homeB (s : Fin 2) : sProp 𝕄 := wB.view.loc (c : Thread nD τ) ↦[wB.view.set]{shr s} XB
/-- The same less expert `e`'s rows. -/
abbrev restA (s : Fin 2) (e : Fin 16) : sProp 𝕄 := wA.view.loc (c : Thread nD τ) ↦[wA.view.set \ (rowA e).view.set]{shr s} XA
abbrev restB (s : Fin 2) (e : Fin 16) : sProp 𝕄 := wB.view.loc (c : Thread nD τ) ↦[wB.view.set \ (rowB e).view.set]{shr s} XB
/-- Expert `e`'s rows in flight into slot `s`. -/
abbrev flyA (s : Fin 2) (e : Fin 16) (f : Buf (Elt F) ((slA s).view.loc (c : Thread nD τ))) : sProp 𝕄 :=
  Transfers.Flight countersEmb (c : Thread nD τ) (SemLoc.dma (csm 0 s).sem) () 247808
    iprop(slotA c s (landA c XA s e f) ∗ (rowA e).view.loc (c : Thread nD τ) ↦[(rowA e).view.set]{shr s} XA)
abbrev flyB (s : Fin 2) (e : Fin 16) (f : Buf (Elt F) ((slB s).view.loc (c : Thread nD τ))) : sProp 𝕄 :=
  Transfers.Flight countersEmb (c : Thread nD τ) (SemLoc.dma (csm 1 s).sem) () 123904
    iprop(slotB c s (landB c XB s e f) ∗ (rowB e).view.loc (c : Thread nD τ) ↦[(rowB e).view.set]{shr s} XB)

/-- Slot `s` idle: both ring buffers' slots at anything, the two semaphores at zero, the slot's half of the weights. -/
def idle (s : Fin 2) : sProp 𝕄 :=
  iprop((∃ f, slotA c s f) ∗ (∃ f, slotB c s f) ∗ cellP c 0 s ∗ cellP c 1 s ∗ homeA c XA s ∗ homeB c XB s)
/-- Slot `s` being filled with expert `e`'s rows. -/
def fly (s : Fin 2) (e : Fin 16) : sProp 𝕄 :=
  iprop((∃ f, flyA c XA s e f) ∗ (∃ f, flyB c XB s e f) ∗ restA c XA s e ∗ restB c XB s e)
theorem homeA_take (s : Fin 2) (e : Fin 16) :
    homeA c XA s ⊢ iprop(((rowA e).view.loc (c : Thread nD τ) ↦[(rowA e).view.set]{shr s} XA) ∗ restA c XA s e) :=
  (pointsTo_split_subset (rowA_sub e)).1
theorem homeB_take (s : Fin 2) (e : Fin 16) :
    homeB c XB s ⊢ iprop(((rowB e).view.loc (c : Thread nD τ) ↦[(rowB e).view.set]{shr s} XB) ∗ restB c XB s e) :=
  (pointsTo_split_subset (rowB_sub e)).1
theorem homeA_back (s : Fin 2) (e : Fin 16) :
    iprop(((rowA e).view.loc (c : Thread nD τ) ↦[(rowA e).view.set]{shr s} XA) ∗ restA c XA s e) ⊢ homeA c XA s :=
  (pointsTo_split_subset (rowA_sub e)).2
theorem homeB_back (s : Fin 2) (e : Fin 16) :
    iprop(((rowB e).view.loc (c : Thread nD τ) ↦[(rowB e).view.set]{shr s} XB) ∗ restB c XB s e) ⊢ homeB c XB s :=
  (pointsTo_split_subset (rowB_sub e)).2
end Pieces

section Trip
variable (c : Dev nD)
  (XA : Buf (Elt F) (wA.view.loc (c : Thread nD τ))) (XB : Buf (Elt F) (wB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v470 : BitVec 32) (v478 : IVec S8x128 32)
  (v550 v552 : FVec F S1x2816 .f32) (v561 v565 : FVec F S8x1408 .f32)

abbrev tripG (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Prog (TpuEff nD τ sig (Elt F) Λ₀ .tc) Unit :=
  k0_t1_body (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k ()

/-- Word `j` of the table, as the body loads it. -/
abbrev tabAt (fT : Buf (Elt F) (ordM.view.loc (c : Thread nD τ))) (j : ℕ) (hj : j < 16) : BitVec 32 :=
  ordM.view.readAt (Elt F) (Rect.unit (s := S16) (oOff j) S1.size (oOff_inb j hj)).toLoadRect fT (Shape.Idx.first (show 0 < S1.numel by decide))

variable
  (fT : Buf (Elt F) (ordM.view.loc (c : Thread nD τ))) (fW : Buf (Elt F) (wteM.view.loc (c : Thread nD τ)))
  (g3 : Buf (Elt F) (arg3.view.loc (c : Thread nD τ))) (g4 : Buf (Elt F) (arg4.view.loc (c : Thread nD τ))) (g5 : Buf (Elt F) (arg5.view.loc (c : Thread nD τ)))

/-- The load of a word at an offset known to be `j` reads word `j`. -/
theorem tab_congr {o : Fin 1 → Nat} (j : ℕ) (hj : j < 16) (h : ∀ a, o a + S1.size a ≤ S16.size a) (e : o = oOff j) (i : (S1 : Shape).Idx) :
    ordM.view.readAt (Elt F) (Rect.unit (s := S16) o S1.size h).toLoadRect fT i = tabAt c fT j hj := by
  subst e; congr 1; funext a; apply Fin.ext; have h1 := (i a).isLt; have h2 := (Shape.Idx.first (show 0 < S1.numel by decide) a).isLt; fin_cases a; simp at h1 h2 ⊢; omega

/-- What every trip holds beside the ring: the order table, the weight table, the accumulator, the tokens and the two
    tables of scales. -/
abbrev kept (fa : Buf (Elt F) (accM.view.loc (c : Thread nD τ))) : sProp 𝕄 :=
  iprop((ordM.view.loc (c : Thread nD τ) ↦[ordM.view.set]{fullShare} fT)
      ∗ (wteM.view.loc (c : Thread nD τ) ↦[wteM.view.set]{fullShare} fW)
      ∗ (accM.view.loc (c : Thread nD τ) ↦[accM.view.set]{fullShare} fa)
      ∗ (arg3.view.loc (c : Thread nD τ) ↦[arg3.view.set]{fullShare} g3)
      ∗ (arg4.view.loc (c : Thread nD τ) ↦[arg4.view.set]{fullShare} g4)
      ∗ (arg5.view.loc (c : Thread nD τ) ↦[arg5.view.set]{fullShare} g5)
      ∗ (∃ W, owes (c : Thread nD τ) 0 W))
/-- The accumulator's values. -/
abbrev accOf (fa : Buf (Elt F) (accM.view.loc (c : Thread nD τ))) : Vec F S8x2816 .f32 := accM.view.readAt (Elt F) R00.toLoadRect fa
/-- The accumulator after the active expert number `j` is added. -/
abbrev stepAt (M : BitVec 32) (j : ℕ) (a : Vec F S8x2816 .f32) : Vec F S8x2816 .f32 :=
  accStep v478 (wteM.view.read (Elt F) fW) (arg3.view.read (Elt F) g3) (arg4.view.read (Elt F) g4) (arg5.view.read (Elt F) g5)
    (wA.view.read (Elt F) XA) (wB.view.read (Elt F) XB) (BitVec.ofNat 32 (ord M j)) a

/-- ONE TRIP with a next expert: its transfers are issued into the idle slot, this trip's expert is waited for, read and added. -/
theorem tripA (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (hk : k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
    (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (fa : Buf (Elt F) (accM.view.loc (c : Thread nD τ))) :
    iprop(fly c XA XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) ∗ idle c XA XB (Ring.sl 2 k.val) ∗ kept c arg3 arg4 arg5 fT fW g3 g4 g5 fa)
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => iprop(fly c XA XB (Ring.sl 2 k.val) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1)) ∗ idle c XA XB (Ring.sl 2 (k.val + 1))
        ∗ ∃ fa', ⌜accOf c fa' = stepAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val (accOf c fa)⌝ ∗ kept c arg3 arg4 arg5 fT fW g3 g4 g5 fa')) := by
  have hkN := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hc := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).2 hk
  unfold fly idle
  iintro ⟨⟨⟨%f0, HFA⟩, ⟨%f1, HFB⟩, HrA, HrB⟩, ⟨⟨%f2, HsA⟩, ⟨%f3, HsB⟩, Hc0, Hc1, HhA, HhB⟩, HT, HW, HACC, H3, H4, H5, ⟨%W, HO⟩⟩
  dsimp only [tripG, wA, wB, shA, shB, bufA, bufB, accM, wteM, ordM]
  sl_unfold [k0_t1_body]
  sl_exec
  sl_step
  sl_exec
  have hw1 : tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1)) := by
    unfold tripA.sl.r
    exact (tab_congr c fT (k.val + 1) (by omega) _ (off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ hk)
  have hl1 : (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc).toNat < 16 := by
    rw [hw1]; exact word_lt _ _
  have h3 := chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k _ hl1
  sl_exec
  ihave HhA := (homeA_take c XA (Ring.sl 2 k.val) (eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc))) $$ HhA
  icases HhA with ⟨HwA, HnA⟩
  ihave HhB := (homeB_take c XB (Ring.sl 2 k.val) (eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc))) $$ HhB
  icases HhB with ⟨HwB, HnB⟩
  sl_exec
  have hw2 : tripA.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripA.sl.r_1
    exact (tab_congr c fT k.val (by omega) _ (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl2 : (tripA.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw2]; exact word_lt _ _
  have h4 := chk4 _ hl2
  sl_exec
  have hw3 : tripA.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripA.sl.r_2
    exact (tab_congr c fT k.val (by omega) _ (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl3 : (tripA.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw3]; exact word_lt _ _
  have h5 := chk5 _ hl3
  sl_exec
  sl_step
  sl_exec
  sl_step
  sl_exec
  sl_step
  isplitl [Hc0 Hc1 HnA HnB]
  · have he : eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1) = eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc) := congrArg eOf hw1.symm
    rw [he]
    isplitl [Hc0]; · iexists f2; iexact Hc0
    isplitl [Hc1]; · iexists f3; iexact Hc1
    isplitl [HnA]; · iexact HnA
    iexact HnB
  isplitl [HFA_dst HFB_dst HFA HFB HFA_src HFB_src HrA HrB]
  · isplitl [HFA_dst]; · iexists _; iexact HFA_dst
    isplitl [HFB_dst]; · iexists _; iexact HFB_dst
    isplitl [HFA]; · iexact HFA
    isplitl [HFB]; · iexact HFB
    isplitl [HFA_src HrA]
    · iapply (homeA_back c XA (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFA_src]; · iexact HFA_src
      iexact HrA
    · iapply (homeB_back c XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFB_src]; · iexact HFB_src
      iexact HrB
  iexists _
  isplitr
  rotate_left
  · isplitl [HT]; · iexact HT
    isplitl [HW]; · iexact HW
    isplitl [HACC]; · iexact HACC
    isplitl [H3]; · iexact H3
    isplitl [H4]; · iexact H4
    isplitl [H5]; · iexact H5
    iexists _; iexact HO
  · ipureintro
    refine (acc_read _ _).trans ?_
    have q1 : tripA.sl.r_3 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v478 fT fW k = k0_pay1 v478 (BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)) (wteM.view.read (Elt F) fW) := by
      unfold tripA.sl.r_3
      rw [hw3]
      exact congrArg (k0_pay1 v478 _) (load_zero wteM.view (by funext a; fin_cases a <;> rfl) _ fW)
    exact congrFun (congr (congr (congr (congr (congr (congr (congrArg k0_pay16 q1)
      (load_row arg4 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g4)) (load_row arg5 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g5))
      (load_zero arg3.view (by funext a; fin_cases a <;> rfl) _ g3))
      ((load_gate _ (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg gate (rowA_read _ _))))
      ((load_up _ (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg up (rowA_read _ _))))
      ((load_down _ (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg down (rowB_read _ _)))) _

/-- ONE TRIP, the last: nothing is issued, the slot stays idle. -/
theorem tripB (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (hk : ¬ k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
    (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (fa : Buf (Elt F) (accM.view.loc (c : Thread nD τ))) :
    iprop(fly c XA XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) ∗ idle c XA XB (Ring.sl 2 k.val) ∗ kept c arg3 arg4 arg5 fT fW g3 g4 g5 fa)
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => iprop(idle c XA XB (Ring.sl 2 k.val) ∗ idle c XA XB (Ring.sl 2 (k.val + 1))
        ∗ ∃ fa', ⌜accOf c fa' = stepAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val (accOf c fa)⌝ ∗ kept c arg3 arg4 arg5 fT fW g3 g4 g5 fa')) := by
  have hkN := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hc := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).not.2 hk
  unfold fly idle
  iintro ⟨⟨⟨%f0, HFA⟩, ⟨%f1, HFB⟩, HrA, HrB⟩, ⟨⟨%f2, HsA⟩, ⟨%f3, HsB⟩, Hc0, Hc1, HhA, HhB⟩, HT, HW, HACC, H3, H4, H5, ⟨%W, HO⟩⟩
  dsimp only [tripG, wA, wB, shA, shB, bufA, bufB, accM, wteM, ordM]
  sl_unfold [k0_t1_body]
  sl_exec
  sl_step
  sl_exec
  have hw2 : tripB.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripB.sl.r
    exact (tab_congr c fT k.val (by omega) _ (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl2 : (tripB.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw2]; exact word_lt _ _
  have h4 := chk4 _ hl2
  sl_exec
  have hw3 : tripB.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripB.sl.r_1
    exact (tab_congr c fT k.val (by omega) _ (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl3 : (tripB.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw3]; exact word_lt _ _
  have h5 := chk5 _ hl3
  sl_exec
  sl_step
  sl_exec
  sl_step
  sl_exec
  sl_step
  isplitl [HsA HsB Hc0 Hc1 HhA HhB]
  · isplitl [HsA]; · iexists _; iexact HsA
    isplitl [HsB]; · iexists _; iexact HsB
    isplitl [Hc0]; · iexact Hc0
    isplitl [Hc1]; · iexact Hc1
    isplitl [HhA]; · iexact HhA
    iexact HhB
  isplitl [HFA_dst HFB_dst HFA HFB HFA_src HFB_src HrA HrB]
  · isplitl [HFA_dst]; · iexists _; iexact HFA_dst
    isplitl [HFB_dst]; · iexists _; iexact HFB_dst
    isplitl [HFA]; · iexact HFA
    isplitl [HFB]; · iexact HFB
    isplitl [HFA_src HrA]
    · iapply (homeA_back c XA (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFA_src]; · iexact HFA_src
      iexact HrA
    · iapply (homeB_back c XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFB_src]; · iexact HFB_src
      iexact HrB
  iexists _
  isplitr
  rotate_left
  · isplitl [HT]; · iexact HT
    isplitl [HW]; · iexact HW
    isplitl [HACC]; · iexact HACC
    isplitl [H3]; · iexact H3
    isplitl [H4]; · iexact H4
    isplitl [H5]; · iexact H5
    iexists _; iexact HO
  · ipureintro
    refine (acc_read _ _).trans ?_
    have q1 : tripB.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v478 fT fW k = k0_pay1 v478 (BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)) (wteM.view.read (Elt F) fW) := by
      unfold tripB.sl.r_2
      rw [hw3]
      exact congrArg (k0_pay1 v478 _) (load_zero wteM.view (by funext a; fin_cases a <;> rfl) _ fW)
    exact congrFun (congr (congr (congr (congr (congr (congr (congrArg k0_pay16 q1)
      (load_row arg4 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g4)) (load_row arg5 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g5))
      (load_zero arg3.view (by funext a; fin_cases a <;> rfl) _ g3))
      ((load_gate _ (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg gate (rowA_read _ _))))
      ((load_up _ (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg up (rowA_read _ _))))
      ((load_down _ (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg down (rowB_read _ _)))) _

/-- The ring before trip `k`: while an expert is left, it is in flight into one slot and the other slot is idle; then
    both are idle. -/
def ring (M : BitVec 32) (N k : ℕ) : sProp 𝕄 :=
  if k < N then iprop(fly c XA XB (Ring.sl 2 (k + 1)) (eAt M k) ∗ idle c XA XB (Ring.sl 2 k))
  else iprop(idle c XA XB (Ring.sl 2 (k + 1)) ∗ idle c XA XB (Ring.sl 2 k))

/-- The accumulator before trip `k`: from `a0`, the first `k` active experts added in order. -/
def accAt (M : BitVec 32) (a0 : Vec F S8x2816 .f32) : ℕ → Vec F S8x2816 .f32
  | 0 => a0
  | k + 1 => stepAt c XA XB arg3 arg4 arg5 v478 fW g3 g4 g5 M k (accAt M a0 k)

/-- The main loop's invariant. -/
def inv (a0 : Vec F S8x2816 .f32) (k : ℕ) (_ : PUnit) : sProp 𝕄 :=
  iprop(ring c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k
    ∗ ∃ fa, ⌜accOf c fa = accAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a0 k⌝ ∗ kept c arg3 arg4 arg5 fT fW g3 g4 g5 fa)

theorem sl2_add2 (k : ℕ) : Ring.sl 2 (k + 1 + 1) = Ring.sl 2 k := by rw [show k + 1 + 1 = k + 2 from rfl, Ring.sl_add]

/-- One trip keeps the invariant. -/
theorem trip_inv (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j))
    (a0 : Vec F S8x2816 .f32) (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) :
    inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v478 fT fW g3 g4 g5 a0 k.val ()
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v478 fT fW g3 g4 g5 a0 (k.val + 1) ()) := by
  have hk := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  unfold inv ring
  rw [if_pos hk, sl2_add2]
  by_cases hn : k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  · rw [if_pos hn]
    iintro ⟨⟨HF, HI⟩, %fa, %ha, HK⟩
    iapply (wp_wand_r Idealize.ShloMosaic.frame (wpE (defs₀ (F := F)) 𝒱₀ (c : Thread nD τ) none) Set.univ)
    isplitl [HF HI HK]
    · iapply (tripA c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 fT fW g3 g4 g5 k hn hT fa)
      isplitl [HF]; · iexact HF
      isplitl [HI]; · iexact HI
      iexact HK
    · iintro %_ ⟨HF, HI, %fa', %ha', HK⟩
      isplitl [HF HI]
      · isplitl [HF]; · iexact HF
        iexact HI
      iexists fa'
      isplitr; · ipureintro; rw [ha', ha]; rfl
      iexact HK
  · rw [if_neg hn]
    iintro ⟨⟨HF, HI⟩, %fa, %ha, HK⟩
    iapply (wp_wand_r Idealize.ShloMosaic.frame (wpE (defs₀ (F := F)) 𝒱₀ (c : Thread nD τ) none) Set.univ)
    isplitl [HF HI HK]
    · iapply (tripB c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 fT fW g3 g4 g5 k hn hT fa)
      isplitl [HF]; · iexact HF
      isplitl [HI]; · iexact HI
      iexact HK
    · iintro %_ ⟨HF, HI, %fa', %ha', HK⟩
      isplitl [HF HI]
      · isplitl [HF]; · iexact HF
        iexact HI
      iexists fa'
      isplitr; · ipureintro; rw [ha', ha]; rfl
      iexact HK

end Trip

end Cert.Proof.RunKernelIdeal
-- ==== Proof.KernelIdealTail.lean ====
/-
  The body after the weight table is read: the shared expert, the loop over the active experts, the result.
-/
module

public import proofs.«01_k».proof.Proof.KernelIdealTrip
public import Idealize.ShloMosaic.Lib.LoopRemainder

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

/-- The lane numbers 0 to 127, once per token. -/
abbrev lanes : IVec S8x128 32 := iota .tc S8x128 32 [1] iota_S8x128_d1_w32

/-- The table of routing weights, one row per token and one lane per expert. -/
def wteV (ids : Vec F S8x1x6 .i32) (wts : Vec F S8x1x6 .f32) : Vec F S8x128 .f32 :=
  k0_pay8 (k0_pay3 ids) (k0_pay4 wts) lanes (k0_pay5 (F := F)) (k0_pay6 ids) (Scalar.ofBits .f32 0x00000000#32) (k0_pay7 wts)

/-- The accumulator once the shared expert is added. -/
def sharedV (x : Vec F S8x1x2816 .bf16) (s1 s2 : Vec F S1x2816 .f32) (w13 : Vec F S2816x2816 .i8) (w2 : Vec F S2816x1408 .i8) : Vec F S8x2816 .f32 :=
  k0_pay15 (k0_pay10 s1) (k0_pay11 s2) (k0_pay13 s1 x (gate w13)) (k0_pay14 x (up w13)) (down w2) (k0_pay9 (F := F))

/-- The accumulator after the first `k` active experts. -/
def accN (wte : Vec F S8x128 .f32) (x : Vec F S8x1x2816 .bf16) (s13 s2 : Vec F S16x2816 .f32)
    (w13 : Vec F S16x2816x2816 .i8) (w2 : Vec F S16x2816x1408 .i8) (M : BitVec 32) (a0 : Vec F S8x2816 .f32) : ℕ → Vec F S8x2816 .f32
  | 0 => a0
  | k + 1 => accStep lanes wte x s13 s2 w13 w2 (BitVec.ofNat 32 (ord M k)) (accN wte x s13 s2 w13 w2 M a0 k)

section Tail
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))

/-- The shared expert's two matrices in flight into slot 0. -/
abbrev flySA (f : Buf (Elt F) ((slA 0).view.loc (c : Thread nD τ))) : sProp 𝕄 :=
  Transfers.Flight countersEmb (c : Thread nD τ) (SemLoc.dma (csm 0 0).sem) () 247808
    iprop(slotA c 0 ((slA 0).view.writes (Elt F) f [⟨Rect.whole S2816x2816, ReadAs.same.apply (shA.view.read (Elt F) XsA)⟩])
      ∗ shA.view.loc (c : Thread nD τ) ↦[shA.view.set]{fullShare} XsA)
abbrev flySB (f : Buf (Elt F) ((slB 0).view.loc (c : Thread nD τ))) : sProp 𝕄 :=
  Transfers.Flight countersEmb (c : Thread nD τ) (SemLoc.dma (csm 1 0).sem) () 123904
    iprop(slotB c 0 ((slB 0).view.writes (Elt F) f [⟨Rect.whole S2816x1408, ReadAs.same.apply (shB.view.read (Elt F) XsB)⟩])
      ∗ shB.view.loc (c : Thread nD τ) ↦[shB.view.set]{fullShare} XsB)

variable
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v470 : BitVec 32)
  (ids : Vec F S8x1x6 .i32) (wts : Vec F S8x1x6 .f32)

abbrev tail2G : Prog (TpuEff nD τ sig (Elt F) Λ₀ .tc) PUnit := do
  k0_part19 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 (k0_pay3 ids) (k0_pay4 wts) lanes (k0_pay5 (F := F)) (k0_pay6 ids) (Scalar.ofBits .f32 0x00000000#32) (k0_pay7 wts)
  let ⟨v550, v552, v561, v565⟩ : Σ' (v550 : FVec F S1x2816 .f32) (v552 : FVec F S1x2816 .f32) (v561 : FVec F S8x1408 .f32), FVec F S8x1408 .f32 ← k0_part20 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5
  k0_part21 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 lanes v550 v552 v561 v565
  pure ⟨⟩

variable
  (fT : Buf (Elt F) (ordM.view.loc (c : Thread nD τ)))
  (g3 : Buf (Elt F) (arg3.view.loc (c : Thread nD τ))) (g4 : Buf (Elt F) (arg4.view.loc (c : Thread nD τ))) (g5 : Buf (Elt F) (arg5.view.loc (c : Thread nD τ)))
  (g6 : Buf (Elt F) (arg6.view.loc (c : Thread nD τ))) (g7 : Buf (Elt F) (arg7.view.loc (c : Thread nD τ)))

/-- The windows that the rest of the body reads. -/
abbrev wins : sProp 𝕄 :=
  iprop((arg3.view.loc (c : Thread nD τ) ↦[arg3.view.set]{fullShare} g3)
      ∗ (arg4.view.loc (c : Thread nD τ) ↦[arg4.view.set]{fullShare} g4)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ (∃ W, owes (c : Thread nD τ) 0 W))

/-- What the body computes. -/
abbrev outOf (M : BitVec 32) : Vec F S8x1x2816 .bf16 :=
  k0_pay18 (accN (wteV ids wts) (arg3.view.read (Elt F) g3) (arg4.view.read (Elt F) g4) (arg5.view.read (Elt F) g5)
    (wA.view.read (Elt F) XA) (wB.view.read (Elt F) XB) M
    (sharedV (arg3.view.read (Elt F) g3) (arg6.view.read (Elt F) g6) (arg7.view.read (Elt F) g7) (shA.view.read (Elt F) XsA) (shB.view.read (Elt F) XsB))
    (cnt M))

/-- The end of the body. -/
abbrev done (M : BitVec 32) : sProp 𝕄 :=
  iprop(idle c XA XB 1 ∗ idle c XA XB 0
    ∗ (shA.view.loc (c : Thread nD τ) ↦[shA.view.set]{fullShare} XsA) ∗ (shB.view.loc (c : Thread nD τ) ↦[shB.view.set]{fullShare} XsB)
    ∗ (∃ fW, wteM.view.loc (c : Thread nD τ) ↦[wteM.view.set]{fullShare} fW)
    ∗ (∃ fa, accM.view.loc (c : Thread nD τ) ↦[accM.view.set]{fullShare} fa)
    ∗ (∃ fT, ordM.view.loc (c : Thread nD τ) ↦[ordM.view.set]{fullShare} fT)
    ∗ wins c arg3 arg4 arg5 arg6 arg7 g3 g4 g5 g6 g7
    ∗ ∃ g12, ⌜arg12.view.read (Elt F) g12 = outOf c XA XB XsA XsB arg3 arg4 arg5 arg6 arg7 ids wts g3 g4 g5 g6 g7 M⌝
      ∗ (arg12.view.loc (c : Thread nD τ) ↦[arg12.view.set]{fullShare} g12))

theorem accAt_eq (fW : Buf (Elt F) (wteM.view.loc (c : Thread nD τ))) (M : BitVec 32) (a0 : Vec F S8x2816 .f32) (wte : Vec F S8x128 .f32)
    (h : wteM.view.read (Elt F) fW = wte) : ∀ k, accAt c XA XB arg3 arg4 arg5 lanes fW g3 g4 g5 M a0 k
      = accN wte (arg3.view.read (Elt F) g3) (arg4.view.read (Elt F) g4) (arg5.view.read (Elt F) g5) (wA.view.read (Elt F) XA) (wB.view.read (Elt F) XB) M a0 k
  | 0 => rfl
  | k + 1 => by rw [accAt, accN, accAt_eq fW M a0 wte h k, ← h]

theorem ring_end (M : BitVec 32) (N : ℕ) : ring c XA XB M N N ⊢ iprop(idle c XA XB 1 ∗ idle c XA XB 0) := by
  unfold ring
  rw [if_neg (Nat.lt_irrefl N)]
  rcases Nat.mod_two_eq_zero_or_one N with h | h
  · rw [show Ring.sl 2 (N + 1) = (1 : Fin 2) from Fin.ext (by show (N + 1) % 2 = 1; omega), show Ring.sl 2 N = (0 : Fin 2) from Fin.ext (by show N % 2 = 0; omega)]
  · rw [show Ring.sl 2 (N + 1) = (0 : Fin 2) from Fin.ext (by show (N + 1) % 2 = 0; omega), show Ring.sl 2 N = (1 : Fin 2) from Fin.ext (by show N % 2 = 1; omega)]
    iintro ⟨H0, H1⟩
    isplitl [H1]; · iexact H1
    iexact H0

theorem ring_start (M : BitVec 32) (N : ℕ) :
    iprop((if 0 < N then fly c XA XB 1 (eAt M 0) else idle c XA XB 1) ∗ idle c XA XB 0) ⊢ ring c XA XB M N 0 := by
  unfold ring
  rw [show Ring.sl 2 (0 + 1) = (1 : Fin 2) from rfl, show Ring.sl 2 0 = (0 : Fin 2) from rfl]
  by_cases h : 0 < N
  · rw [if_pos h, if_pos h]
  · rw [if_neg h, if_neg h]

set_option maxHeartbeats 4000000 in
/-- THE BODY AFTER THE ROUTING IS READ. -/
theorem tail2 (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (first : sProp 𝕄)
    (hF : first = if 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 then fly c XA XB 1 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) else idle c XA XB 1) :
    iprop(first ∗ (∃ f, flySA c XsA f) ∗ (∃ f, flySB c XsB f) ∗ homeA c XA 0 ∗ homeB c XB 0
      ∗ (∃ fW, wteM.view.loc (c : Thread nD τ) ↦[wteM.view.set]{fullShare} fW)
      ∗ (∃ fa, accM.view.loc (c : Thread nD τ) ↦[accM.view.set]{fullShare} fa)
      ∗ (ordM.view.loc (c : Thread nD τ) ↦[ordM.view.set]{fullShare} fT)
      ∗ wins c arg3 arg4 arg5 arg6 arg7 g3 g4 g5 g6 g7
      ∗ ∃ g12, arg12.view.loc (c : Thread nD τ) ↦[arg12.view.set]{fullShare} g12)
    ⊢ wp frame (wpE (defs₀ (F := F)) 𝒱₀ (c : Thread nD τ) none) Set.univ (tail2G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 ids wts)
      (fun _ => done c XA XB XsA XsB arg3 arg4 arg5 arg6 arg7 arg12 ids wts g3 g4 g5 g6 g7 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) := by
  iintro ⟨HF, ⟨%f0, HFA⟩, ⟨%f1, HFB⟩, HhA, HhB, ⟨%fW, HW⟩, ⟨%fa, HACC⟩, HT, ⟨H3, H4, H5, H6, H7, ⟨%W, HO⟩⟩, ⟨%g12, H12⟩⟩
  dsimp only [tail2G, wA, wB, shA, shB, bufA, bufB, accM, wteM, ordM]
  sl_exec
  sl_step
  sl_exec
  sl_step
  sl_exec
  have hWr : wteM.view.read (Elt F) (wteM.view.writes (Elt F) wteM.view.junk
      [⟨Rect.unit (s := S8x128) ![0, 0] S8x128.size inb_S8x128_S8x128_0_0, wteV ids wts⟩]) = wteV ids wts :=
    (load_zero wteM.view (by funext a; fin_cases a <;> rfl) inb_S8x128_S8x128_0_0 _).symm.trans (by
      funext y
      exact View.read_writes_cons_emb wteM.view _ (Rect.unit (s := S8x128) ![0, 0] S8x128.size inb_S8x128_S8x128_0_0) (wteV ids wts) [] y)
  have hA0 : accOf c ((Memref.whole cc0_scratch2).view.writes (Elt F) (Memref.whole cc0_scratch2).view.junk
      (tail2.sl.HACC_2 c XsA XsB arg3 arg6 arg7 g3 g6 g7))
      = sharedV (arg3.view.read (Elt F) g3) (arg6.view.read (Elt F) g6) (arg7.view.read (Elt F) g7) (shA.view.read (Elt F) XsA) (shB.view.read (Elt F) XsB) := by
    unfold tail2.sl.HACC_2
    refine Eq.trans (b := _) (by
      funext y
      exact View.read_writes_cons_emb accM.view _ R00 _ _ y) ?_
    unfold sharedV tail2.sl.r tail2.sl.r_1 tail2.sl.r_2 tail2.sl.r_3
    have e6 := load_zero arg6.view (by funext a; fin_cases a <;> rfl) inb_S1x2816_S1x2816_0_0 g6
    have e7 := load_zero arg7.view (by funext a; fin_cases a <;> rfl) inb_S1x2816_S1x2816_0_0 g7
    have e3 := load_zero arg3.view (by funext a; fin_cases a <;> rfl) inb_S8x1x2816_S8x1x2816_0_0_0 g3
    have eg : tail2.sl.v555 c XsA = gate (shA.view.read (Elt F) XsA) := by
      unfold tail2.sl.v555; exact load_gate 0 (by decide) _ _ _
    have eu : tail2.sl.v562 c XsA = up (shA.view.read (Elt F) XsA) := by
      unfold tail2.sl.v562; exact load_up 0 (by decide) _ _ _
    have ed : tail2.sl.v573 c XsB = down (shB.view.read (Elt F) XsB) := by
      unfold tail2.sl.v573; exact load_down 0 (by decide) _ _ _
    have ea : tail2.sl.v579 (F := F) c = k0_pay9 (F := F) := by
      unfold tail2.sl.v579; exact acc_read _ _
    rw [eg, eu, ed, ea]
    exact congr (congr (congr (congr (congr (congrArg k0_pay15 (congrArg k0_pay10 e6)) (congrArg k0_pay11 e7))
      (congr (congr (congrArg k0_pay13 e6) e3) rfl)) (congr (congrArg k0_pay14 e3) rfl)) rfl) rfl
  sl_for (inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 lanes fT (wteM.view.writes (Elt F) wteM.view.junk
      [⟨Rect.unit (s := S8x128) ![0, 0] S8x128.size inb_S8x128_S8x128_0_0, wteV ids wts⟩]) g3 g4 g5
      (sharedV (arg3.view.read (Elt F) g3) (arg6.view.read (Elt F) g6) (arg7.view.read (Elt F) g7) (shA.view.read (Elt F) XsA) (shB.view.read (Elt F) XsB)))
    $$ [HF HhA HhB HT H3 H4 H5 HW HACC HFA_dst HFA HFB_dst HFB HO]
  case region =>
    intro k _
    exact trip_inv c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 lanes _ _ _ _ fT _ g3 g4 g5 hT _ k
  · subst hF
    unfold inv
    isplitl [HF HFA_dst HFB_dst HFA HFB HhA HhB]
    · iapply (ring_start c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))
      isplitl [HF]; · iexact HF
      unfold idle
      isplitl [HFA_dst]; · iexists _; iexact HFA_dst
      isplitl [HFB_dst]; · iexists _; iexact HFB_dst
      isplitl [HFA]; · iexact HFA
      isplitl [HFB]; · iexact HFB
      isplitl [HhA]; · iexact HhA
      iexact HhB
    iexists _
    isplitr
    rotate_left
    · isplitl [HT]; · iexact HT
      isplitl [HW]; · iexact HW
      isplitl [HACC]; · iexact HACC
      isplitl [H3]; · iexact H3
      isplitl [H4]; · iexact H4
      isplitl [H5]; · iexact H5
      iexists _; iexact HO
    · ipureintro; exact hA0
  unfold inv
  irw [show Scf.trips (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).lb (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).ub (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).st = nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 from trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384]
  iintro %_ ⟨HR, %fa', %ha', HT, HW, HACC, H3, H4, H5, ⟨%W', HO⟩⟩
  sl_exec
  sl_step
  ihave HR := (ring_end c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) $$ HR
  icases HR with ⟨HR1, HR0⟩
  isplitl [HR1]; · iexact HR1
  isplitl [HR0]; · iexact HR0
  isplitl [HFA_src]; · iexact HFA_src
  isplitl [HFB_src]; · iexact HFB_src
  isplitl [HW]; · iexists _; iexact HW
  isplitl [HACC]; · iexists _; iexact HACC
  isplitl [HT]; · iexists _; iexact HT
  isplitl [H3 H4 H5 H6 H7 HO]
  · isplitl [H3]; · iexact H3
    isplitl [H4]; · iexact H4
    isplitl [H5]; · iexact H5
    isplitl [H6]; · iexact H6
    isplitl [H7]; · iexact H7
    iexists _; iexact HO
  iexists _
  isplitr
  rotate_left
  · iexact H12
  · ipureintro
    refine (load_zero arg12.view (by funext a; fin_cases a <;> rfl) inb_S8x1x2816_S8x1x2816_0_0_0 _).symm.trans (Eq.trans (b := _) (by
      funext y
      exact View.read_writes_cons_emb arg12.view _ (Rect.unit (s := S8x1x2816) ![0, 0, 0] S8x1x2816.size inb_S8x1x2816_S8x1x2816_0_0_0) _ [] y) ?_)
    rw [accAt_eq c XA XB arg3 arg4 arg5 g3 g4 g5 _ _ _ _ hWr]

end Tail
end Cert.Proof.RunKernelIdeal
-- ==== Proof.KernelIdealBody.lean ====
/-
  The body: the active experts listed in order, the first one's transfers started, then the rest.
-/
module

public import proofs.«01_k».proof.Proof.KernelIdealTail
public import Idealize.ShloMosaic.Lib.CellWrites

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

section Table
variable (c : Dev nD) (f : Buf (Elt F) (ordM.view.loc (c : Thread nD τ)))

/-- Word `j` of the table. -/
def tabG (j : ℕ) : BitVec 32 := if hj : j < 16 then tabAt c f j hj else 0#32

theorem tabAt_read (j : ℕ) (hj : j < 16) : tabAt c f j hj = ordM.view.read (Elt F) f (fun a => ⟨j, by fin_cases a; exact hj⟩) := by
  unfold tabAt
  rw [View.readAt_apply]; congr 1; funext a; apply Fin.ext; fin_cases a
  have h2 := (Shape.Idx.first (show 0 < S1.numel by decide) (0 : Fin 1)).isLt
  simp at h2 ⊢
  exact h2

/-- One more store carries the model of the table one step on. -/
theorem tab_step (M : BitVec 32) (n : ℕ) {o : Fin 1 → ℕ} (e : o = ![(cw M n).toNat]) (h : ∀ a, o a + S1.size a ≤ S16.size a)
    (L : List (View.Piece (Elt F) S16 .i32)) (j : ℕ) (hj : j < 16)
    (ih : tabAt c (ordM.view.writes (Elt F) f L) j hj = tab M (tabG c f) n j) :
    tabAt c (ordM.view.writes (Elt F) f (⟨Rect.unit (s := S16) o S1.size h, fun _ => BitVec.ofNat 32 n⟩ :: L)) j hj = tab M (tabG c f) (n + 1) j := by
  rw [tabAt_read]
  refine (View.read_writes_cons_cell (d := ![16]) ordM.view f (off := o) h (BitVec.ofNat 32 n) L _).trans ?_
  rw [tab, ← ih, tabAt_read]
  subst e
  rfl
end Table

section Body
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v383 : BitVec 32) (v385 : BitVec 1)

/-- What the routing's part returns. -/
abbrev RetT (F : FTy → Type) : Type := Σ' (v470 : BitVec 32) (v475 : IVec S8x6 32) (v477 : FVec F S8x6 .f32) (v478 : IVec S8x128 32) (v479 : FVec F S8x128 .f32) (v482 : IVec S8x128 1) (cst_428 : F .f32), FVec F S8x1 .f32

/-- The order table's part of the body, before any continuation. -/
abbrev tail1G (K : RetT F → Prog (TpuEff nD τ sig (Elt F) Λ₀ .tc) PUnit) : Prog (TpuEff nD τ sig (Elt F) Λ₀ .tc) PUnit := do
  let ⟨v391, v415⟩ : Σ' (v391 : BitVec 32), BitVec 32 ← k0_part16 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v383 v384 hw v385
  let ⟨v450, c12_i32⟩ : Σ' (v450 : BitVec 32), BitVec 32 ← k0_part17 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v391 v415
  let r ← k0_part18 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v391 v450 c12_i32
  K r

variable
  (g1 : Buf (Elt F) (arg1.view.loc (c : Thread nD τ))) (g2 : Buf (Elt F) (arg2.view.loc (c : Thread nD τ)))

/-- The slot that the first active expert goes to. -/
def firstP : sProp 𝕄 := if 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 then fly c XA XB 1 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) else idle c XA XB 1

set_option maxHeartbeats 4000000 in
/-- THE BODY AFTER THE IDS ARE READ: the active experts' numbers listed, the first one's transfers issued. -/
theorem tail1 (K : RetT F → Prog (TpuEff nD τ sig (Elt F) Λ₀ .tc) PUnit) (R Q : sProp 𝕄)
    (hK : ∀ v470 fT, (∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) →
      iprop(R ∗ (arg1.view.loc (c : Thread nD τ) ↦[arg1.view.set]{fullShare} g1)
        ∗ (arg2.view.loc (c : Thread nD τ) ↦[arg2.view.set]{fullShare} g2)
        ∗ firstP c XA XB v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
        ∗ (ordM.view.loc (c : Thread nD τ) ↦[ordM.view.set]{fullShare} fT))
      ⊢ wp frame (wpE (defs₀ (F := F)) 𝒱₀ (c : Thread nD τ) none) Set.univ
        (K ⟨v470, k0_pay3 (arg1.view.read (Elt F) g1), k0_pay4 (arg2.view.read (Elt F) g2), lanes, k0_pay5 (F := F), k0_pay6 (arg1.view.read (Elt F) g1),
          Scalar.ofBits .f32 0x00000000#32, k0_pay7 (arg2.view.read (Elt F) g2)⟩) (fun _ => Q)) :
    iprop(R ∗ (arg1.view.loc (c : Thread nD τ) ↦[arg1.view.set]{fullShare} g1)
      ∗ (arg2.view.loc (c : Thread nD τ) ↦[arg2.view.set]{fullShare} g2)
      ∗ idle c XA XB 1
      ∗ (∃ fT, ordM.view.loc (c : Thread nD τ) ↦[ordM.view.set]{fullShare} fT))
    ⊢ wp frame (wpE (defs₀ (F := F)) 𝒱₀ (c : Thread nD τ) none) Set.univ (tail1G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 K) (fun _ => Q) := by
  iintro ⟨HR, H1, H2, HI, ⟨%fT, HT⟩⟩
  dsimp only [tail1G, wA, wB, shA, shB, bufA, bufB, accM, wteM, ordM]
  sl_exec
  sl_step
  sl_exec
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hT : ∀ (fT : Buf (Elt F) (ordM.view.loc (c : Thread nD τ))) j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c ((Memref.whole cc0_scratch4).view.writes (Elt F) fT
      (⟨Rect.unit (s := S16) (k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) S1.size (k0_off15_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw), fun x => 15#32⟩ :: tail1.sl.HT_15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw)) j hj
      = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j) := by
    intro fT j hj hn
    rw [← tab_ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (tabG c fT) j hn]
    refine tab_step c fT _ 15 (off15_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 14 (off14_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 13 (off13_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 12 (off12_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 11 (off11_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 10 (off10_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 9 (off9_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 8 (off8_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 7 (off7_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 6 (off6_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 5 (off5_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 4 (off4_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 3 (off3_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 2 (off2_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 1 (off1_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 0 rfl _ _ j hj ?_
    unfold tab tabG
    rw [dif_pos hj]
    rfl
  by_cases hn : 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  · have hc := (cond1_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).2 hn
    sl_exec
    have hw1 : tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) := by
      unfold tail1.sl.r_17
      unfold tail1.sl.f_16
      exact (tab_congr c _ 0 (by omega) _ rfl _).trans (hT _ 0 (by omega) hn)
    have hl1 : (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw).toNat < 16 := by
      rw [hw1]; exact word_lt _ _
    have h2 := chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 _ hl1
    unfold idle
    icases HI with ⟨⟨%e0, HsA⟩, ⟨%e1, HsB⟩, Hc0, Hc1, HgA, HgB⟩
    sl_exec
    ihave HgA := (homeA_take c XA 1 (eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))) $$ HgA
    icases HgA with ⟨HwA, HnA⟩
    ihave HgB := (homeB_take c XB 1 (eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))) $$ HgB
    icases HgB with ⟨HwB, HnB⟩
    sl_exec
    have q3 : tail1.sl.r_18 c arg1 g1 = k0_pay3 (arg1.view.read (Elt F) g1) :=
        congrArg k0_pay3 (load_zero arg1.view (by funext a; fin_cases a <;> rfl) inb_S8x1x6_S8x1x6_0_0_0 g1)
    have q4 : tail1.sl.r_19 c arg2 g2 = k0_pay4 (arg2.view.read (Elt F) g2) :=
        congrArg k0_pay4 (load_zero arg2.view (by funext a; fin_cases a <;> rfl) inb_S8x1x6_S8x1x6_0_0_0 g2)
    have q6 : tail1.sl.r_20 c arg1 g1 = k0_pay6 (arg1.view.read (Elt F) g1) :=
        congrArg k0_pay6 (load_zero arg1.view (by funext a; fin_cases a <;> rfl) inb_S8x1x6_S8x1x6_0_0_0 g1)
    have q7 : tail1.sl.r_21 c arg2 g2 = k0_pay7 (arg2.view.read (Elt F) g2) :=
        congrArg k0_pay7 (load_zero arg2.view (by funext a; fin_cases a <;> rfl) inb_S8x1x6_S8x1x6_0_0_0 g2)
    irw [q3, q4, q6, q7]
    iapply (hK _ _ (hT fT))
    isplitl [HR]; · iexact HR
    isplitl [H1]; · iexact H1
    isplitl [H2]; · iexact H2
    isplitl [HnA HnB Hc0 Hc1]
    · unfold firstP
      irw [if_pos hn]
      have he : eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0 = eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw) := congrArg eOf hw1.symm
      irw [he]
      unfold fly
      isplitl [Hc0]; · iexists e0; iexact Hc0
      isplitl [Hc1]; · iexists e1; iexact Hc1
      isplitl [HnA]; · iexact HnA
      iexact HnB
    iexact HT
  · have hc := (cond1_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).not.2 hn
    sl_exec
    have q3 : tail1.sl.r_22 c arg1 g1 = k0_pay3 (arg1.view.read (Elt F) g1) :=
        congrArg k0_pay3 (load_zero arg1.view (by funext a; fin_cases a <;> rfl) inb_S8x1x6_S8x1x6_0_0_0 g1)
    have q4 : tail1.sl.r_23 c arg2 g2 = k0_pay4 (arg2.view.read (Elt F) g2) :=
        congrArg k0_pay4 (load_zero arg2.view (by funext a; fin_cases a <;> rfl) inb_S8x1x6_S8x1x6_0_0_0 g2)
    have q6 : tail1.sl.r_24 c arg1 g1 = k0_pay6 (arg1.view.read (Elt F) g1) :=
        congrArg k0_pay6 (load_zero arg1.view (by funext a; fin_cases a <;> rfl) inb_S8x1x6_S8x1x6_0_0_0 g1)
    have q7 : tail1.sl.r_25 c arg2 g2 = k0_pay7 (arg2.view.read (Elt F) g2) :=
        congrArg k0_pay7 (load_zero arg2.view (by funext a; fin_cases a <;> rfl) inb_S8x1x6_S8x1x6_0_0_0 g2)
    irw [q3, q4, q6, q7]
    iapply (hK _ _ (hT fT))
    isplitl [HR]; · iexact HR
    isplitl [H1]; · iexact H1
    isplitl [H2]; · iexact H2
    isplitl [HI]
    · unfold firstP
      irw [if_neg hn]
      iexact HI
    iexact HT

end Body

section Top
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (g0 : Buf (Elt F) (arg0.view.loc (c : Thread nD τ))) (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ))) (g5 : Buf (Elt F) (arg5.view.loc (c : Thread nD τ)))
  (g6 : Buf (Elt F) (arg6.view.loc (c : Thread nD τ))) (g7 : Buf (Elt F) (arg7.view.loc (c : Thread nD τ)))

/-- Word `i` of the ids, token by token. -/
def ix6 (i : Fin 48) : S8x1x6.Idx := fun a => match a with
  | 0 => ⟨i.val / 6, by show i.val / 6 < 8; omega⟩ | 1 => ⟨0, Nat.one_pos⟩ | 2 => ⟨i.val % 6, by show i.val % 6 < 6; omega⟩

/-- What the body is given beside the three windows of the routing, the output window's contents not named. -/
abbrev given : sProp 𝕄 :=
  iprop(idle c XA XB 1 ∗ idle c XA XB 0
    ∗ (shA.view.loc (c : Thread nD τ) ↦[shA.view.set]{fullShare} XsA) ∗ (shB.view.loc (c : Thread nD τ) ↦[shB.view.set]{fullShare} XsB)
    ∗ (∃ fW, wteM.view.loc (c : Thread nD τ) ↦[wteM.view.set]{fullShare} fW)
    ∗ (∃ fa, accM.view.loc (c : Thread nD τ) ↦[accM.view.set]{fullShare} fa)
    ∗ (∃ fT, ordM.view.loc (c : Thread nD τ) ↦[ordM.view.set]{fullShare} fT)
    ∗ wins c arg3 arg4 arg5 arg6 arg7 g3 g4 g5 g6 g7
    ∗ ∃ g12, arg12.view.loc (c : Thread nD τ) ↦[arg12.view.set]{fullShare} g12)

/-- The word of token `t`, lane `l`. -/
theorem word (t l : ℕ) (ht : ∀ a, (![t, 0, l] : Fin 3 → ℕ) a + S1x1x1.size a ≤ S8x1x6.size a) (hi : 6 * t + l < 48) (hf) :
    arg0.view.readAt (Elt F) (Rect.unit (s := S8x1x6) ![t, 0, l] S1x1x1.size ht).toLoadRect g0 (Shape.Idx.first hf)
      = arg0.view.read (Elt F) g0 (ix6 ⟨6 * t + l, hi⟩) := by
  rw [View.readAt_apply]
  have h2 : l + 1 ≤ 6 := ht 2
  refine congrArg (arg0.view.read (Elt F) g0) (funext fun a => ?_)
  fin_cases a
  · exact Fin.ext (by show t + 1 * 0 = (6 * t + l) / 6; omega)
  · exact Fin.ext (by show 0 + 1 * 0 = 0; omega)
  · exact Fin.ext (by show l + 1 * 0 = (6 * t + l) % 6; omega)

/-- A return gives its value to what follows. -/
theorem ret_intro {α : Type} {Ef : Type → Type*} {Mask : Type*} {Fr : Mask → sProp 𝕄} {E : Mask} {Λ : Mask → ∀ ⦃β : Type⦄, Ef β → sWPT 𝕄 β} (a : α) (Q : α → sProp 𝕄) :
    Q a ⊢ wp Fr Λ E (Pure.pure a) Q := fupd_intro

section Rest
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v383 : BitVec 32) (v385 : BitVec 1)

/-- The body after the order table: the weights per lane, the shared expert, the loop, the store. -/
abbrev restK : RetT F → Prog (TpuEff nD τ sig (Elt F) Λ₀ .tc) PUnit := fun r => match r with
  | ⟨v470, v475, v477, v478, v479, v482, cst_428, v484⟩ => do
    k0_part19 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v475 v477 v478 v479 v482 cst_428 v484
    let ⟨v550, v552, v561, v565⟩ : Σ' (v550 : FVec F S1x2816 .f32) (v552 : FVec F S1x2816 .f32) (v561 : FVec F S8x1408 .f32), FVec F S8x1408 .f32 ← k0_part20 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5
    k0_part21 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565
    pure ⟨⟩

/-- What the body holds when the ids are read, the routing's windows, the order table and slot 1 apart. -/
abbrev held : sProp 𝕄 :=
  iprop((arg0.view.loc (c : Thread nD τ) ↦[arg0.view.set]{fullShare} g0)
    ∗ (∃ f, flySA c XsA f) ∗ (∃ f, flySB c XsB f) ∗ homeA c XA 0 ∗ homeB c XB 0
    ∗ (∃ fW, wteM.view.loc (c : Thread nD τ) ↦[wteM.view.set]{fullShare} fW)
    ∗ (∃ fa, accM.view.loc (c : Thread nD τ) ↦[accM.view.set]{fullShare} fa)
    ∗ wins c arg3 arg4 arg5 arg6 arg7 g3 g4 g5 g6 g7
    ∗ ∃ g12, arg12.view.loc (c : Thread nD τ) ↦[arg12.view.set]{fullShare} g12)

/-- What the body leaves, with the mask `M` of the used experts. -/
abbrev left (M : BitVec 32) : sProp 𝕄 :=
  iprop((arg0.view.loc (c : Thread nD τ) ↦[arg0.view.set]{fullShare} g0)
    ∗ (arg1.view.loc (c : Thread nD τ) ↦[arg1.view.set]{fullShare} g1)
    ∗ (arg2.view.loc (c : Thread nD τ) ↦[arg2.view.set]{fullShare} g2)
    ∗ done c XA XB XsA XsB arg3 arg4 arg5 arg6 arg7 arg12 (arg1.view.read (Elt F) g1) (arg2.view.read (Elt F) g2) g3 g4 g5 g6 g7 M)

theorem rest :
    iprop(held c XA XB XsA XsB arg0 arg3 arg4 arg5 arg6 arg7 arg12 g0 g3 g4 g5 g6 g7
      ∗ (arg1.view.loc (c : Thread nD τ) ↦[arg1.view.set]{fullShare} g1)
      ∗ (arg2.view.loc (c : Thread nD τ) ↦[arg2.view.set]{fullShare} g2)
      ∗ idle c XA XB 1
      ∗ (∃ fT, ordM.view.loc (c : Thread nD τ) ↦[ordM.view.set]{fullShare} fT))
    ⊢ wp frame (wpE (defs₀ (F := F)) 𝒱₀ (c : Thread nD τ) none) Set.univ
      (tail1G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 (restK arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))
      (fun _ => left c XA XB XsA XsB arg0 arg1 arg2 arg3 arg4 arg5 arg6 arg7 arg12 g0 g1 g2 g3 g4 g5 g6 g7 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) := by
  refine tail1 c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 g1 g2 (restK arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw) _ _ fun v470 fT hT => ?_
  have T := tail2 c XA XB XsA XsB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 (arg1.view.read (Elt F) g1) (arg2.view.read (Elt F) g2) fT g3 g4 g5 g6 g7 hT
    (firstP c XA XB v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) rfl
  iintro ⟨⟨H0, HFA, HFB, HhA, HhB, HW, HACC, HWI, H12⟩, H1, H2, HF, HT⟩
  iapply (wp_wand_r Idealize.ShloMosaic.frame (wpE (defs₀ (F := F)) 𝒱₀ (c : Thread nD τ) none) Set.univ)
  isplitl [HFA HFB HhA HhB HW HACC HWI H12 HF HT]
  · iapply T
    isplitl [HF]; · iexact HF
    isplitl [HFA]; · iexact HFA
    isplitl [HFB]; · iexact HFB
    isplitl [HhA]; · iexact HhA
    isplitl [HhB]; · iexact HhB
    isplitl [HW]; · iexact HW
    isplitl [HACC]; · iexact HACC
    isplitl [HT]; · iexact HT
    isplitl [HWI]; · iexact HWI
    iexact H12
  · iintro %_ HD
    isplitl [H0]; · iexact H0
    isplitl [H1]; · iexact H1
    isplitl [H2]; · iexact H2
    iexact HD

end Rest

set_option maxHeartbeats 4000000 in
theorem body :
    iprop((arg0.view.loc (c : Thread nD τ) ↦[arg0.view.set]{fullShare} g0)
      ∗ (arg1.view.loc (c : Thread nD τ) ↦[arg1.view.set]{fullShare} g1)
      ∗ (arg2.view.loc (c : Thread nD τ) ↦[arg2.view.set]{fullShare} g2)
      ∗ given c XA XB XsA XsB arg3 arg4 arg5 arg6 arg7 arg12 g3 g4 g5 g6 g7)
    ⊢ wp frame (wpE (defs₀ (F := F)) 𝒱₀ (c : Thread nD τ) none) Set.univ (cc0__body (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5)
      (fun _ => left c XA XB XsA XsB arg0 arg1 arg2 arg3 arg4 arg5 arg6 arg7 arg12 g0 g1 g2 g3 g4 g5 g6 g7
        (maskOf (List.ofFn fun i : Fin 48 => arg0.view.read (Elt F) g0 (ix6 i)))) := by
  unfold given
  iintro ⟨H0, H1, H2, HI1, HI0, HsA', HsB', HW, HACC, HT, HWI, H12⟩
  ihave HI0 := (show idle c XA XB 0 ⊢ iprop((∃ f, slotA c 0 f) ∗ (∃ f, slotB c 0 f) ∗ cellP c 0 0 ∗ cellP c 1 0 ∗ homeA c XA 0 ∗ homeB c XB 0) from .rfl) $$ HI0
  icases HI0 with ⟨⟨%e0, HtA⟩, ⟨%e1, HtB⟩, Hd0, Hd1, HhA, HhB⟩
  sl_unfold [cc0__body]
  sl_exec
  have hw : k0_chk1 (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0) := chk1 (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0)
  have hm : msk (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0) = maskOf (List.ofFn fun i : Fin 48 => arg0.view.read (Elt F) g0 (ix6 i)) := by
    unfold msk
    refine congrArg maskOf ?_
    symm
    refine (show List.ofFn _ = _ from List.ofFn_succ).trans ?_
    repeat' (first | exact (List.ofFn_zero) | refine congrArg₂ List.cons ?_ (Eq.trans List.ofFn_succ ?_) | refine congrArg₂ List.cons ?_ ?_)
    all_goals exact Eq.symm (Eq.trans (word c arg0 g0 _ _ _ (by decide) _) rfl)
  rw [← hm]
  iapply (wp_assume _ _ _ _ hw)
  iapply (ret_intro)
  iapply (rest c XA XB XsA XsB arg0 harg0 arg1 harg1 arg2 harg2 arg3 harg3 arg4 harg4 arg5 harg5 arg6 harg6 arg7 harg7 arg12 harg12 g0 g1 g2 g3 g4 g5 g6 g7 _ _ _ _ _ _ _ _ _ _ _ _ _ _ _ _ _ _ _ _ _ _ _ _ _ _ _ _ _ _ _ _ _ _ _ _ _ _ _ _ _ _ _ _ _ _ _ _ hw _ _)
  isplitl [H0 Hd0 Hd1 HhA HhB HW HACC HWI H12]
  · isplitl [H0]; · iexact H0
    isplitl [Hd0]; · iexists e0; iexact Hd0
    isplitl [Hd1]; · iexists e1; iexact Hd1
    isplitl [HhA]; · iexact HhA
    isplitl [HhB]; · iexact HhB
    isplitl [HW]; · iexact HW
    isplitl [HACC]; · iexact HACC
    isplitl [HWI]; · iexact HWI
    iexact H12
  isplitl [H1]; · iexact H1
  isplitl [H2]; · iexact H2
  isplitl [HI1]; · iexact HI1
  iexact HT

end Top
end Cert.Proof.RunKernelIdeal
-- ==== Proof.KernelIdealRun.lean ====
/-
  The launch: the region's proof data, the body's obligation, the run and the frame.
-/
module

public import proofs.«01_k».proof.Proof.KernelIdealBody
public import proofs.«01_k».proof.Proof.Gen.KernelIdeal.Frame

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result, as one function of the arrays -/

/-- What the body stores: the experts of `ids0` in ascending order over the shared expert. -/
def outV (ids0 ids : Vec F S8x1x6 .i32) (wts : Vec F S8x1x6 .f32) (x : Vec F S8x1x2816 .bf16) (s13 s2 : Vec F S16x2816 .f32) (ss13 ss2 : Vec F S1x2816 .f32)
    (w13 : Vec F S16x2816x2816 .i8) (w2 : Vec F S16x2816x1408 .i8) (ws13 : Vec F S2816x2816 .i8) (ws2 : Vec F S2816x1408 .i8) : Vec F S8x1x2816 .bf16 :=
  k0_pay18 (accN (wteV ids wts) x s13 s2 w13 w2 (maskOf (List.ofFn fun i : Fin 48 => ids0 (ix6 i)))
    (sharedV x ss13 ss2 ws13 ws2) (cnt (maskOf (List.ofFn fun i : Fin 48 => ids0 (ix6 i)))))

/-! ## The launch's pieces -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 1 0 ∗ cellP c 1 1) := by
  rw [Pipeline.ownSems0_eq_of_list c osem0 [0, 1, 2, 3] (by decide) (by decide)]; rfl
/-- The weights left in HBM. -/
def H0 : Finset (Ref sig .tc) := {main_arg3, main_arg5, main_arg7, main_arg9}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)
          ∗ (((c : Thread nD τ).loc main_arg7) ↦{fullShare} V m c main_arg7) ∗ (((c : Thread nD τ).loc main_arg9) ↦{fullShare} V m c main_arg9)) := by
  rw [BI.bigSep_eq_bigSepL_of_eq [main_arg3, main_arg5, main_arg7, main_arg9] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f)
            ∗ (∃ f : Buf (Elt F) ((c : Thread nD τ).loc cc0_scratch4), ((c : Thread nD τ).loc cc0_scratch4) ↦{fullShare} f))
          ∗ (∃ r, prngReg c r)
          ∗ iprop(cellP c 0 0 ∗ cellP c 0 1 ∗ cellP c 1 0 ∗ cellP c 1 1)
          ∗ iprop((((c : Thread nD τ).loc main_arg3) ↦{fullShare} V m c main_arg3) ∗ (((c : Thread nD τ).loc main_arg5) ↦{fullShare} V m c main_arg5)
            ∗ (((c : Thread nD τ).loc main_arg7) ↦{fullShare} V m c main_arg7) ∗ (((c : Thread nD τ).loc main_arg9) ↦{fullShare} V m c main_arg9))) := by
  rw [Pipeline.ΦD_eq, scopedRest0_eq, ownSems00_eq, hbmPts0_eq]

/-- A buffer through its whole memref is the buffer. -/
theorem whole_pts (c : Dev nD) (b : Ref sig .tc) (q : PosShare TreeShare) (f : Buf (Elt F) ((c : Thread nD τ).loc b)) :
    ((View.whole b).loc (c : Thread nD τ) ↦[(View.whole b).set]{q} f : sProp 𝕄) = (((c : Thread nD τ).loc b) ↦{q} f) :=
  congrArg (fun S => (((c : Thread nD τ).loc b) ↦[S]{q} f : sProp 𝕄)) (View.set_whole b)

theorem to_whole (c : Dev nD) (b : Ref sig .tc) :
    iprop(∃ f : Buf (Elt F) ((c : Thread nD τ).loc b), ((c : Thread nD τ).loc b) ↦{fullShare} f)
      ⊢ (iprop(∃ f, (View.whole b).loc (c : Thread nD τ) ↦[(View.whole b).set]{fullShare} f) : sProp 𝕄) := by
  iintro ⟨%f, H⟩
  iexists f
  iapply (Entails.of_eq (whole_pts c b fullShare f).symm); iexact H
theorem of_whole (c : Dev nD) (b : Ref sig .tc) :
    (iprop(∃ f, (View.whole b).loc (c : Thread nD τ) ↦[(View.whole b).set]{fullShare} f) : sProp 𝕄)
      ⊢ iprop(∃ f : Buf (Elt F) ((c : Thread nD τ).loc b), ((c : Thread nD τ).loc b) ↦{fullShare} f) := by
  iintro ⟨%f, H⟩
  iexists f
  iapply (Entails.of_eq (whole_pts c b fullShare f)); iexact H

/-! ## The ring buffers as their slots -/

abbrev JA (s : Fin 2) : Finset S2x2816x2816.Idx := (Rect.unit (s := S2x2816x2816) (aOff s) S1x2816x2816.size (aOff_inbA s)).set
abbrev JB (s : Fin 2) : Finset S2x2816x1408.Idx := (Rect.unit (s := S2x2816x1408) (aOff s) S1x2816x1408.size (aOff_inbB s)).set
theorem setA (s : Fin 2) : (slA s).view.set = JA s := (View.set_reshape _ _).trans (View.set_slice_whole _ _)
theorem setB (s : Fin 2) : (slB s).view.set = JB s := (View.set_reshape _ _).trans (View.set_slice_whole _ _)
theorem aOff_zero : ∀ (s : Fin 2) (a : Fin 3), a ≠ 0 → aOff s a = 0 := by decide
theorem JA_disj : ∀ s s' : Fin 2, s ≠ s' → Disjoint (JA s) (JA s') :=
  Ring.lead_disjoint (s := S2x2816x2816) (0 : Fin 3) 1 aOff S1x2816x2816.size aOff_inbA (by decide) rfl
theorem JB_disj : ∀ s s' : Fin 2, s ≠ s' → Disjoint (JB s) (JB s') :=
  Ring.lead_disjoint (s := S2x2816x1408) (0 : Fin 3) 1 aOff S1x2816x1408.size aOff_inbB (by decide) rfl
theorem JA_cover : Finset.univ.biUnion JA = Finset.univ :=
  Ring.lead_cover (s := S2x2816x2816) (0 : Fin 3) 1 aOff S1x2816x2816.size aOff_inbA (by decide) aOff_zero rfl (by decide) rfl
theorem JB_cover : Finset.univ.biUnion JB = Finset.univ :=
  Ring.lead_cover (s := S2x2816x1408) (0 : Fin 3) 1 aOff S1x2816x1408.size aOff_inbB (by decide) aOff_zero rfl (by decide) rfl

theorem slotA_eq (c : Dev nD) (s : Fin 2) (f) : (slotA c s f : sProp 𝕄) = (((c : Thread nD τ).loc cc0_scratch0) ↦[JA s]{fullShare} f) :=
  congrArg (fun S => (_ ↦[S]{fullShare} f : sProp 𝕄)) (setA s)
theorem slotB_eq (c : Dev nD) (s : Fin 2) (f) : (slotB c s f : sProp 𝕄) = (((c : Thread nD τ).loc cc0_scratch1) ↦[JB s]{fullShare} f) :=
  congrArg (fun S => (_ ↦[S]{fullShare} f : sProp 𝕄)) (setB s)

theorem splitA (c : Dev nD) : iprop(∃ f : Buf (Elt F) ((c : Thread nD τ).loc cc0_scratch0), ((c : Thread nD τ).loc cc0_scratch0) ↦{fullShare} f) ⊢ (iprop((∃ f, slotA c 0 f) ∗ ∃ f, slotA c 1 f) : sProp 𝕄) :=
  Ring.slots2_split (Ix := Unit) (Name := ℕ) (U := Pipeline.UD sig nD τ) (Lvl := ℕ) (ℓ := (c : Thread nD τ).loc cc0_scratch0) (q := fullShare) JA JA_disj JA_cover
    (fun f => slotA c 0 f) (fun f => slotA c 1 f) (slotA_eq c 0) (slotA_eq c 1)
theorem joinA (c : Dev nD) : (iprop((∃ f, slotA c 0 f) ∗ ∃ f, slotA c 1 f) : sProp 𝕄) ⊢ iprop(∃ f : Buf (Elt F) ((c : Thread nD τ).loc cc0_scratch0), ((c : Thread nD τ).loc cc0_scratch0) ↦{fullShare} f) :=
  Ring.slots2_join (Ix := Unit) (Name := ℕ) (U := Pipeline.UD sig nD τ) (Lvl := ℕ) (ℓ := (c : Thread nD τ).loc cc0_scratch0) (q := fullShare) JA JA_disj JA_cover
    (fun f => slotA c 0 f) (fun f => slotA c 1 f) (slotA_eq c 0) (slotA_eq c 1)
theorem splitB (c : Dev nD) : iprop(∃ f : Buf (Elt F) ((c : Thread nD τ).loc cc0_scratch1), ((c : Thread nD τ).loc cc0_scratch1) ↦{fullShare} f) ⊢ (iprop((∃ f, slotB c 0 f) ∗ ∃ f, slotB c 1 f) : sProp 𝕄) :=
  Ring.slots2_split (Ix := Unit) (Name := ℕ) (U := Pipeline.UD sig nD τ) (Lvl := ℕ) (ℓ := (c : Thread nD τ).loc cc0_scratch1) (q := fullShare) JB JB_disj JB_cover
    (fun f => slotB c 0 f) (fun f => slotB c 1 f) (slotB_eq c 0) (slotB_eq c 1)
theorem joinB (c : Dev nD) : (iprop((∃ f, slotB c 0 f) ∗ ∃ f, slotB c 1 f) : sProp 𝕄) ⊢ iprop(∃ f : Buf (Elt F) ((c : Thread nD τ).loc cc0_scratch1), ((c : Thread nD τ).loc cc0_scratch1) ↦{fullShare} f) :=
  Ring.slots2_join (Ix := Unit) (Name := ℕ) (U := Pipeline.UD sig nD τ) (Lvl := ℕ) (ℓ := (c : Thread nD τ).loc cc0_scratch1) (q := fullShare) JB JB_disj JB_cover
    (fun f => slotB c 0 f) (fun f => slotB c 1 f) (slotB_eq c 0) (slotB_eq c 1)

section Home
variable (c : Dev nD)
  (XA : Buf (Elt F) (wA.view.loc (c : Thread nD τ))) (XB : Buf (Elt F) (wB.view.loc (c : Thread nD τ)))

theorem homeA_split : (((c : Thread nD τ).loc main_arg3) ↦{fullShare} XA : sProp 𝕄) ⊣⊢ iprop(homeA c XA 0 ∗ homeA c XA 1) := by
  rw [homeA, homeA, show shr 0 = (fullShare : PosShare TreeShare).left from rfl, show shr 1 = (fullShare : PosShare TreeShare).right from rfl]
  rw [show (wA.view.loc (c : Thread nD τ) ↦[wA.view.set]{(fullShare : PosShare TreeShare).left} XA : sProp 𝕄) = _ from whole_pts c main_arg3 _ XA,
    show (wA.view.loc (c : Thread nD τ) ↦[wA.view.set]{(fullShare : PosShare TreeShare).right} XA : sProp 𝕄) = _ from whole_pts c main_arg3 _ XA]
  exact pointsTo_share (PosShare.mem_left_op_right _)
theorem homeB_split : (((c : Thread nD τ).loc main_arg5) ↦{fullShare} XB : sProp 𝕄) ⊣⊢ iprop(homeB c XB 0 ∗ homeB c XB 1) := by
  rw [homeB, homeB, show shr 0 = (fullShare : PosShare TreeShare).left from rfl, show shr 1 = (fullShare : PosShare TreeShare).right from rfl]
  rw [show (wB.view.loc (c : Thread nD τ) ↦[wB.view.set]{(fullShare : PosShare TreeShare).left} XB : sProp 𝕄) = _ from whole_pts c main_arg5 _ XB,
    show (wB.view.loc (c : Thread nD τ) ↦[wB.view.set]{(fullShare : PosShare TreeShare).right} XB : sProp 𝕄) = _ from whole_pts c main_arg5 _ XB]
  exact pointsTo_share (PosShare.mem_left_op_right _)

/-- The ring buffers, the semaphores and the stacked weights make the two idle slots, -/
theorem idle_open :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XA) ∗ (((c : Thread nD τ).loc main_arg5) ↦{fullShare} XB))
    ⊢ (iprop(idle c XA XB 1 ∗ idle c XA XB 0) : sProp 𝕄) := by
  iintro ⟨HA, HB, ⟨C00, C01, C10, C11⟩, WA, WB⟩
  ihave HA2 := (splitA c) $$ HA
  ihave HB2 := (splitB c) $$ HB
  ihave WA2 := (homeA_split c XA).1 $$ WA
  ihave WB2 := (homeB_split c XB).1 $$ WB
  icases HA2 with ⟨A0, A1⟩
  icases HB2 with ⟨B0, B1⟩
  icases WA2 with ⟨WA0, WA1⟩
  icases WB2 with ⟨WB0, WB1⟩
  unfold idle
  isplitl [A1 B1 C01 C11 WA1 WB1]
  · isplitl [A1]; · iexact A1
    isplitl [B1]; · iexact B1
    isplitl [C01]; · iexact C01
    isplitl [C11]; · iexact C11
    isplitl [WA1]; · iexact WA1
    iexact WB1
  isplitl [A0]; · iexact A0
  isplitl [B0]; · iexact B0
  isplitl [C00]; · iexact C00
  isplitl [C10]; · iexact C10
  isplitl [WA0]; · iexact WA0
  iexact WB0

/-- and back. -/
theorem idle_close :
    (iprop(idle c XA XB 1 ∗ idle c XA XB 0) : sProp 𝕄) ⊢
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XA) ∗ (((c : Thread nD τ).loc main_arg5) ↦{fullShare} XB)) := by
  unfold idle
  iintro ⟨⟨A1, B1, C01, C11, WA1, WB1⟩, A0, B0, C00, C10, WA0, WB0⟩
  isplitl [A0 A1]
  · iapply (joinA c)
    isplitl [A0]; · iexact A0
    iexact A1
  isplitl [B0 B1]
  · iapply (joinB c)
    isplitl [B0]; · iexact B0
    iexact B1
  isplitl [C00 C01 C10 C11]
  · isplitl [C00]; · iexact C00
    isplitl [C01]; · iexact C01
    isplitl [C10]; · iexact C10
    iexact C11
  isplitl [WA0 WA1]
  · iapply (homeA_split c XA).2
    isplitl [WA0]; · iexact WA0
    iexact WA1
  iapply (homeB_split c XB).2
  isplitl [WB0]; · iexact WB0
  iexact WB1
end Home

/-! ## The region's proof data -/

/-- The result at point `t`, from the windows' blocks and the weights left in HBM. -/
def outAt (c : Dev nD) (t : Fin cfg0.N) : Vec F S8x1x2816 .bf16 :=
  outV (F := F) (iblk m c 0 t) (iblk m c 1 t) (iblk m c 2 t) (iblk m c 3 t) (iblk m c 4 t) (iblk m c 5 t) (iblk m c 6 t) (iblk m c 7 t)
    (wA.view.read (Elt F) (V m c main_arg3)) (wB.view.read (Elt F) (V m c main_arg5))
    (shA.view.read (Elt F) (V m c main_arg7)) (shB.view.read (Elt F) (V m c main_arg9))

/-- The arrays as the region finds them; each input's block left in place, the result's at `outAt`; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]

/-! An input window holds its block at every point. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [show (dats m 0 c).after 2 t = iblk m c 2 t from rfl]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [show (dats m 0 c).after 3 t = iblk m c 3 t from rfl]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [show (dats m 0 c).after 4 t = iblk m c 4 t from rfl]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [show (dats m 0 c).after 5 t = iblk m c 5 t from rfl]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [show (dats m 0 c).after 6 t = iblk m c 6 t from rfl]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [show (dats m 0 c).after 7 t = iblk m c 7 t from rfl]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = Pipeline.ΦD osem0 spec0 H0 (V m) c from rfl,
    show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨HA, HB, HC, HD, HE⟩, Hg, HS, ⟨W3, W5, W7, W9⟩⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  ihave HI := (idle_open c (V m c main_arg3) (V m c main_arg5)) $$ [HA HB HS W3 W5]
  · isplitl [HA]; · iexact HA
    isplitl [HB]; · iexact HB
    isplitl [HS]; · iexact HS
    isplitl [W3]; · iexact W3
    iexact W5
  icases HI with ⟨HI1, HI0⟩
  iapply (wp_wand_r Idealize.ShloMosaic.frame (wpE (defs₀ (F := F)) 𝒱₀ (c : Thread nD τ) none) Set.univ)
  isplitr [Hg]
  · iapply (body c (V m c main_arg3) (V m c main_arg5) (V m c main_arg7) (V m c main_arg9)
      (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) f0 f1 f2 f3 f4 f5 f6 f7)
    isplitl [H0]; · iexact H0
    isplitl [H1]; · iexact H1
    isplitl [H2]; · iexact H2
    isplitl [HI1]; · iexact HI1
    isplitl [HI0]; · iexact HI0
    isplitl [W7]; · iapply (Entails.of_eq (whole_pts c main_arg7 fullShare (V m c main_arg7)).symm); iexact W7
    isplitl [W9]; · iapply (Entails.of_eq (whole_pts c main_arg9 fullShare (V m c main_arg9)).symm); iexact W9
    isplitl [HD]; · iapply (to_whole c cc0_scratch3); iexact HD
    isplitl [HC]; · iapply (to_whole c cc0_scratch2); iexact HC
    isplitl [HE]; · iapply (to_whole c cc0_scratch4); iexact HE
    isplitl [H3 H4 H5 H6 H7 HW]
    · isplitl [H3]; · iexact H3
      isplitl [H4]; · iexact H4
      isplitl [H5]; · iexact H5
      isplitl [H6]; · iexact H6
      isplitl [H7]; · iexact H7
      iexists W; iexact HW
    iexists f8; iexact H8
  iintro %_ ⟨H0, H1, H2, HI1, HI0, W7, W9, HD, HC, HE, ⟨H3, H4, H5, H6, H7, ⟨%W', HW'⟩⟩, ⟨%g8, %e8', H8⟩⟩
  ihave HI := (idle_close c (V m c main_arg3) (V m c main_arg5)) $$ [HI1 HI0]
  · isplitl [HI1]; · iexact HI1
    iexact HI0
  icases HI with ⟨HA, HB, HS, W3, W5⟩
  isplitl [HA HB HC HD HE Hg HS W3 W5 W7 W9]
  · isplitl [HA HB HC HD HE]
    · isplitl [HA]; · iexact HA
      isplitl [HB]; · iexact HB
      isplitl [HC]; · iapply (of_whole c cc0_scratch2); iexact HC
      isplitl [HD]; · iapply (of_whole c cc0_scratch3); iexact HD
      iapply (of_whole c cc0_scratch4); iexact HE
    isplitl [Hg]; · iexact Hg
    isplitl [HS]; · iexact HS
    isplitl [W3]; · iexact W3
    isplitl [W5]; · iexact W5
    isplitl [W7]; · iapply (Entails.of_eq (whole_pts c main_arg7 fullShare (V m c main_arg7))); iexact W7
    iapply (Entails.of_eq (whole_pts c main_arg9 fullShare (V m c main_arg9))); iexact W9
  isplitl [HW']
  · iexists W'; isplitr; · ipureintro; exact fun _ _ => Or.inl trivial
    iexact HW'
  isplitl [H0]; · iexists f0; isplitr; · ipureintro; exact e0.trans (before_0 m c t d0)
                  · iexact H0
  isplitl [H1]; · iexists f1; isplitr; · ipureintro; exact e1.trans (before_1 m c t d1)
                  · iexact H1
  isplitl [H2]; · iexists f2; isplitr; · ipureintro; exact e2.trans (before_2 m c t d2)
                  · iexact H2
  isplitl [H3]; · iexists f3; isplitr; · ipureintro; exact e3.trans (before_3 m c t d3)
                  · iexact H3
  isplitl [H4]; · iexists f4; isplitr; · ipureintro; exact e4.trans (before_4 m c t d4)
                  · iexact H4
  isplitl [H5]; · iexists f5; isplitr; · ipureintro; exact e5.trans (before_5 m c t d5)
                  · iexact H5
  isplitl [H6]; · iexists f6; isplitr; · ipureintro; exact e6.trans (before_6 m c t d6)
                  · iexact H6
  isplitl [H7]; · iexists f7; isplitr; · ipureintro; exact e7.trans (before_7 m c t d7)
                  · iexact H7
  iexists g8; isplitr
  · ipureintro
    rw [before_0] at e0; rw [before_1] at e1; rw [before_2] at e2; rw [before_3] at e3
    rw [before_4] at e4; rw [before_5] at e5; rw [before_6] at e6; rw [before_7] at e7
    refine e8'.trans ?_
    unfold outOf
    show _ = outV _ _ _ _ _ _ _ _ _ _ _ _
    rw [← e0, ← e1, ← e2, ← e3, ← e4, ← e5, ← e6, ← e7]
    rfl
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [Gen.bigSep_W0, Gen.bigSep_W0, defs₀_row]
  exact triple_restated (sound_body m c t) rfl .rfl fun _ => .rfl

/-! ## The run and the frame -/

theorem hmain0 : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ 𝒱₀ ownSemFacts0 H0 H0_sub m ρ main
    (hbody := fun c => (body_obligation m c).loose) (hq := fun c w _ => rfl)
    (howed := fun _ _ => rfl) (V := V m) (hmain := hmain0 m) (hA := A_eq m)
    (hin := fun _ => .rfl) (hout := fun _ => .rfl)

/-- The result array after the run. -/
abbrev outBuf (c : Dev nD) : Buf (Elt F) ((c.tc : Thread nD τ).loc main_v2) := outAt m c t0_0

end Cert.Proof.RunKernelIdeal
-- ==== Proof.KernelIdealFrame.lean ====
/-
  What the kernel leaves behind: its eleven arguments as they were, every semaphore at zero, and in the result the one
  block the body wrote back.
-/
module

public import proofs.«01_k».proof.Proof.KernelIdealRun
public import Idealize.ShloMosaic.Lib.Pipeline.ValueKit.Geometry

@[expose] public section

noncomputable section

namespace Cert.Proof.RunKernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

variable (m : (ℓ : Loc nD τ sig) → Buf (Elt F) ℓ) (ρ : Dev nD → PrngReg)

/-- The one point's block of the result is the whole result. -/
theorem final (c : Dev nD) : (dats (F := F) m 0 c).arrAt 8 cfg0.N = outBuf m c :=
  (dats (F := F) m 0 c).arrAt_eq_of_after_last 8 t0_0 (by decide +kernel) (outBuf m c) (fun _ => rfl)

/-- The run's post: the result, the arguments, the semaphores. -/
theorem run : θ_run defs (onTc (τ := τ) (main (F := F))) ⟨m, fun _ => 0, ρ⟩ (fun r => (∀ c : Dev nD,
      r.2.mem ((c.tc : Thread nD τ).loc main_v2) = outBuf m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)))
      ∧ r.2.sem = fun _ => 0) :=
  (θ_run defs _ _).mono (fun _ h => ⟨fun c => ⟨((h.1 c).1 8).trans (final m c),
      ((h.1 c).1 3).trans (((dats m 0 c).arrAt_in 3 rfl _).trans ((A_eq m c 3).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c),
      ((h.1 c).1 5).trans (((dats m 0 c).arrAt_in 5 rfl _).trans ((A_eq m c 5).trans (V_main_arg6 m c))),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run m ρ)

end Cert.Proof.RunKernelIdeal
-- ==== Proof.KernelChain.lean ====
/-
  The kernel's scalar chains in closed form: the count of active experts as a word, where each candidate is put in
  the table of active experts, the main loop's trips (one per active expert), what trip `k` names — slot and
  semaphores `(k + 1) % 2` waited, `(k + 2) % 2` refilled —, and the check the kernel makes of all of them, true at
  every 48 words.
-/
module

public import proofs.«01_k».proof.Proof.KernelIdealChain
public import proofs.«01_k».proof.Proof.Gen.Kernel.Launch
public import proofs.«01_k».proof.Proof.Gen.Kernel.Skeleton
public import proofs.«01_k».proof.Proof.Bits
public import Idealize.ShloMosaic.Lib.Affine
public import Idealize.ShloMosaic.Lib.Ring

@[expose] public section

namespace Cert.Proof.RunKernel

open Cert.Kernel Cert.Kernel.Gen
open Idealize.ShloMosaic
open Cert.Proof.Bits
open Affine

abbrev aOff (s : Fin 2) : Fin 3 → Nat := ![s.val, 0, 0]
abbrev hOff (s : Fin 2) : Fin 3 → Nat := ![s.val, 1408, 0]
abbrev rOff (e : Fin 16) : Fin 3 → Nat := ![e.val, 0, 0]
abbrev cOff (r s : Fin 2) : Fin 2 → Nat := ![r.val, s.val]
abbrev oOff (j : ℕ) : Fin 1 → Nat := ![j]

theorem toInt_of_isInt {x : BitVec 32} {e : Int} (h : IsInt x e) : x.toInt = e := by
  delta Affine.IsInt at h; exact h

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32)

/-- The mask of the 48 words. -/
abbrev msk : BitVec 32 := maskOf [v8, v16, v24, v32, v40, v48, v56, v64, v72, v80, v88, v96, v104, v112, v120, v128, v136, v144, v152, v160, v168, v176, v184, v192, v200, v208, v216, v224, v232, v240, v248, v256, v264, v272, v280, v288, v296, v304, v312, v320, v328, v336, v344, v352, v360, v368, v376, v384]

theorem t1_def : k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ⟨0#32, Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32), 1#32⟩ := rfl
theorem t2_def : k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ⟨Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32),
   Scalar.addi 0#32 (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32), 1#32⟩ := rfl
theorem cond1_def : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = Scalar.cmpi .ne (Scalar.extui (Scalar.cmpi .sgt (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 0#32)) 0#32 := rfl
theorem off1_def : k0_off1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 1).toNat] := rfl
theorem off2_def : k0_off2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 2).toNat] := rfl
theorem off3_def : k0_off3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 3).toNat] := rfl
theorem off4_def : k0_off4 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 4).toNat] := rfl
theorem off5_def : k0_off5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 5).toNat] := rfl
theorem off6_def : k0_off6 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 6).toNat] := rfl
theorem off7_def : k0_off7 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 7).toNat] := rfl
theorem off8_def : k0_off8 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 8).toNat] := rfl
theorem off9_def : k0_off9 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 9).toNat] := rfl
theorem off10_def : k0_off10 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 10).toNat] := rfl
theorem off11_def : k0_off11 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 11).toNat] := rfl
theorem off12_def : k0_off12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 12).toNat] := rfl
theorem off13_def : k0_off13 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 13).toNat] := rfl
theorem off14_def : k0_off14 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 14).toNat] := rfl
theorem off15_def : k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = ![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 15).toNat] := rfl

/-- The count of active experts. -/
abbrev nAct : ℕ := cnt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)

theorem nAct_le : nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 ≤ 16 := cnt_le _

theorem isInt_cnt : IsInt (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  delta Affine.IsInt
  have h := cw_toNat (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16 (by omega)
  have hl := cnt_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
  have hc := BitVec.toInt_eq_toNat_cond (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16)
  unfold nAct cnt at *
  split at hc <;> omega

theorem isInt_588 : IsInt (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h1 : IsInt (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) ((nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) + 1) := addi (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 1) 1 ⟨rfl, by decide⟩) ⟨by omega, by omega, by omega⟩
  have h2 : IsInt (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := subi h1 (ofNat (e := 1) 1 ⟨rfl, by decide⟩) ⟨by omega, by omega, by omega⟩
  have h3 : IsInt (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := addi h2 (ofNat (e := 0) 0 ⟨rfl, by decide⟩) ⟨by omega, by omega, by omega⟩
  exact divsi_one h3 (ofNat (e := 1) 1 ⟨rfl, by decide⟩) ⟨rfl, rfl⟩

theorem isInt_589 : IsInt (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  exact subi (isInt_588 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 0) 0 ⟨rfl, by decide⟩) ⟨by omega, by omega, by omega⟩

theorem isInt_593 : IsInt (Scalar.addi 0#32 (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32)) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h1 := divsi_one (isInt_589 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (ofNat (e := 1) 1 ⟨rfl, by decide⟩) ⟨rfl, rfl⟩
  have h2 : IsInt (Scalar.muli (Scalar.divsi (Scalar.subi (Scalar.divsi (Scalar.addi (Scalar.subi (Scalar.addi (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16) 1#32) 1#32) (Scalar.subi 1#32 1#32)) 1#32) 0#32) 1#32) 1#32) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ) :=
    muli h1 (ofNat (e := 1) 1 ⟨rfl, by decide⟩) ⟨by omega, by omega, by omega⟩
  exact addi (ofNat (e := 0) 0 ⟨rfl, by decide⟩) h2 ⟨by omega, by omega, by omega⟩

/-- The main loop runs once per active expert; -/
theorem trips1 : (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips = nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  rw [t1_def]; show Scf.trips _ _ _ = _
  unfold Scf.trips; rw [toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)]; simp
/-- the remainder loop never. -/
theorem trips2 : (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips = 0 := by
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h := addi (e := (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : ℕ)) (ofNat (e := 0) 0 ⟨rfl, by decide⟩) (isInt_589 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) ⟨by omega, by omega, by omega⟩
  rw [t2_def]; show Scf.trips _ _ _ = _
  unfold Scf.trips; rw [toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), toInt_of_isInt h]; simp

theorem guard_iff (p : BitVec 1) : Scalar.cmpi .ne (Scalar.extui p) 0#32 = 1#1 ↔ p = 1#1 := by
  revert p; decide

theorem cond1_iff : k0_cond1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 = 1#1 ↔ 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  rw [cond1_def, guard_iff, Scalar.cmpi, IntOp.cmpi_sgt, toInt_of_isInt (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)]
  rw [show (0#32 : BitVec 32).toInt = 0 from by decide]; omega

variable (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips)

theorem k_lt : k.val < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := Nat.lt_of_lt_of_eq k.isLt (trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
theorem k_lt16 : k.val < 16 := (k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).trans_le (cnt_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))

theorem isInt_iv : IsInt (Scf.iv 0#32 1#32 k.val) k.val := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact iv (e := k.val) (ofNat (e := 0) 0 ⟨rfl, by decide⟩) (ofNat (e := 1) 1 ⟨rfl, by decide⟩) k.val ⟨by omega, by omega, by omega⟩
theorem isInt_step : IsInt (Scalar.addi 1#32 (Scalar.muli (Scf.iv 0#32 1#32 k.val) 1#32)) (k.val + 1 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have h : IsInt (Scalar.muli (Scf.iv 0#32 1#32 k.val) 1#32) k.val := muli (isInt_iv v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by omega, by omega, by omega⟩
  exact addi (ofNat (e := 1) 1 ⟨rfl, by decide⟩) h ⟨by push_cast; omega, by omega, by omega⟩
theorem isInt_prev : IsInt (Scalar.subi (Scalar.addi 1#32 (Scalar.muli (Scf.iv 0#32 1#32 k.val) 1#32)) 1#32) k.val := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact subi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_slot : IsInt (Scalar.remsi (Scalar.addi 1#32 (Scalar.muli (Scf.iv 0#32 1#32 k.val) 1#32)) 2#32) ((k.val + 1) % 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact remsi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 2) 2 ⟨rfl, by decide⟩) ⟨by push_cast; omega, by omega, by omega⟩
theorem isInt_next : IsInt (Scalar.addi (Scalar.addi 1#32 (Scalar.muli (Scf.iv 0#32 1#32 k.val) 1#32)) 1#32) (k.val + 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact addi (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_nextPrev : IsInt (Scalar.subi (Scalar.addi (Scalar.addi 1#32 (Scalar.muli (Scf.iv 0#32 1#32 k.val) 1#32)) 1#32) 1#32) (k.val + 1 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact subi (isInt_next v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 1) 1 ⟨rfl, by decide⟩) ⟨by push_cast; omega, by omega, by omega⟩
theorem isInt_nextSlot : IsInt (Scalar.remsi (Scalar.addi (Scalar.addi 1#32 (Scalar.muli (Scf.iv 0#32 1#32 k.val) 1#32)) 1#32) 2#32) (k.val % 2 : ℕ) := by
  have := k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  exact remsi (isInt_next v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (ofNat (e := 2) 2 ⟨rfl, by decide⟩) ⟨by push_cast; omega, by omega, by omega⟩

/-- Trip `k` starts the next expert's copies when there is one. -/
theorem cond2_iff : k0_cond2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = 1#1 ↔ k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  show Scalar.cmpi .ne (Scalar.extui (Scalar.cmpi .slt (Scalar.addi 1#32 (Scalar.muli (Scf.iv 0#32 1#32 k.val) 1#32)) (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 16))) 0#32 = 1#1 ↔ _
  rw [guard_iff, Scalar.cmpi, IntOp.cmpi_slt, toInt_of_isInt (isInt_cnt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384), toInt_of_isInt (isInt_step v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)]; omega

theorem off22_eq : k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff (k.val + 1) := vec_cons (indexCast (isInt_nextPrev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp) vec_nil
theorem off23_eq : k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 0 (Ring.sl 2 k.val) := congrArg (Matrix.vecCons 0) (vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off26_eq : k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 1 (Ring.sl 2 k.val) := congrArg (Matrix.vecCons 1) (vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off30_eq : k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 0 (Ring.sl 2 (k.val + 1)) := congrArg (Matrix.vecCons 0) (vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off33_eq : k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = cOff 1 (Ring.sl 2 (k.val + 1)) := congrArg (Matrix.vecCons 1) (vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) vec_nil)
theorem off24_eq : k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 k.val) := vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off27_eq : k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 k.val) := vec_cons (isInt_nextSlot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off31_eq : k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off34_eq : k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (by simp [Ring.sl, Fin.ofNat]) rfl
theorem off38_eq : k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off40_eq : k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = aOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off39_eq : k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = hOff (Ring.sl 2 (k.val + 1)) := vec_cons (indexCast (isInt_slot v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) (by simp [Ring.sl, Fin.ofNat]) rfl
theorem off29_eq : k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff k.val := vec_cons (indexCast (isInt_prev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) rfl vec_nil
theorem off36_eq : k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k = oOff k.val := vec_cons (indexCast (isInt_prev v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)) rfl vec_nil

end

/-! ## The check -/

theorem aOff_inbA (s : Fin 2) : ∀ a, aOff s a + S1x2816x2816.size a ≤ S2x2816x2816.size a := by revert s; decide
theorem aOff_inbB (s : Fin 2) : ∀ a, aOff s a + S1x2816x1408.size a ≤ S2x2816x1408.size a := by revert s; decide
theorem aOff_inbG (s : Fin 2) : ∀ a, aOff s a + S1x1408x2816.size a ≤ S2x2816x2816.size a := by revert s; decide
theorem hOff_inbG (s : Fin 2) : ∀ a, hOff s a + S1x1408x2816.size a ≤ S2x2816x2816.size a := by revert s; decide
theorem rOff_inbA (e : Fin 16) : ∀ a, rOff e a + S1x2816x2816.size a ≤ S16x2816x2816.size a := by revert e; decide
theorem rOff_inbB (e : Fin 16) : ∀ a, rOff e a + S1x2816x1408.size a ≤ S16x2816x1408.size a := by revert e; decide
theorem cOff_inb (r s : Fin 2) : ∀ a, cOff r s a + S1x1.size a ≤ S2x2.size a := by revert r s; decide
theorem oOff_inb (j : ℕ) (hj : j < 16) : ∀ a, oOff j a + S1.size a ≤ S16.size a := by
  intro a; fin_cases a; show j + 1 ≤ 16; omega

theorem inb_congr {n : ℕ} {f g : Fin n → ℕ} {p q : Fin n → ℕ} (e : f = g) (h : ∀ a, g a + p a ≤ q a) : ∀ a, f a + p a ≤ q a := e ▸ h

theorem wwA {f : Fin 3 → ℕ} {s : Fin 2} (e : f = aOff s) (hinb : ∀ a, f a + S1x2816x2816.size a ≤ S2x2816x2816.size a) :
    (Rect.unit (s := S2x2816x2816) f S1x2816x2816.size hinb).WholeWords (EltTy.packing .i8) := by
  subst e; revert s; decide
theorem wwB {f : Fin 3 → ℕ} {s : Fin 2} (e : f = aOff s) (hinb : ∀ a, f a + S1x2816x1408.size a ≤ S2x2816x1408.size a) :
    (Rect.unit (s := S2x2816x1408) f S1x2816x1408.size hinb).WholeWords (EltTy.packing .i8) := by
  subst e; revert s; decide
theorem wwRA {f : Fin 3 → ℕ} {e : Fin 16} (he : f = rOff e) (hinb : ∀ a, f a + S1x2816x2816.size a ≤ S16x2816x2816.size a) :
    (Rect.unit (s := S16x2816x2816) f S1x2816x2816.size hinb).WholeWords (EltTy.packing .i8) := by
  subst he; revert e; decide
theorem wwRB {f : Fin 3 → ℕ} {e : Fin 16} (he : f = rOff e) (hinb : ∀ a, f a + S1x2816x1408.size a ≤ S16x2816x1408.size a) :
    (Rect.unit (s := S16x2816x1408) f S1x2816x1408.size hinb).WholeWords (EltTy.packing .i8) := by
  subst he; revert e; decide

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32)

theorem cwOff_inb (n : ℕ) (hn : n < 16) : ∀ a, (![(cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n).toNat] : Fin 1 → ℕ) a + S1.size a ≤ S16.size a := by
  have h := cw_toNat (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n (by omega)
  have hl := actTo_length_le (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n
  intro a; fin_cases a
  show (cw (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) n).toNat + 1 ≤ 16; omega

theorem t1_ok : (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := by
  have ht := trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  rw [t1_def] at ht ⊢
  refine ⟨by show 0 < (1#32 : BitVec 32).toInt; decide, ?_⟩
  show (0#32 : BitVec 32).toInt + ((_ : ℕ) : ℤ) * (1#32 : BitVec 32).toInt < 2 ^ 31
  rw [show (0#32 : BitVec 32).toInt = 0 from by decide, show (1#32 : BitVec 32).toInt = 1 from by decide]
  have ht' : Scf.trips _ _ _ = _ := ht
  rw [ht']; omega
theorem t2_ok : (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).OK := by
  have ht := trips2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hl := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have h5 := toInt_of_isInt (isInt_593 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
  rw [t2_def] at ht ⊢
  refine ⟨by show 0 < (1#32 : BitVec 32).toInt; decide, ?_⟩
  have ht' : Scf.trips _ _ _ = _ := ht
  show (BitVec.toInt _) + ((Scf.trips _ _ _ : ℕ) : ℤ) * (1#32 : BitVec 32).toInt < 2 ^ 31
  rw [ht', h5]; push_cast; omega

/-- The check holds at every 48 words. -/
theorem chk1 : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 := by
  have no2 : ∀ k : Fin (k0_t2_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips, False := fun k => Nat.not_lt_zero _ (Nat.lt_of_lt_of_eq k.isLt (trips2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))
  refine ⟨⟨?_, ?_, ?_, ?_, ?_, ?_, ?_, ?_, ?_, ?_, ?_, ?_, ?_, ?_, ?_, t1_ok v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384, ?_, ?_, ?_, ?_, ?_, ?_, ?_, ?_, ?_, ?_, ?_, ?_, ?_, ?_, ?_, ?_⟩,
    ⟨?_, ?_, t2_ok v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384, ?_, ?_, ?_, ?_, ?_, ?_, ?_, ?_, ?_, ?_, ?_, ?_, ?_, ?_, ?_, ?_, ?_, ?_⟩⟩
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 1 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 2 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 3 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 4 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 5 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 6 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 7 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 8 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 9 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 10 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 11 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 12 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 13 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 14 (by omega)
  · exact cwOff_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 15 (by omega)
  · intro k h
    have h' := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).1 h
    have := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
    exact inb_congr (off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (by omega))
  · exact fun k h => inb_congr (off23_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k h => inb_congr (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbA _)
  · exact fun k h => wwA (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k h => inb_congr (off26_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k h => inb_congr (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  · exact fun k h => wwB (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k))
  · exact fun k => inb_congr (off30_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k => inb_congr (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbA _)
  · exact fun k => wwA (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off33_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (cOff_inb _ _)
  · exact fun k => inb_congr (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  · exact fun k => wwB (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k)
  · exact fun k => inb_congr (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (oOff_inb _ (k_lt16 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k))
  · exact fun k => inb_congr (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbG _)
  · exact fun k => inb_congr (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (hOff_inbG _)
  · exact fun k => inb_congr (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) (aOff_inbB _)
  all_goals exact fun k => (no2 k).elim

/-- A word below 16 passes the checks made of an expert read from the table. -/
theorem rOff_of {w : BitVec 32} (h : w.toNat < 16) : (![w.toNat, 0, 0] : Fin 3 → ℕ) = rOff ⟨w.toNat, h⟩ := rfl
theorem chk2 (w : BitVec 32) (h : w.toNat < 16) : k0_chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 w :=
  ⟨fun _ => rOff_inbA ⟨w.toNat, h⟩, fun _ => wwRA (e := ⟨w.toNat, h⟩) rfl, fun _ => rOff_inbB ⟨w.toNat, h⟩, fun _ => wwRB (e := ⟨w.toNat, h⟩) rfl⟩
theorem chk3 (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (w : BitVec 32) (h : w.toNat < 16) : k0_chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k w :=
  ⟨fun _ => rOff_inbA ⟨w.toNat, h⟩, fun _ => wwRA (e := ⟨w.toNat, h⟩) rfl, fun _ => rOff_inbB ⟨w.toNat, h⟩, fun _ => wwRB (e := ⟨w.toNat, h⟩) rfl⟩
theorem chk4 (w : BitVec 32) (h : w.toNat < 16) : k0_chk4 w :=
  ⟨rOff_inbA ⟨w.toNat, h⟩, wwRA (e := ⟨w.toNat, h⟩) rfl, rOff_inbB ⟨w.toNat, h⟩, wwRB (e := ⟨w.toNat, h⟩) rfl⟩
theorem chk5 (w : BitVec 32) (h : w.toNat < 16) : k0_chk5 w := by
  show ∀ a, (![w.toNat, 0] : Fin 2 → ℕ) a + S1x2816.size a ≤ S16x2816.size a
  intro a; fin_cases a
  · show w.toNat + 1 ≤ 16; omega
  · show 0 + 2816 ≤ 2816; omega

end

end Cert.Proof.RunKernel
-- ==== Proof.KernelNames.lean ====
/-
  The names the proof gives to what the kernel slices: expert `e`'s rows of the two stacked weight arrays, slot `s`
  of the two ring buffers, the semaphore of ring buffer `r`'s slot `s`; and the equations by which the kernel's own
  slices, at literal, trip and table-read offsets, are those.
-/
module

public import proofs.«01_k».proof.Proof.KernelIdealNames
public import proofs.«01_k».proof.Proof.KernelChain
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open Cert.Proof.Bits

abbrev wA : Memref sig .tc .hbm S16x2816x2816 .i8 := Memref.whole main_arg3
abbrev wB : Memref sig .tc .hbm S16x2816x1408 .i8 := Memref.whole main_arg5
abbrev shA : Memref sig .tc .hbm S2816x2816 .i8 := Memref.whole main_arg7
abbrev shB : Memref sig .tc .hbm S2816x1408 .i8 := Memref.whole main_arg9
abbrev bufA : Memref sig .tc .vmem S2x2816x2816 .i8 := Memref.whole cc0_scratch0
abbrev bufB : Memref sig .tc .vmem S2x2816x1408 .i8 := Memref.whole cc0_scratch1
abbrev accM : Memref sig .tc .vmem S8x2816 .f32 := Memref.whole cc0_scratch2
abbrev wteM : Memref sig .tc .vmem S8x128 .f32 := Memref.whole cc0_scratch3
abbrev ordM : Memref sig .tc .smem S16 .i32 := Memref.whole cc0_scratch4

/-- Expert `e`'s rows of the first stacked weight array, as the body slices and squeezes them; -/
def rowA (e : Fin 16) : Memref sig .tc .hbm S2816x2816 .i8 :=
  (wA.slice (Rect.unit (s := S16x2816x2816) (rOff e) S1x2816x2816.size (rOff_inbA e)) (fun _ => rfl)).squeeze S2816x2816 squeezes_S1x2816x2816_S2816x2816
/-- of the second. -/
def rowB (e : Fin 16) : Memref sig .tc .hbm S2816x1408 .i8 :=
  (wB.slice (Rect.unit (s := S16x2816x1408) (rOff e) S1x2816x1408.size (rOff_inbB e)) (fun _ => rfl)).squeeze S2816x1408 squeezes_S1x2816x1408_S2816x1408
/-- Slot `s` of the first ring buffer; -/
def slA (s : Fin 2) : Memref sig .tc .vmem S2816x2816 .i8 :=
  (bufA.slice (Rect.unit (s := S2x2816x2816) (aOff s) S1x2816x2816.size (aOff_inbA s)) (fun _ => rfl)).squeeze S2816x2816 squeezes_S1x2816x2816_S2816x2816
/-- of the second. -/
def slB (s : Fin 2) : Memref sig .tc .vmem S2816x1408 .i8 :=
  (bufB.slice (Rect.unit (s := S2x2816x1408) (aOff s) S1x2816x1408.size (aOff_inbB s)) (fun _ => rfl)).squeeze S2816x1408 squeezes_S1x2816x1408_S2816x1408
/-- The semaphore of ring buffer `r`'s slot `s`. -/
def csm (r s : Fin 2) : DmaSems sig S_ := (cc0_scratch5.slice (Rect.unit (s := S2x2) (cOff r s) S1x1.size (cOff_inb r s))).squeeze S_ squeezes_S1x1_S_

instance (s : Fin 2) : ClosedOff (aOff s) := ⟨aOff s, rfl⟩
instance (s : Fin 2) : ClosedOff (hOff s) := ⟨hOff s, rfl⟩
instance (e : Fin 16) : ClosedOff (rOff e) := ⟨rOff e, rfl⟩

instance (w : BitVec 32) : ClosedOff (k0_off37 w) := ⟨![w.toNat, 0], rfl⟩

/-- An expert read from the table. -/
abbrev eOf (w : BitVec 32) : Fin 16 := Fin.ofNat 16 w.toNat
theorem word_lt (M : BitVec 32) (j : ℕ) : (BitVec.ofNat 32 (ord M j)).toNat < 16 := by
  have := ord_lt M j
  rw [BitVec.toNat_ofNat, Nat.mod_eq_of_lt (by omega)]; exact this
/-- The `j`-th active expert. -/
abbrev eAt (M : BitVec 32) (j : ℕ) : Fin 16 := eOf (BitVec.ofNat 32 (ord M j))
theorem off37_eq {w : BitVec 32} {M : BitVec 32} {j : ℕ} (h : w = BitVec.ofNat 32 (ord M j)) : k0_off37 w = ![(eAt M j).val, 0] := by
  show ![w.toNat, 0] = ![(BitVec.ofNat 32 (ord M j)).toNat % 16, 0]
  rw [Nat.mod_eq_of_lt (word_lt M j), h]
theorem rOff_eOf {w : BitVec 32} (h : w.toNat < 16) : (![w.toNat, 0, 0] : Fin 3 → ℕ) = rOff (eOf w) := by
  show ![w.toNat, 0, 0] = ![w.toNat % 16, 0, 0]
  rw [Nat.mod_eq_of_lt h]

theorem csm_congr {off : Fin 2 → Nat} {r s : Fin 2} (e : off = cOff r s) (hh) :
    (cc0_scratch5.slice (Rect.unit (s := S2x2) off S1x1.size hh)).squeeze S_ squeezes_S1x1_S_ = csm r s :=
  congrArg (fun A : DmaSems sig S1x1 => A.squeeze S_ squeezes_S1x1_S_) (SemArray.slice_unit_congr _ e _ _)
theorem slA_congr {off : Fin 3 → Nat} {s : Fin 2} (e : off = aOff s) (hh hs) :
    (bufA.slice (Rect.unit (s := S2x2816x2816) off S1x2816x2816.size hh) hs).squeeze S2816x2816 squeezes_S1x2816x2816_S2816x2816 = slA s :=
  congrArg (fun M : Memref sig .tc .vmem S1x2816x2816 .i8 => M.squeeze S2816x2816 squeezes_S1x2816x2816_S2816x2816) (Memref.slice_unit_congr _ e _ _ _ _)
theorem slB_congr {off : Fin 3 → Nat} {s : Fin 2} (e : off = aOff s) (hh hs) :
    (bufB.slice (Rect.unit (s := S2x2816x1408) off S1x2816x1408.size hh) hs).squeeze S2816x1408 squeezes_S1x2816x1408_S2816x1408 = slB s :=
  congrArg (fun M : Memref sig .tc .vmem S1x2816x1408 .i8 => M.squeeze S2816x1408 squeezes_S1x2816x1408_S2816x1408) (Memref.slice_unit_congr _ e _ _ _ _)
theorem rowA_congr {off : Fin 3 → Nat} {e : Fin 16} (he : off = rOff e) (hh hs) :
    (wA.slice (Rect.unit (s := S16x2816x2816) off S1x2816x2816.size hh) hs).squeeze S2816x2816 squeezes_S1x2816x2816_S2816x2816 = rowA e :=
  congrArg (fun M : Memref sig .tc .hbm S1x2816x2816 .i8 => M.squeeze S2816x2816 squeezes_S1x2816x2816_S2816x2816) (Memref.slice_unit_congr _ he _ _ _ _)
theorem rowB_congr {off : Fin 3 → Nat} {e : Fin 16} (he : off = rOff e) (hh hs) :
    (wB.slice (Rect.unit (s := S16x2816x1408) off S1x2816x1408.size hh) hs).squeeze S2816x1408 squeezes_S1x2816x1408_S2816x1408 = rowB e :=
  congrArg (fun M : Memref sig .tc .hbm S1x2816x1408 .i8 => M.squeeze S2816x1408 squeezes_S1x2816x1408_S2816x1408) (Memref.slice_unit_congr _ he _ _ _ _)

/-! The literal slices: the shared expert's, slot 0. -/

@[sl_canon] theorem semL00 (hh) : (cc0_scratch5.slice (Rect.unit (s := S2x2) ![0, 0] S1x1.size hh)).squeeze S_ squeezes_S1x1_S_ = csm 0 0 := csm_congr (by decide) _
@[sl_canon] theorem semL10 (hh) : (cc0_scratch5.slice (Rect.unit (s := S2x2) ![1, 0] S1x1.size hh)).squeeze S_ squeezes_S1x1_S_ = csm 1 0 := csm_congr (by decide) _
@[sl_canon] theorem semL16 (hh) : (cc0_scratch5.slice (Rect.unit (s := S2x2) k0_off16 S1x1.size hh)).squeeze S_ squeezes_S1x1_S_ = csm 0 1 := csm_congr (by decide) _
@[sl_canon] theorem semL19 (hh) : (cc0_scratch5.slice (Rect.unit (s := S2x2) k0_off19 S1x1.size hh)).squeeze S_ squeezes_S1x1_S_ = csm 1 1 := csm_congr (by decide) _
@[sl_canon] theorem slAL0 (hh hs) : (bufA.slice (Rect.unit (s := S2x2816x2816) ![0, 0, 0] S1x2816x2816.size hh) hs).squeeze S2816x2816 squeezes_S1x2816x2816_S2816x2816 = slA 0 := slA_congr (by decide) _ _
@[sl_canon] theorem slBL0 (hh hs) : (bufB.slice (Rect.unit (s := S2x2816x1408) ![0, 0, 0] S1x2816x1408.size hh) hs).squeeze S2816x1408 squeezes_S1x2816x1408_S2816x1408 = slB 0 := slB_congr (by decide) _ _
@[sl_canon] theorem slAL1 (hh hs) : (bufA.slice (Rect.unit (s := S2x2816x2816) k0_off17 S1x2816x2816.size hh) hs).squeeze S2816x2816 squeezes_S1x2816x2816_S2816x2816 = slA 1 := slA_congr (by decide) _ _
@[sl_canon] theorem slBL1 (hh hs) : (bufB.slice (Rect.unit (s := S2x2816x1408) k0_off20 S1x2816x1408.size hh) hs).squeeze S2816x1408 squeezes_S1x2816x1408_S2816x1408 = slB 1 := slB_congr (by decide) _ _
@[sl_canon] theorem rowA18 (w : BitVec 32) (h : w.toNat < 16) (hh hs) : (wA.slice (Rect.unit (s := S16x2816x2816) (k0_off18 w) S1x2816x2816.size hh) hs).squeeze S2816x2816 squeezes_S1x2816x2816_S2816x2816 = rowA (eOf w) := rowA_congr (rOff_eOf h) _ _
@[sl_canon] theorem rowB21 (w : BitVec 32) (h : w.toNat < 16) (hh hs) : (wB.slice (Rect.unit (s := S16x2816x1408) (k0_off21 w) S1x2816x1408.size hh) hs).squeeze S2816x1408 squeezes_S1x2816x1408_S2816x1408 = rowB (eOf w) := rowB_congr (rOff_eOf h) _ _
@[sl_canon] theorem rowA25 (w : BitVec 32) (h : w.toNat < 16) (hh hs) : (wA.slice (Rect.unit (s := S16x2816x2816) (k0_off25 w) S1x2816x2816.size hh) hs).squeeze S2816x2816 squeezes_S1x2816x2816_S2816x2816 = rowA (eOf w) := rowA_congr (rOff_eOf h) _ _
@[sl_canon] theorem rowB28 (w : BitVec 32) (h : w.toNat < 16) (hh hs) : (wB.slice (Rect.unit (s := S16x2816x1408) (k0_off28 w) S1x2816x1408.size hh) hs).squeeze S2816x1408 squeezes_S1x2816x1408_S2816x1408 = rowB (eOf w) := rowB_congr (rOff_eOf h) _ _
@[sl_canon] theorem rowA32 (w : BitVec 32) (h : w.toNat < 16) (hh hs) : (wA.slice (Rect.unit (s := S16x2816x2816) (k0_off32 w) S1x2816x2816.size hh) hs).squeeze S2816x2816 squeezes_S1x2816x2816_S2816x2816 = rowA (eOf w) := rowA_congr (rOff_eOf h) _ _
@[sl_canon] theorem rowB35 (w : BitVec 32) (h : w.toNat < 16) (hh hs) : (wB.slice (Rect.unit (s := S16x2816x1408) (k0_off35 w) S1x2816x1408.size hh) hs).squeeze S2816x1408 squeezes_S1x2816x1408_S2816x1408 = rowB (eOf w) := rowB_congr (rOff_eOf h) _ _

/-! Trip `k`'s slices: slot `k % 2` refilled, slot `(k + 1) % 2` waited. -/

section
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips)

@[sl_canon] theorem sem23 (hh) : (cc0_scratch5.slice (Rect.unit (s := S2x2) (k0_off23 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 0 (Ring.sl 2 k.val) := csm_congr (off23_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem26 (hh) : (cc0_scratch5.slice (Rect.unit (s := S2x2) (k0_off26 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 1 (Ring.sl 2 k.val) := csm_congr (off26_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem30 (hh) : (cc0_scratch5.slice (Rect.unit (s := S2x2) (k0_off30 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 0 (Ring.sl 2 (k.val + 1)) := csm_congr (off30_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem sem33 (hh) : (cc0_scratch5.slice (Rect.unit (s := S2x2) (k0_off33 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x1.size hh)).squeeze S_ squeezes_S1x1_S_ = csm 1 (Ring.sl 2 (k.val + 1)) := csm_congr (off33_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _
@[sl_canon] theorem slA24 (hh hs) : (bufA.slice (Rect.unit (s := S2x2816x2816) (k0_off24 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x2816.size hh) hs).squeeze S2816x2816 squeezes_S1x2816x2816_S2816x2816 = slA (Ring.sl 2 k.val) := slA_congr (off24_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slA31 (hh hs) : (bufA.slice (Rect.unit (s := S2x2816x2816) (k0_off31 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x2816.size hh) hs).squeeze S2816x2816 squeezes_S1x2816x2816_S2816x2816 = slA (Ring.sl 2 (k.val + 1)) := slA_congr (off31_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slB27 (hh hs) : (bufB.slice (Rect.unit (s := S2x2816x1408) (k0_off27 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x1408.size hh) hs).squeeze S2816x1408 squeezes_S1x2816x1408_S2816x1408 = slB (Ring.sl 2 k.val) := slB_congr (off27_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _
@[sl_canon] theorem slB34 (hh hs) : (bufB.slice (Rect.unit (s := S2x2816x1408) (k0_off34 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) S1x2816x1408.size hh) hs).squeeze S2816x1408 squeezes_S1x2816x1408_S2816x1408 = slB (Ring.sl 2 (k.val + 1)) := slB_congr (off34_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _

instance : ClosedOff (k0_off22 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff (k.val + 1), off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off29 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff k.val, off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off36 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨oOff k.val, off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off38 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨aOff (Ring.sl 2 (k.val + 1)), off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off39 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨hOff (Ring.sl 2 (k.val + 1)), off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩
instance : ClosedOff (k0_off40 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) := ⟨aOff (Ring.sl 2 (k.val + 1)), off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k⟩

end

end Cert.Proof.RunKernel
-- ==== Proof.KernelReads.lean ====
/-
  What the loads read: an expert's rows landed in a slot of the ring buffers, as rows of the stacked weight arrays;
  and the shared expert's weights landed in slot 0.
-/
module

public import proofs.«01_k».proof.Proof.KernelIdealReads
public import proofs.«01_k».proof.Proof.KernelNames
public import Idealize.ShloMosaic.Lib.Pipeline.Value

@[expose] public section

noncomputable section

namespace Cert.Proof.RunKernel

open Cert.Kernel Cert.Kernel.Gen
open Idealize.ShloMosaic
open Idealize.ShloMosaic.TcCoe Idealize.ShloMosaic.Tactic
open Cert.Proof.Bits

variable {F : FTy → Type} [FloatOps F]

/-- Indices of the arrays read, by coordinates. -/
def ixA (e : Fin 16) (b c : Fin 2816) : S16x2816x2816.Idx := fun a => match a with | 0 => e | 1 => b | 2 => c
def ixB (e : Fin 16) (b : Fin 2816) (c : Fin 1408) : S16x2816x1408.Idx := fun a => match a with | 0 => e | 1 => b | 2 => c
def ixa (b c : Fin 2816) : S2816x2816.Idx := fun a => match a with | 0 => b | 1 => c
def ixb (b : Fin 2816) (c : Fin 1408) : S2816x1408.Idx := fun a => match a with | 0 => b | 1 => c

/-- Row `i` of the first half, -/
def lo (i : Fin 1408) : Fin 2816 := ⟨i.val, by omega⟩
/-- of the second half, of 2816 rows. -/
def hi (i : Fin 1408) : Fin 2816 := ⟨1408 + i.val, by omega⟩

/-- The first half of the rows of a matrix; the second half; the second matrix's rows: each as the body loads it. -/
def gate (p : S2816x2816.Idx → Elt F .i8) : S1x1408x2816.Idx → Elt F .i8 := fun i => p (ixa (lo (i 1)) (i 2))
def up (p : S2816x2816.Idx → Elt F .i8) : S1x1408x2816.Idx → Elt F .i8 := fun i => p (ixa (hi (i 1)) (i 2))
def down (p : S2816x1408.Idx → Elt F .i8) : S1x2816x1408.Idx → Elt F .i8 := fun i => p (ixb (i 1) (i 2))
/-- Expert `e`'s two matrices. -/
def exA (X : S16x2816x2816.Idx → Elt F .i8) (e : Fin 16) : S2816x2816.Idx → Elt F .i8 := fun i => X (ixA e (i 0) (i 1))
def exB (X : S16x2816x1408.Idx → Elt F .i8) (e : Fin 16) : S2816x1408.Idx → Elt F .i8 := fun i => X (ixB e (i 0) (i 1))

/-- A view of one leading row of an array, squeezed, reads the array's row. -/
theorem squeezed_at {sp : Space} {e : EltTy} {n0 n1 n2 : ℕ} (M : Memref sig .tc sp ⟨3, ![n0, n1, n2]⟩ e) (s : ℕ)
    (inb : ∀ a, (![s, 0, 0] : Fin 3 → ℕ) a + (![1, n1, n2] : Fin 3 → ℕ) a ≤ (![n0, n1, n2] : Fin 3 → ℕ) a)
    (hq : (⟨3, ![1, n1, n2]⟩ : Shape).Squeezes ⟨2, ![n1, n2]⟩) (f : M.view.ty.Contents (Elt F)) (j : (⟨2, ![n1, n2]⟩ : Shape).Idx)
    (y : (⟨3, ![n0, n1, n2]⟩ : Shape).Idx) (h0 : (y 0).val = s) (h1 : (y 1).val = (j 0).val) (h2 : (y 2).val = (j 1).val) :
    M.view.read (Elt F) f y
      = ((M.slice (Rect.unit (s := ⟨3, ![n0, n1, n2]⟩) ![s, 0, 0] ![1, n1, n2] inb) (fun _ => rfl)).squeeze ⟨2, ![n1, n2]⟩ hq).view.read (Elt F) f j := by
  rw [Memref.read_squeeze_slice (Val := Elt F) M (Rect.unit (s := ⟨3, ![n0, n1, n2]⟩) ![s, 0, 0] ![1, n1, n2] inb) (fun _ => rfl) hq hq.numel_eq f]
  refine Eq.trans ?_ (shapeCast_dropUnit_apply ![n1, n2] _ hq.numel_eq j).symm
  rw [View.readAt_apply]
  congr 1
  funext a
  apply Fin.ext
  fin_cases a
  · show (y 0).val = s + 1 * 0; omega
  · show (y 1).val = 0 + 1 * (j 0).val; omega
  · show (y 2).val = 0 + 1 * (j 1).val; omega

theorem slotA_at (s : Fin 2) (f : (slA s).view.ty.Contents (Elt F)) (j : S2816x2816.Idx)
    (y : S2x2816x2816.Idx) (h0 : (y 0).val = s.val) (h1 : (y 1).val = (j 0).val) (h2 : (y 2).val = (j 1).val) :
    bufA.view.read (Elt F) f y = (slA s).view.read (Elt F) f j :=
  squeezed_at bufA s.val (aOff_inbA s) squeezes_S1x2816x2816_S2816x2816 f j y h0 h1 h2
theorem slotB_at (s : Fin 2) (f : (slB s).view.ty.Contents (Elt F)) (j : S2816x1408.Idx)
    (y : S2x2816x1408.Idx) (h0 : (y 0).val = s.val) (h1 : (y 1).val = (j 0).val) (h2 : (y 2).val = (j 1).val) :
    bufB.view.read (Elt F) f y = (slB s).view.read (Elt F) f j :=
  squeezed_at bufB s.val (aOff_inbB s) squeezes_S1x2816x1408_S2816x1408 f j y h0 h1 h2

/-- Expert `e`'s rows, read through the view the transfers take. -/
theorem rowA_read (e : Fin 16) (X : wA.view.ty.Contents (Elt F)) : (rowA e).view.read (Elt F) X = exA (wA.view.read (Elt F) X) e := by
  funext j
  exact (squeezed_at wA e.val (rOff_inbA e) squeezes_S1x2816x2816_S2816x2816 X j (ixA e (j 0) (j 1)) rfl rfl rfl).symm
theorem rowB_read (e : Fin 16) (X : wB.view.ty.Contents (Elt F)) : (rowB e).view.read (Elt F) X = exB (wB.view.read (Elt F) X) e := by
  funext j
  exact (squeezed_at wB e.val (rOff_inbB e) squeezes_S1x2816x1408_S2816x1408 X j (ixB e (j 0) (j 1)) rfl rfl rfl).symm

/-- The three loads out of a slot holding `p`. -/
theorem load_gate (s : Fin 2) {o : Fin 3 → ℕ} (eo : o = aOff s) (h : ∀ a, o a + S1x1408x2816.size a ≤ S2x2816x2816.size a)
    (f : (slA s).view.ty.Contents (Elt F)) (p : S2816x2816.Idx → Elt F .i8) :
    bufA.view.readAt (Elt F) (Rect.unit (s := S2x2816x2816) o S1x1408x2816.size h).toLoadRect
      ((slA s).view.writes (Elt F) f [⟨Rect.whole S2816x2816, p⟩]) = gate p := by
  subst eo; funext i
  refine Eq.trans (slotA_at s _ (ixa (lo (i 1)) (i 2)) _ ?_ ?_ ?_) (congrFun (View.read_writes_whole (Val := Elt F) (slA s).view f p) _)
  · have := (i 0).isLt; show s.val + 1 * (i 0).val = s.val; have h1 : (i 0).val < 1 := this; omega
  · show 0 + 1 * (i 1).val = (i 1).val; omega
  · show 0 + 1 * (i 2).val = (i 2).val; omega
theorem load_up (s : Fin 2) {o : Fin 3 → ℕ} (eo : o = hOff s) (h : ∀ a, o a + S1x1408x2816.size a ≤ S2x2816x2816.size a)
    (f : (slA s).view.ty.Contents (Elt F)) (p : S2816x2816.Idx → Elt F .i8) :
    bufA.view.readAt (Elt F) (Rect.unit (s := S2x2816x2816) o S1x1408x2816.size h).toLoadRect
      ((slA s).view.writes (Elt F) f [⟨Rect.whole S2816x2816, p⟩]) = up p := by
  subst eo; funext i
  refine Eq.trans (slotA_at s _ (ixa (hi (i 1)) (i 2)) _ ?_ ?_ ?_) (congrFun (View.read_writes_whole (Val := Elt F) (slA s).view f p) _)
  · have := (i 0).isLt; show s.val + 1 * (i 0).val = s.val; have h1 : (i 0).val < 1 := this; omega
  · show 1408 + 1 * (i 1).val = 1408 + (i 1).val; omega
  · show 0 + 1 * (i 2).val = (i 2).val; omega
theorem load_down (s : Fin 2) {o : Fin 3 → ℕ} (eo : o = aOff s) (h : ∀ a, o a + S1x2816x1408.size a ≤ S2x2816x1408.size a)
    (f : (slB s).view.ty.Contents (Elt F)) (p : S2816x1408.Idx → Elt F .i8) :
    bufB.view.readAt (Elt F) (Rect.unit (s := S2x2816x1408) o S1x2816x1408.size h).toLoadRect
      ((slB s).view.writes (Elt F) f [⟨Rect.whole S2816x1408, p⟩]) = down p := by
  subst eo; funext i
  refine Eq.trans (slotB_at s _ (ixb (i 1) (i 2)) _ ?_ ?_ ?_) (congrFun (View.read_writes_whole (Val := Elt F) (slB s).view f p) _)
  · have := (i 0).isLt; show s.val + 1 * (i 0).val = s.val; have h1 : (i 0).val < 1 := this; omega
  · show 0 + 1 * (i 1).val = (i 1).val; omega
  · show 0 + 1 * (i 2).val = (i 2).val; omega

/-- A whole store into the accumulator, read back. -/
abbrev R00 : Rect S8x2816 := Rect.unit (s := S8x2816) ![0, 0] S8x2816.size inb_S8x2816_S8x2816_0_0
theorem acc_read (f : accM.view.ty.Contents (Elt F)) (w : S8x2816.Idx → Elt F .f32) :
    accM.view.readAt (Elt F) R00.toLoadRect (accM.view.writes (Elt F) f [⟨R00, w⟩]) = w := by
  funext y
  exact View.read_writes_cons_emb accM.view f R00 w [] y

def ixs (e : Fin 16) (c : Fin 2816) : S16x2816.Idx := fun a => match a with | 0 => e | 1 => c
/-- Row `e` of a table of sixteen rows of scales, as the body loads it. -/
def row (g : S16x2816.Idx → Elt F .f32) (e : Fin 16) : S1x2816.Idx → Elt F .f32 := fun i => g (ixs e (i 1))
theorem load_row {sp : Space} (M : Memref sig .tc sp S16x2816 .f32) (e : Fin 16) {o : Fin 2 → ℕ} (eo : o = ![e.val, 0])
    (h : ∀ a, o a + S1x2816.size a ≤ S16x2816.size a) (g : M.view.ty.Contents (Elt F)) :
    M.view.readAt (Elt F) (Rect.unit (s := S16x2816) o S1x2816.size h).toLoadRect g = row (M.view.read (Elt F) g) e := by
  subst eo; funext i
  rw [View.readAt_apply]; unfold row; congr 1; funext a; apply Fin.ext; fin_cases a
  · show e.val + 1 * (i 0).val = e.val; have h1 : (i 0).val < 1 := (i 0).isLt; omega
  · show 0 + 1 * (i 1).val = (i 1).val; omega
/-- A load at offset zero of the whole extent reads everything. -/
theorem load_zero {sp : Space} {s : Shape} {e : EltTy} (v : View sig .tc sp s e) {o : Fin s.rank → ℕ} (eo : o = fun _ => 0)
    (h : ∀ a, o a + s.size a ≤ s.size a) (g : v.ty.Contents (Elt F)) :
    v.readAt (Elt F) (Rect.unit (s := s) o s.size h).toLoadRect g = v.read (Elt F) g := by
  subst eo; funext i
  rw [View.readAt_apply]; congr 1; funext a; apply Fin.ext
  show 0 + 1 * (i a).val = (i a).val; omega

/-- One expert's contribution added to the accumulator `a`: `w` the expert's number, `wte` the dense table of the
    tokens' weights per expert, `x` the tokens, `s13`, `s2` the two tables of scales, `w13`, `w2` the stacked weights. -/
def accStep (v478 : IVec S8x128 32) (wte : Vec F S8x128 .f32) (x : Vec F S8x1x2816 .bf16) (s13 s2 : Vec F S16x2816 .f32)
    (w13 : S16x2816x2816.Idx → Elt F .i8) (w2 : S16x2816x1408.Idx → Elt F .i8) (w : BitVec 32) (a : Vec F S8x2816 .f32) : Vec F S8x2816 .f32 :=
  k0_pay16 (k0_pay1 v478 w wte) (row s13 (eOf w)) (row s2 (eOf w)) x (gate (exA w13 (eOf w))) (up (exA w13 (eOf w))) (down (exB w2 (eOf w))) a

end Cert.Proof.RunKernel
-- ==== Proof.KernelTrip.lean ====
/-
  One trip of the main loop: the pieces it holds, and its run.
-/
module

public import proofs.«01_k».proof.Proof.KernelIdealTrip
public import proofs.«01_k».proof.Proof.KernelReads

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ
abbrev 𝒱₀ : Variants := Variants.none

theorem rowA_sub (e : Fin 16) : (rowA e).view.set ⊆ wA.view.set := by
  show _ ⊆ (View.whole main_arg3).set; rw [View.set_whole]; exact Finset.subset_univ _
theorem rowB_sub (e : Fin 16) : (rowB e).view.set ⊆ wB.view.set := by
  show _ ⊆ (View.whole main_arg5).set; rw [View.set_whole]; exact Finset.subset_univ _

section Pieces
variable (c : Dev nD)
  (XA : Buf (Elt F) (wA.view.loc (c : Thread nD τ))) (XB : Buf (Elt F) (wB.view.loc (c : Thread nD τ)))

abbrev cellP (r s : Fin 2) : sProp 𝕄 := semVal ((c : Thread nD τ), SemLoc.dma (csm r s).sem) 0
abbrev slotA (s : Fin 2) (f : Buf (Elt F) ((slA s).view.loc (c : Thread nD τ))) : sProp 𝕄 :=
  (slA s).view.loc (c : Thread nD τ) ↦[(slA s).view.set]{fullShare} f
abbrev slotB (s : Fin 2) (f : Buf (Elt F) ((slB s).view.loc (c : Thread nD τ))) : sProp 𝕄 :=
  (slB s).view.loc (c : Thread nD τ) ↦[(slB s).view.set]{fullShare} f
/-- What expert `e`'s transfers leave in slot `s`. -/
abbrev landA (s : Fin 2) (e : Fin 16) (f : Buf (Elt F) ((slA s).view.loc (c : Thread nD τ))) : Buf (Elt F) ((slA s).view.loc (c : Thread nD τ)) :=
  (slA s).view.writes (Elt F) f [⟨Rect.whole S2816x2816, ReadAs.same.apply ((rowA e).view.read (Elt F) XA)⟩]
abbrev landB (s : Fin 2) (e : Fin 16) (f : Buf (Elt F) ((slB s).view.loc (c : Thread nD τ))) : Buf (Elt F) ((slB s).view.loc (c : Thread nD τ)) :=
  (slB s).view.writes (Elt F) f [⟨Rect.whole S2816x1408, ReadAs.same.apply ((rowB e).view.read (Elt F) XB)⟩]

/-- Half of each stacked weight array's share serves the transfers into one slot. -/
def shr (s : Fin 2) : PosShare TreeShare := if s = 0 then (fullShare : PosShare TreeShare).left else (fullShare : PosShare TreeShare).right

/-- The stacked arrays at slot `s`'s half. -/
abbrev homeA (s : Fin 2) : sProp 𝕄 := wA.view.loc (c : Thread nD τ) ↦[wA.view.set]{shr s} XA
abbrev homeB (s : Fin 2) : sProp 𝕄 := wB.view.loc (c : Thread nD τ) ↦[wB.view.set]{shr s} XB
/-- The same less expert `e`'s rows. -/
abbrev restA (s : Fin 2) (e : Fin 16) : sProp 𝕄 := wA.view.loc (c : Thread nD τ) ↦[wA.view.set \ (rowA e).view.set]{shr s} XA
abbrev restB (s : Fin 2) (e : Fin 16) : sProp 𝕄 := wB.view.loc (c : Thread nD τ) ↦[wB.view.set \ (rowB e).view.set]{shr s} XB
/-- Expert `e`'s rows in flight into slot `s`. -/
abbrev flyA (s : Fin 2) (e : Fin 16) (f : Buf (Elt F) ((slA s).view.loc (c : Thread nD τ))) : sProp 𝕄 :=
  Transfers.Flight countersEmb (c : Thread nD τ) (SemLoc.dma (csm 0 s).sem) () 247808
    iprop(slotA c s (landA c XA s e f) ∗ (rowA e).view.loc (c : Thread nD τ) ↦[(rowA e).view.set]{shr s} XA)
abbrev flyB (s : Fin 2) (e : Fin 16) (f : Buf (Elt F) ((slB s).view.loc (c : Thread nD τ))) : sProp 𝕄 :=
  Transfers.Flight countersEmb (c : Thread nD τ) (SemLoc.dma (csm 1 s).sem) () 123904
    iprop(slotB c s (landB c XB s e f) ∗ (rowB e).view.loc (c : Thread nD τ) ↦[(rowB e).view.set]{shr s} XB)

/-- Slot `s` idle: both ring buffers' slots at anything, the two semaphores at zero, the slot's half of the weights. -/
def idle (s : Fin 2) : sProp 𝕄 :=
  iprop((∃ f, slotA c s f) ∗ (∃ f, slotB c s f) ∗ cellP c 0 s ∗ cellP c 1 s ∗ homeA c XA s ∗ homeB c XB s)
/-- Slot `s` being filled with expert `e`'s rows. -/
def fly (s : Fin 2) (e : Fin 16) : sProp 𝕄 :=
  iprop((∃ f, flyA c XA s e f) ∗ (∃ f, flyB c XB s e f) ∗ restA c XA s e ∗ restB c XB s e)
theorem homeA_take (s : Fin 2) (e : Fin 16) :
    homeA c XA s ⊢ iprop(((rowA e).view.loc (c : Thread nD τ) ↦[(rowA e).view.set]{shr s} XA) ∗ restA c XA s e) :=
  (pointsTo_split_subset (rowA_sub e)).1
theorem homeB_take (s : Fin 2) (e : Fin 16) :
    homeB c XB s ⊢ iprop(((rowB e).view.loc (c : Thread nD τ) ↦[(rowB e).view.set]{shr s} XB) ∗ restB c XB s e) :=
  (pointsTo_split_subset (rowB_sub e)).1
theorem homeA_back (s : Fin 2) (e : Fin 16) :
    iprop(((rowA e).view.loc (c : Thread nD τ) ↦[(rowA e).view.set]{shr s} XA) ∗ restA c XA s e) ⊢ homeA c XA s :=
  (pointsTo_split_subset (rowA_sub e)).2
theorem homeB_back (s : Fin 2) (e : Fin 16) :
    iprop(((rowB e).view.loc (c : Thread nD τ) ↦[(rowB e).view.set]{shr s} XB) ∗ restB c XB s e) ⊢ homeB c XB s :=
  (pointsTo_split_subset (rowB_sub e)).2
end Pieces

section Trip
variable (c : Dev nD)
  (XA : Buf (Elt F) (wA.view.loc (c : Thread nD τ))) (XB : Buf (Elt F) (wB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v470 : BitVec 32) (v478 : IVec S8x128 32)
  (v550 v552 : FVec F S1x2816 .f32) (v561 v565 : FVec F S8x1408 .f32)

abbrev tripG (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) : Prog (TpuEff nD τ sig (Elt F) Λ₀ .tc) Unit :=
  k0_t1_body (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k ()

/-- Word `j` of the table, as the body loads it. -/
abbrev tabAt (fT : Buf (Elt F) (ordM.view.loc (c : Thread nD τ))) (j : ℕ) (hj : j < 16) : BitVec 32 :=
  ordM.view.readAt (Elt F) (Rect.unit (s := S16) (oOff j) S1.size (oOff_inb j hj)).toLoadRect fT (Shape.Idx.first (show 0 < S1.numel by decide))

variable
  (fT : Buf (Elt F) (ordM.view.loc (c : Thread nD τ))) (fW : Buf (Elt F) (wteM.view.loc (c : Thread nD τ)))
  (g3 : Buf (Elt F) (arg3.view.loc (c : Thread nD τ))) (g4 : Buf (Elt F) (arg4.view.loc (c : Thread nD τ))) (g5 : Buf (Elt F) (arg5.view.loc (c : Thread nD τ)))

/-- The load of a word at an offset known to be `j` reads word `j`. -/
theorem tab_congr {o : Fin 1 → Nat} (j : ℕ) (hj : j < 16) (h : ∀ a, o a + S1.size a ≤ S16.size a) (e : o = oOff j) (i : (S1 : Shape).Idx) :
    ordM.view.readAt (Elt F) (Rect.unit (s := S16) o S1.size h).toLoadRect fT i = tabAt c fT j hj := by
  subst e; congr 1; funext a; apply Fin.ext; have h1 := (i a).isLt; have h2 := (Shape.Idx.first (show 0 < S1.numel by decide) a).isLt; fin_cases a; simp at h1 h2 ⊢; omega

/-- What every trip holds beside the ring: the order table, the weight table, the accumulator, the tokens and the two
    tables of scales. -/
abbrev kept (fa : Buf (Elt F) (accM.view.loc (c : Thread nD τ))) : sProp 𝕄 :=
  iprop((ordM.view.loc (c : Thread nD τ) ↦[ordM.view.set]{fullShare} fT)
      ∗ (wteM.view.loc (c : Thread nD τ) ↦[wteM.view.set]{fullShare} fW)
      ∗ (accM.view.loc (c : Thread nD τ) ↦[accM.view.set]{fullShare} fa)
      ∗ (arg3.view.loc (c : Thread nD τ) ↦[arg3.view.set]{fullShare} g3)
      ∗ (arg4.view.loc (c : Thread nD τ) ↦[arg4.view.set]{fullShare} g4)
      ∗ (arg5.view.loc (c : Thread nD τ) ↦[arg5.view.set]{fullShare} g5)
      ∗ (∃ W, owes (c : Thread nD τ) 0 W))
/-- The accumulator's values. -/
abbrev accOf (fa : Buf (Elt F) (accM.view.loc (c : Thread nD τ))) : Vec F S8x2816 .f32 := accM.view.readAt (Elt F) R00.toLoadRect fa
/-- The accumulator after the active expert number `j` is added. -/
abbrev stepAt (M : BitVec 32) (j : ℕ) (a : Vec F S8x2816 .f32) : Vec F S8x2816 .f32 :=
  accStep v478 (wteM.view.read (Elt F) fW) (arg3.view.read (Elt F) g3) (arg4.view.read (Elt F) g4) (arg5.view.read (Elt F) g5)
    (wA.view.read (Elt F) XA) (wB.view.read (Elt F) XB) (BitVec.ofNat 32 (ord M j)) a

/-- ONE TRIP with a next expert: its transfers are issued into the idle slot, this trip's expert is waited for, read and added. -/
theorem tripA (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (hk : k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
    (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (fa : Buf (Elt F) (accM.view.loc (c : Thread nD τ))) :
    iprop(fly c XA XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) ∗ idle c XA XB (Ring.sl 2 k.val) ∗ kept c arg3 arg4 arg5 fT fW g3 g4 g5 fa)
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => iprop(fly c XA XB (Ring.sl 2 k.val) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1)) ∗ idle c XA XB (Ring.sl 2 (k.val + 1))
        ∗ ∃ fa', ⌜accOf c fa' = stepAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val (accOf c fa)⌝ ∗ kept c arg3 arg4 arg5 fT fW g3 g4 g5 fa')) := by
  have hkN := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hc := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).2 hk
  unfold fly idle
  iintro ⟨⟨⟨%f0, HFA⟩, ⟨%f1, HFB⟩, HrA, HrB⟩, ⟨⟨%f2, HsA⟩, ⟨%f3, HsB⟩, Hc0, Hc1, HhA, HhB⟩, HT, HW, HACC, H3, H4, H5, ⟨%W, HO⟩⟩
  dsimp only [tripG, wA, wB, shA, shB, bufA, bufB, accM, wteM, ordM]
  sl_unfold [k0_t1_body]
  sl_exec
  sl_step
  sl_exec
  have hw1 : tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1)) := by
    unfold tripA.sl.r
    exact (tab_congr c fT (k.val + 1) (by omega) _ (off22_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ hk)
  have hl1 : (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc).toNat < 16 := by
    rw [hw1]; exact word_lt _ _
  have h3 := chk3 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k _ hl1
  sl_exec
  ihave HhA := (homeA_take c XA (Ring.sl 2 k.val) (eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc))) $$ HhA
  icases HhA with ⟨HwA, HnA⟩
  ihave HhB := (homeB_take c XB (Ring.sl 2 k.val) (eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc))) $$ HhB
  icases HhB with ⟨HwB, HnB⟩
  sl_exec
  have hw2 : tripA.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripA.sl.r_1
    exact (tab_congr c fT k.val (by omega) _ (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl2 : (tripA.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw2]; exact word_lt _ _
  have h4 := chk4 _ hl2
  sl_exec
  have hw3 : tripA.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripA.sl.r_2
    exact (tab_congr c fT k.val (by omega) _ (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl3 : (tripA.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw3]; exact word_lt _ _
  have h5 := chk5 _ hl3
  sl_exec
  sl_step
  sl_exec
  sl_step
  sl_exec
  sl_step
  isplitl [Hc0 Hc1 HnA HnB]
  · have he : eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (k.val + 1) = eOf (tripA.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k hc) := congrArg eOf hw1.symm
    rw [he]
    isplitl [Hc0]; · iexists f2; iexact Hc0
    isplitl [Hc1]; · iexists f3; iexact Hc1
    isplitl [HnA]; · iexact HnA
    iexact HnB
  isplitl [HFA_dst HFB_dst HFA HFB HFA_src HFB_src HrA HrB]
  · isplitl [HFA_dst]; · iexists _; iexact HFA_dst
    isplitl [HFB_dst]; · iexists _; iexact HFB_dst
    isplitl [HFA]; · iexact HFA
    isplitl [HFB]; · iexact HFB
    isplitl [HFA_src HrA]
    · iapply (homeA_back c XA (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFA_src]; · iexact HFA_src
      iexact HrA
    · iapply (homeB_back c XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFB_src]; · iexact HFB_src
      iexact HrB
  iexists _
  isplitr
  rotate_left
  · isplitl [HT]; · iexact HT
    isplitl [HW]; · iexact HW
    isplitl [HACC]; · iexact HACC
    isplitl [H3]; · iexact H3
    isplitl [H4]; · iexact H4
    isplitl [H5]; · iexact H5
    iexists _; iexact HO
  · ipureintro
    refine (acc_read _ _).trans ?_
    have q1 : tripA.sl.r_3 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v478 fT fW k = k0_pay1 v478 (BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)) (wteM.view.read (Elt F) fW) := by
      unfold tripA.sl.r_3
      rw [hw3]
      exact congrArg (k0_pay1 v478 _) (load_zero wteM.view (by funext a; fin_cases a <;> rfl) _ fW)
    exact congrFun (congr (congr (congr (congr (congr (congr (congrArg k0_pay16 q1)
      (load_row arg4 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g4)) (load_row arg5 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g5))
      (load_zero arg3.view (by funext a; fin_cases a <;> rfl) _ g3))
      ((load_gate _ (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg gate (rowA_read _ _))))
      ((load_up _ (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg up (rowA_read _ _))))
      ((load_down _ (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg down (rowB_read _ _)))) _

/-- ONE TRIP, the last: nothing is issued, the slot stays idle. -/
theorem tripB (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) (hk : ¬ k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)
    (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (fa : Buf (Elt F) (accM.view.loc (c : Thread nD τ))) :
    iprop(fly c XA XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) ∗ idle c XA XB (Ring.sl 2 k.val) ∗ kept c arg3 arg4 arg5 fT fW g3 g4 g5 fa)
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => iprop(idle c XA XB (Ring.sl 2 k.val) ∗ idle c XA XB (Ring.sl 2 (k.val + 1))
        ∗ ∃ fa', ⌜accOf c fa' = stepAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val (accOf c fa)⌝ ∗ kept c arg3 arg4 arg5 fT fW g3 g4 g5 fa')) := by
  have hkN := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hc := (cond2_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k).not.2 hk
  unfold fly idle
  iintro ⟨⟨⟨%f0, HFA⟩, ⟨%f1, HFB⟩, HrA, HrB⟩, ⟨⟨%f2, HsA⟩, ⟨%f3, HsB⟩, Hc0, Hc1, HhA, HhB⟩, HT, HW, HACC, H3, H4, H5, ⟨%W, HO⟩⟩
  dsimp only [tripG, wA, wB, shA, shB, bufA, bufB, accM, wteM, ordM]
  sl_unfold [k0_t1_body]
  sl_exec
  sl_step
  sl_exec
  have hw2 : tripB.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripB.sl.r
    exact (tab_congr c fT k.val (by omega) _ (off29_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl2 : (tripB.sl.r c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw2]; exact word_lt _ _
  have h4 := chk4 _ hl2
  sl_exec
  have hw3 : tripB.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) := by
    unfold tripB.sl.r_1
    exact (tab_congr c fT k.val (by omega) _ (off36_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _).trans (hT _ _ (by omega))
  have hl3 : (tripB.sl.r_1 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw fT k).toNat < 16 := by
    rw [hw3]; exact word_lt _ _
  have h5 := chk5 _ hl3
  sl_exec
  sl_step
  sl_exec
  sl_step
  sl_exec
  sl_step
  isplitl [HsA HsB Hc0 Hc1 HhA HhB]
  · isplitl [HsA]; · iexists _; iexact HsA
    isplitl [HsB]; · iexists _; iexact HsB
    isplitl [Hc0]; · iexact Hc0
    isplitl [Hc1]; · iexact Hc1
    isplitl [HhA]; · iexact HhA
    iexact HhB
  isplitl [HFA_dst HFB_dst HFA HFB HFA_src HFB_src HrA HrB]
  · isplitl [HFA_dst]; · iexists _; iexact HFA_dst
    isplitl [HFB_dst]; · iexists _; iexact HFB_dst
    isplitl [HFA]; · iexact HFA
    isplitl [HFB]; · iexact HFB
    isplitl [HFA_src HrA]
    · iapply (homeA_back c XA (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFA_src]; · iexact HFA_src
      iexact HrA
    · iapply (homeB_back c XB (Ring.sl 2 (k.val + 1)) (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)); isplitl [HFB_src]; · iexact HFB_src
      iexact HrB
  iexists _
  isplitr
  rotate_left
  · isplitl [HT]; · iexact HT
    isplitl [HW]; · iexact HW
    isplitl [HACC]; · iexact HACC
    isplitl [H3]; · iexact H3
    isplitl [H4]; · iexact H4
    isplitl [H5]; · iexact H5
    iexists _; iexact HO
  · ipureintro
    refine (acc_read _ _).trans ?_
    have q1 : tripB.sl.r_2 c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v478 fT fW k = k0_pay1 v478 (BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val)) (wteM.view.read (Elt F) fW) := by
      unfold tripB.sl.r_2
      rw [hw3]
      exact congrArg (k0_pay1 v478 _) (load_zero wteM.view (by funext a; fin_cases a <;> rfl) _ fW)
    exact congrFun (congr (congr (congr (congr (congr (congr (congrArg k0_pay16 q1)
      (load_row arg4 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g4)) (load_row arg5 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k.val) (off37_eq hw3) _ g5))
      (load_zero arg3.view (by funext a; fin_cases a <;> rfl) _ g3))
      ((load_gate _ (off38_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg gate (rowA_read _ _))))
      ((load_up _ (off39_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg up (rowA_read _ _))))
      ((load_down _ (off40_eq v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k) _ _ _).trans (congrArg down (rowB_read _ _)))) _

/-- The ring before trip `k`: while an expert is left, it is in flight into one slot and the other slot is idle; then
    both are idle. -/
def ring (M : BitVec 32) (N k : ℕ) : sProp 𝕄 :=
  if k < N then iprop(fly c XA XB (Ring.sl 2 (k + 1)) (eAt M k) ∗ idle c XA XB (Ring.sl 2 k))
  else iprop(idle c XA XB (Ring.sl 2 (k + 1)) ∗ idle c XA XB (Ring.sl 2 k))

/-- The accumulator before trip `k`: from `a0`, the first `k` active experts added in order. -/
def accAt (M : BitVec 32) (a0 : Vec F S8x2816 .f32) : ℕ → Vec F S8x2816 .f32
  | 0 => a0
  | k + 1 => stepAt c XA XB arg3 arg4 arg5 v478 fW g3 g4 g5 M k (accAt M a0 k)

/-- The main loop's invariant. -/
def inv (a0 : Vec F S8x2816 .f32) (k : ℕ) (_ : PUnit) : sProp 𝕄 :=
  iprop(ring c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) k
    ∗ ∃ fa, ⌜accOf c fa = accAt c XA XB arg3 arg4 arg5 v478 fW g3 g4 g5 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) a0 k⌝ ∗ kept c arg3 arg4 arg5 fT fW g3 g4 g5 fa)

theorem sl2_add2 (k : ℕ) : Ring.sl 2 (k + 1 + 1) = Ring.sl 2 k := by rw [show k + 1 + 1 = k + 2 from rfl, Ring.sl_add]

/-- One trip keeps the invariant. -/
theorem trip_inv (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j))
    (a0 : Vec F S8x2816 .f32) (k : Fin (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).trips) :
    inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v478 fT fW g3 g4 g5 a0 k.val ()
    ⊢ wp frame (wpE (defs₀ (F := F)) 𝒱₀ (c : Thread nD τ) none) Set.univ (tripG arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 k)
      (fun _ => inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 v478 fT fW g3 g4 g5 a0 (k.val + 1) ()) := by
  have hk := k_lt v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 k
  unfold inv ring
  rw [if_pos hk, sl2_add2]
  by_cases hn : k.val + 1 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  · rw [if_pos hn]
    iintro ⟨⟨HF, HI⟩, %fa, %ha, HK⟩
    iapply (wp_wand_r Idealize.ShloMosaic.frame (wpE (defs₀ (F := F)) 𝒱₀ (c : Thread nD τ) none) Set.univ)
    isplitl [HF HI HK]
    · iapply (tripA c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 fT fW g3 g4 g5 k hn hT fa)
      isplitl [HF]; · iexact HF
      isplitl [HI]; · iexact HI
      iexact HK
    · iintro %_ ⟨HF, HI, %fa', %ha', HK⟩
      isplitl [HF HI]
      · isplitl [HF]; · iexact HF
        iexact HI
      iexists fa'
      isplitr; · ipureintro; rw [ha', ha]; rfl
      iexact HK
  · rw [if_neg hn]
    iintro ⟨⟨HF, HI⟩, %fa, %ha, HK⟩
    iapply (wp_wand_r Idealize.ShloMosaic.frame (wpE (defs₀ (F := F)) 𝒱₀ (c : Thread nD τ) none) Set.univ)
    isplitl [HF HI HK]
    · iapply (tripB c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565 fT fW g3 g4 g5 k hn hT fa)
      isplitl [HF]; · iexact HF
      isplitl [HI]; · iexact HI
      iexact HK
    · iintro %_ ⟨HF, HI, %fa', %ha', HK⟩
      isplitl [HF HI]
      · isplitl [HF]; · iexact HF
        iexact HI
      iexists fa'
      isplitr; · ipureintro; rw [ha', ha]; rfl
      iexact HK

end Trip

end Cert.Proof.RunKernel
-- ==== Proof.KernelTail.lean ====
/-
  The body after the weight table is read: the shared expert, the loop over the active experts, the result.
-/
module

public import proofs.«01_k».proof.Proof.KernelTrip
public import Idealize.ShloMosaic.Lib.LoopRemainder
public import proofs.«01_k».proof.Proof.KernelIdealTail

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

/-- The lane numbers 0 to 127, once per token. -/
abbrev lanes : IVec S8x128 32 := iota .tc S8x128 32 [1] iota_S8x128_d1_w32

/-- The table of routing weights, one row per token and one lane per expert. -/
def wteV (ids : Vec F S8x1x6 .i32) (wts : Vec F S8x1x6 .f32) : Vec F S8x128 .f32 :=
  k0_pay8 (k0_pay3 ids) (k0_pay4 wts) lanes (k0_pay5 (F := F)) (k0_pay6 ids) (Scalar.ofBits .f32 0x00000000#32) (k0_pay7 wts)

/-- The accumulator once the shared expert is added. -/
def sharedV (x : Vec F S8x1x2816 .bf16) (s1 s2 : Vec F S1x2816 .f32) (w13 : Vec F S2816x2816 .i8) (w2 : Vec F S2816x1408 .i8) : Vec F S8x2816 .f32 :=
  k0_pay15 (k0_pay10 s1) (k0_pay11 s2) (k0_pay13 s1 x (gate w13)) (k0_pay14 x (up w13)) (down w2) (k0_pay9 (F := F))

/-- The accumulator after the first `k` active experts. -/
def accN (wte : Vec F S8x128 .f32) (x : Vec F S8x1x2816 .bf16) (s13 s2 : Vec F S16x2816 .f32)
    (w13 : Vec F S16x2816x2816 .i8) (w2 : Vec F S16x2816x1408 .i8) (M : BitVec 32) (a0 : Vec F S8x2816 .f32) : ℕ → Vec F S8x2816 .f32
  | 0 => a0
  | k + 1 => accStep lanes wte x s13 s2 w13 w2 (BitVec.ofNat 32 (ord M k)) (accN wte x s13 s2 w13 w2 M a0 k)

section Tail
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))

/-- The shared expert's two matrices in flight into slot 0. -/
abbrev flySA (f : Buf (Elt F) ((slA 0).view.loc (c : Thread nD τ))) : sProp 𝕄 :=
  Transfers.Flight countersEmb (c : Thread nD τ) (SemLoc.dma (csm 0 0).sem) () 247808
    iprop(slotA c 0 ((slA 0).view.writes (Elt F) f [⟨Rect.whole S2816x2816, ReadAs.same.apply (shA.view.read (Elt F) XsA)⟩])
      ∗ shA.view.loc (c : Thread nD τ) ↦[shA.view.set]{fullShare} XsA)
abbrev flySB (f : Buf (Elt F) ((slB 0).view.loc (c : Thread nD τ))) : sProp 𝕄 :=
  Transfers.Flight countersEmb (c : Thread nD τ) (SemLoc.dma (csm 1 0).sem) () 123904
    iprop(slotB c 0 ((slB 0).view.writes (Elt F) f [⟨Rect.whole S2816x1408, ReadAs.same.apply (shB.view.read (Elt F) XsB)⟩])
      ∗ shB.view.loc (c : Thread nD τ) ↦[shB.view.set]{fullShare} XsB)

variable
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v470 : BitVec 32)
  (ids : Vec F S8x1x6 .i32) (wts : Vec F S8x1x6 .f32)

abbrev tail2G : Prog (TpuEff nD τ sig (Elt F) Λ₀ .tc) PUnit := do
  k0_part19 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 (k0_pay3 ids) (k0_pay4 wts) lanes (k0_pay5 (F := F)) (k0_pay6 ids) (Scalar.ofBits .f32 0x00000000#32) (k0_pay7 wts)
  let ⟨v550, v552, v561, v565⟩ : Σ' (v550 : FVec F S1x2816 .f32) (v552 : FVec F S1x2816 .f32) (v561 : FVec F S8x1408 .f32), FVec F S8x1408 .f32 ← k0_part20 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5
  k0_part21 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 lanes v550 v552 v561 v565
  pure ⟨⟩

variable
  (fT : Buf (Elt F) (ordM.view.loc (c : Thread nD τ)))
  (g3 : Buf (Elt F) (arg3.view.loc (c : Thread nD τ))) (g4 : Buf (Elt F) (arg4.view.loc (c : Thread nD τ))) (g5 : Buf (Elt F) (arg5.view.loc (c : Thread nD τ)))
  (g6 : Buf (Elt F) (arg6.view.loc (c : Thread nD τ))) (g7 : Buf (Elt F) (arg7.view.loc (c : Thread nD τ)))

/-- The windows that the rest of the body reads. -/
abbrev wins : sProp 𝕄 :=
  iprop((arg3.view.loc (c : Thread nD τ) ↦[arg3.view.set]{fullShare} g3)
      ∗ (arg4.view.loc (c : Thread nD τ) ↦[arg4.view.set]{fullShare} g4)
      ∗ (arg5.view.loc (c : Thread nD τ) ↦[arg5.view.set]{fullShare} g5)
      ∗ (arg6.view.loc (c : Thread nD τ) ↦[arg6.view.set]{fullShare} g6)
      ∗ (arg7.view.loc (c : Thread nD τ) ↦[arg7.view.set]{fullShare} g7)
      ∗ (∃ W, owes (c : Thread nD τ) 0 W))

/-- What the body computes. -/
abbrev outOf (M : BitVec 32) : Vec F S8x1x2816 .bf16 :=
  k0_pay18 (accN (wteV ids wts) (arg3.view.read (Elt F) g3) (arg4.view.read (Elt F) g4) (arg5.view.read (Elt F) g5)
    (wA.view.read (Elt F) XA) (wB.view.read (Elt F) XB) M
    (sharedV (arg3.view.read (Elt F) g3) (arg6.view.read (Elt F) g6) (arg7.view.read (Elt F) g7) (shA.view.read (Elt F) XsA) (shB.view.read (Elt F) XsB))
    (cnt M))

/-- The end of the body. -/
abbrev done (M : BitVec 32) : sProp 𝕄 :=
  iprop(idle c XA XB 1 ∗ idle c XA XB 0
    ∗ (shA.view.loc (c : Thread nD τ) ↦[shA.view.set]{fullShare} XsA) ∗ (shB.view.loc (c : Thread nD τ) ↦[shB.view.set]{fullShare} XsB)
    ∗ (∃ fW, wteM.view.loc (c : Thread nD τ) ↦[wteM.view.set]{fullShare} fW)
    ∗ (∃ fa, accM.view.loc (c : Thread nD τ) ↦[accM.view.set]{fullShare} fa)
    ∗ (∃ fT, ordM.view.loc (c : Thread nD τ) ↦[ordM.view.set]{fullShare} fT)
    ∗ wins c arg3 arg4 arg5 arg6 arg7 g3 g4 g5 g6 g7
    ∗ ∃ g12, ⌜arg12.view.read (Elt F) g12 = outOf c XA XB XsA XsB arg3 arg4 arg5 arg6 arg7 ids wts g3 g4 g5 g6 g7 M⌝
      ∗ (arg12.view.loc (c : Thread nD τ) ↦[arg12.view.set]{fullShare} g12))

theorem accAt_eq (fW : Buf (Elt F) (wteM.view.loc (c : Thread nD τ))) (M : BitVec 32) (a0 : Vec F S8x2816 .f32) (wte : Vec F S8x128 .f32)
    (h : wteM.view.read (Elt F) fW = wte) : ∀ k, accAt c XA XB arg3 arg4 arg5 lanes fW g3 g4 g5 M a0 k
      = accN wte (arg3.view.read (Elt F) g3) (arg4.view.read (Elt F) g4) (arg5.view.read (Elt F) g5) (wA.view.read (Elt F) XA) (wB.view.read (Elt F) XB) M a0 k
  | 0 => rfl
  | k + 1 => by rw [accAt, accN, accAt_eq fW M a0 wte h k, ← h]

theorem ring_end (M : BitVec 32) (N : ℕ) : ring c XA XB M N N ⊢ iprop(idle c XA XB 1 ∗ idle c XA XB 0) := by
  unfold ring
  rw [if_neg (Nat.lt_irrefl N)]
  rcases Nat.mod_two_eq_zero_or_one N with h | h
  · rw [show Ring.sl 2 (N + 1) = (1 : Fin 2) from Fin.ext (by show (N + 1) % 2 = 1; omega), show Ring.sl 2 N = (0 : Fin 2) from Fin.ext (by show N % 2 = 0; omega)]
  · rw [show Ring.sl 2 (N + 1) = (0 : Fin 2) from Fin.ext (by show (N + 1) % 2 = 0; omega), show Ring.sl 2 N = (1 : Fin 2) from Fin.ext (by show N % 2 = 1; omega)]
    iintro ⟨H0, H1⟩
    isplitl [H1]; · iexact H1
    iexact H0

theorem ring_start (M : BitVec 32) (N : ℕ) :
    iprop((if 0 < N then fly c XA XB 1 (eAt M 0) else idle c XA XB 1) ∗ idle c XA XB 0) ⊢ ring c XA XB M N 0 := by
  unfold ring
  rw [show Ring.sl 2 (0 + 1) = (1 : Fin 2) from rfl, show Ring.sl 2 0 = (0 : Fin 2) from rfl]
  by_cases h : 0 < N
  · rw [if_pos h, if_pos h]
  · rw [if_neg h, if_neg h]

set_option maxHeartbeats 4000000 in
/-- THE BODY AFTER THE ROUTING IS READ. -/
theorem tail2 (hT : ∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) (first : sProp 𝕄)
    (hF : first = if 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 then fly c XA XB 1 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) else idle c XA XB 1) :
    iprop(first ∗ (∃ f, flySA c XsA f) ∗ (∃ f, flySB c XsB f) ∗ homeA c XA 0 ∗ homeB c XB 0
      ∗ (∃ fW, wteM.view.loc (c : Thread nD τ) ↦[wteM.view.set]{fullShare} fW)
      ∗ (∃ fa, accM.view.loc (c : Thread nD τ) ↦[accM.view.set]{fullShare} fa)
      ∗ (ordM.view.loc (c : Thread nD τ) ↦[ordM.view.set]{fullShare} fT)
      ∗ wins c arg3 arg4 arg5 arg6 arg7 g3 g4 g5 g6 g7
      ∗ ∃ g12, arg12.view.loc (c : Thread nD τ) ↦[arg12.view.set]{fullShare} g12)
    ⊢ wp frame (wpE (defs₀ (F := F)) 𝒱₀ (c : Thread nD τ) none) Set.univ (tail2G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 ids wts)
      (fun _ => done c XA XB XsA XsB arg3 arg4 arg5 arg6 arg7 arg12 ids wts g3 g4 g5 g6 g7 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) := by
  iintro ⟨HF, ⟨%f0, HFA⟩, ⟨%f1, HFB⟩, HhA, HhB, ⟨%fW, HW⟩, ⟨%fa, HACC⟩, HT, ⟨H3, H4, H5, H6, H7, ⟨%W, HO⟩⟩, ⟨%g12, H12⟩⟩
  dsimp only [tail2G, wA, wB, shA, shB, bufA, bufB, accM, wteM, ordM]
  sl_exec
  sl_step
  sl_exec
  sl_step
  sl_exec
  have hWr : wteM.view.read (Elt F) (wteM.view.writes (Elt F) wteM.view.junk
      [⟨Rect.unit (s := S8x128) ![0, 0] S8x128.size inb_S8x128_S8x128_0_0, wteV ids wts⟩]) = wteV ids wts :=
    (load_zero wteM.view (by funext a; fin_cases a <;> rfl) inb_S8x128_S8x128_0_0 _).symm.trans (by
      funext y
      exact View.read_writes_cons_emb wteM.view _ (Rect.unit (s := S8x128) ![0, 0] S8x128.size inb_S8x128_S8x128_0_0) (wteV ids wts) [] y)
  have hA0 : accOf c ((Memref.whole cc0_scratch2).view.writes (Elt F) (Memref.whole cc0_scratch2).view.junk
      (tail2.sl.HACC_2 c XsA XsB arg3 arg6 arg7 g3 g6 g7))
      = sharedV (arg3.view.read (Elt F) g3) (arg6.view.read (Elt F) g6) (arg7.view.read (Elt F) g7) (shA.view.read (Elt F) XsA) (shB.view.read (Elt F) XsB) := by
    unfold tail2.sl.HACC_2
    refine Eq.trans (b := _) (by
      funext y
      exact View.read_writes_cons_emb accM.view _ R00 _ _ y) ?_
    unfold sharedV tail2.sl.r tail2.sl.r_1 tail2.sl.r_2 tail2.sl.r_3
    have e6 := load_zero arg6.view (by funext a; fin_cases a <;> rfl) inb_S1x2816_S1x2816_0_0 g6
    have e7 := load_zero arg7.view (by funext a; fin_cases a <;> rfl) inb_S1x2816_S1x2816_0_0 g7
    have e3 := load_zero arg3.view (by funext a; fin_cases a <;> rfl) inb_S8x1x2816_S8x1x2816_0_0_0 g3
    have eg : tail2.sl.v555 c XsA = gate (shA.view.read (Elt F) XsA) := by
      unfold tail2.sl.v555; exact load_gate 0 (by decide) _ _ _
    have eu : tail2.sl.v562 c XsA = up (shA.view.read (Elt F) XsA) := by
      unfold tail2.sl.v562; exact load_up 0 (by decide) _ _ _
    have ed : tail2.sl.v573 c XsB = down (shB.view.read (Elt F) XsB) := by
      unfold tail2.sl.v573; exact load_down 0 (by decide) _ _ _
    have ea : tail2.sl.v579 (F := F) c = k0_pay9 (F := F) := by
      unfold tail2.sl.v579; exact acc_read _ _
    rw [eg, eu, ed, ea]
    exact congr (congr (congr (congr (congr (congrArg k0_pay15 (congrArg k0_pay10 e6)) (congrArg k0_pay11 e7))
      (congr (congr (congrArg k0_pay13 e6) e3) rfl)) (congr (congrArg k0_pay14 e3) rfl)) rfl) rfl
  sl_for (inv c XA XB arg3 arg4 arg5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 lanes fT (wteM.view.writes (Elt F) wteM.view.junk
      [⟨Rect.unit (s := S8x128) ![0, 0] S8x128.size inb_S8x128_S8x128_0_0, wteV ids wts⟩]) g3 g4 g5
      (sharedV (arg3.view.read (Elt F) g3) (arg6.view.read (Elt F) g6) (arg7.view.read (Elt F) g7) (shA.view.read (Elt F) XsA) (shB.view.read (Elt F) XsB)))
    $$ [HF HhA HhB HT H3 H4 H5 HW HACC HFA_dst HFA HFB_dst HFB HO]
  case region =>
    intro k _
    exact trip_inv c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 lanes _ _ _ _ fT _ g3 g4 g5 hT _ k
  · subst hF
    unfold inv
    isplitl [HF HFA_dst HFB_dst HFA HFB HhA HhB]
    · iapply (ring_start c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384))
      isplitl [HF]; · iexact HF
      unfold idle
      isplitl [HFA_dst]; · iexists _; iexact HFA_dst
      isplitl [HFB_dst]; · iexists _; iexact HFB_dst
      isplitl [HFA]; · iexact HFA
      isplitl [HFB]; · iexact HFB
      isplitl [HhA]; · iexact HhA
      iexact HhB
    iexists _
    isplitr
    rotate_left
    · isplitl [HT]; · iexact HT
      isplitl [HW]; · iexact HW
      isplitl [HACC]; · iexact HACC
      isplitl [H3]; · iexact H3
      isplitl [H4]; · iexact H4
      isplitl [H5]; · iexact H5
      iexists _; iexact HO
    · ipureintro; exact hA0
  unfold inv
  irw [show Scf.trips (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).lb (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).ub (k0_t1_loop v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).st = nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 from trips1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384]
  iintro %_ ⟨HR, %fa', %ha', HT, HW, HACC, H3, H4, H5, ⟨%W', HO⟩⟩
  sl_exec
  sl_step
  ihave HR := (ring_end c XA XB (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) $$ HR
  icases HR with ⟨HR1, HR0⟩
  isplitl [HR1]; · iexact HR1
  isplitl [HR0]; · iexact HR0
  isplitl [HFA_src]; · iexact HFA_src
  isplitl [HFB_src]; · iexact HFB_src
  isplitl [HW]; · iexists _; iexact HW
  isplitl [HACC]; · iexists _; iexact HACC
  isplitl [HT]; · iexists _; iexact HT
  isplitl [H3 H4 H5 H6 H7 HO]
  · isplitl [H3]; · iexact H3
    isplitl [H4]; · iexact H4
    isplitl [H5]; · iexact H5
    isplitl [H6]; · iexact H6
    isplitl [H7]; · iexact H7
    iexists _; iexact HO
  iexists _
  isplitr
  rotate_left
  · iexact H12
  · ipureintro
    refine (load_zero arg12.view (by funext a; fin_cases a <;> rfl) inb_S8x1x2816_S8x1x2816_0_0_0 _).symm.trans (Eq.trans (b := _) (by
      funext y
      exact View.read_writes_cons_emb arg12.view _ (Rect.unit (s := S8x1x2816) ![0, 0, 0] S8x1x2816.size inb_S8x1x2816_S8x1x2816_0_0_0) _ [] y) ?_)
    rw [accAt_eq c XA XB arg3 arg4 arg5 g3 g4 g5 _ _ _ _ hWr]

end Tail
end Cert.Proof.RunKernel
-- ==== Proof.KernelBody.lean ====
/-
  The body: the active experts listed in order, the first one's transfers started, then the rest.
-/
module

public import proofs.«01_k».proof.Proof.KernelTail
public import Idealize.ShloMosaic.Lib.CellWrites
public import proofs.«01_k».proof.Proof.KernelIdealBody

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

section Table
variable (c : Dev nD) (f : Buf (Elt F) (ordM.view.loc (c : Thread nD τ)))

/-- Word `j` of the table. -/
def tabG (j : ℕ) : BitVec 32 := if hj : j < 16 then tabAt c f j hj else 0#32

theorem tabAt_read (j : ℕ) (hj : j < 16) : tabAt c f j hj = ordM.view.read (Elt F) f (fun a => ⟨j, by fin_cases a; exact hj⟩) := by
  unfold tabAt
  rw [View.readAt_apply]; congr 1; funext a; apply Fin.ext; fin_cases a
  have h2 := (Shape.Idx.first (show 0 < S1.numel by decide) (0 : Fin 1)).isLt
  simp at h2 ⊢
  exact h2

/-- One more store carries the model of the table one step on. -/
theorem tab_step (M : BitVec 32) (n : ℕ) {o : Fin 1 → ℕ} (e : o = ![(cw M n).toNat]) (h : ∀ a, o a + S1.size a ≤ S16.size a)
    (L : List (View.Piece (Elt F) S16 .i32)) (j : ℕ) (hj : j < 16)
    (ih : tabAt c (ordM.view.writes (Elt F) f L) j hj = tab M (tabG c f) n j) :
    tabAt c (ordM.view.writes (Elt F) f (⟨Rect.unit (s := S16) o S1.size h, fun _ => BitVec.ofNat 32 n⟩ :: L)) j hj = tab M (tabG c f) (n + 1) j := by
  rw [tabAt_read]
  refine (View.read_writes_cons_cell (d := ![16]) ordM.view f (off := o) h (BitVec.ofNat 32 n) L _).trans ?_
  rw [tab, ← ih, tabAt_read]
  subst e
  rfl
end Table

section Body
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v383 : BitVec 32) (v385 : BitVec 1)

/-- What the routing's part returns. -/
abbrev RetT (F : FTy → Type) : Type := Σ' (v470 : BitVec 32) (v475 : IVec S8x6 32) (v477 : FVec F S8x6 .f32) (v478 : IVec S8x128 32) (v479 : FVec F S8x128 .f32) (v482 : IVec S8x128 1) (cst_428 : F .f32), FVec F S8x1 .f32

/-- The order table's part of the body, before any continuation. -/
abbrev tail1G (K : RetT F → Prog (TpuEff nD τ sig (Elt F) Λ₀ .tc) PUnit) : Prog (TpuEff nD τ sig (Elt F) Λ₀ .tc) PUnit := do
  let ⟨v391, v415⟩ : Σ' (v391 : BitVec 32), BitVec 32 ← k0_part16 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v383 v384 hw v385
  let ⟨v450, c12_i32⟩ : Σ' (v450 : BitVec 32), BitVec 32 ← k0_part17 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v391 v415
  let r ← k0_part18 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v391 v450 c12_i32
  K r

variable
  (g1 : Buf (Elt F) (arg1.view.loc (c : Thread nD τ))) (g2 : Buf (Elt F) (arg2.view.loc (c : Thread nD τ)))

/-- The slot that the first active expert goes to. -/
def firstP : sProp 𝕄 := if 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 then fly c XA XB 1 (eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) else idle c XA XB 1

set_option maxHeartbeats 4000000 in
/-- THE BODY AFTER THE IDS ARE READ: the active experts' numbers listed, the first one's transfers issued. -/
theorem tail1 (K : RetT F → Prog (TpuEff nD τ sig (Elt F) Λ₀ .tc) PUnit) (R Q : sProp 𝕄)
    (hK : ∀ v470 fT, (∀ j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c fT j hj = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j)) →
      iprop(R ∗ (arg1.view.loc (c : Thread nD τ) ↦[arg1.view.set]{fullShare} g1)
        ∗ (arg2.view.loc (c : Thread nD τ) ↦[arg2.view.set]{fullShare} g2)
        ∗ firstP c XA XB v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
        ∗ (ordM.view.loc (c : Thread nD τ) ↦[ordM.view.set]{fullShare} fT))
      ⊢ wp frame (wpE (defs₀ (F := F)) 𝒱₀ (c : Thread nD τ) none) Set.univ
        (K ⟨v470, k0_pay3 (arg1.view.read (Elt F) g1), k0_pay4 (arg2.view.read (Elt F) g2), lanes, k0_pay5 (F := F), k0_pay6 (arg1.view.read (Elt F) g1),
          Scalar.ofBits .f32 0x00000000#32, k0_pay7 (arg2.view.read (Elt F) g2)⟩) (fun _ => Q)) :
    iprop(R ∗ (arg1.view.loc (c : Thread nD τ) ↦[arg1.view.set]{fullShare} g1)
      ∗ (arg2.view.loc (c : Thread nD τ) ↦[arg2.view.set]{fullShare} g2)
      ∗ idle c XA XB 1
      ∗ (∃ fT, ordM.view.loc (c : Thread nD τ) ↦[ordM.view.set]{fullShare} fT))
    ⊢ wp frame (wpE (defs₀ (F := F)) 𝒱₀ (c : Thread nD τ) none) Set.univ (tail1G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 K) (fun _ => Q) := by
  iintro ⟨HR, H1, H2, HI, ⟨%fT, HT⟩⟩
  dsimp only [tail1G, wA, wB, shA, shB, bufA, bufB, accM, wteM, ordM]
  sl_exec
  sl_step
  sl_exec
  have hN := nAct_le v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  have hT : ∀ (fT : Buf (Elt F) (ordM.view.loc (c : Thread nD τ))) j (hj : j < 16), j < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 → tabAt c ((Memref.whole cc0_scratch4).view.writes (Elt F) fT
      (⟨Rect.unit (s := S16) (k0_off15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) S1.size (k0_off15_inb v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw), fun x => 15#32⟩ :: tail1.sl.HT_15 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw)) j hj
      = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) j) := by
    intro fT j hj hn
    rw [← tab_ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (tabG c fT) j hn]
    refine tab_step c fT _ 15 (off15_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 14 (off14_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 13 (off13_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 12 (off12_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 11 (off11_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 10 (off10_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 9 (off9_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 8 (off8_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 7 (off7_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 6 (off6_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 5 (off5_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 4 (off4_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 3 (off3_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 2 (off2_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 1 (off1_def v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) _ _ j hj ?_
    refine tab_step c fT _ 0 rfl _ _ j hj ?_
    unfold tab tabG
    rw [dif_pos hj]
    rfl
  by_cases hn : 0 < nAct v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384
  · have hc := (cond1_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).2 hn
    sl_exec
    have hw1 : tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw = BitVec.ofNat 32 (ord (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0) := by
      unfold tail1.sl.r_17
      unfold tail1.sl.f_16
      exact (tab_congr c _ 0 (by omega) _ rfl _).trans (hT _ 0 (by omega) hn)
    have hl1 : (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw).toNat < 16 := by
      rw [hw1]; exact word_lt _ _
    have h2 := chk2 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 _ hl1
    unfold idle
    icases HI with ⟨⟨%e0, HsA⟩, ⟨%e1, HsB⟩, Hc0, Hc1, HgA, HgB⟩
    sl_exec
    ihave HgA := (homeA_take c XA 1 (eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))) $$ HgA
    icases HgA with ⟨HwA, HnA⟩
    ihave HgB := (homeB_take c XB 1 (eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))) $$ HgB
    icases HgB with ⟨HwB, HnB⟩
    sl_exec
    have q3 : tail1.sl.r_18 c arg1 g1 = k0_pay3 (arg1.view.read (Elt F) g1) :=
        congrArg k0_pay3 (load_zero arg1.view (by funext a; fin_cases a <;> rfl) inb_S8x1x6_S8x1x6_0_0_0 g1)
    have q4 : tail1.sl.r_19 c arg2 g2 = k0_pay4 (arg2.view.read (Elt F) g2) :=
        congrArg k0_pay4 (load_zero arg2.view (by funext a; fin_cases a <;> rfl) inb_S8x1x6_S8x1x6_0_0_0 g2)
    have q6 : tail1.sl.r_20 c arg1 g1 = k0_pay6 (arg1.view.read (Elt F) g1) :=
        congrArg k0_pay6 (load_zero arg1.view (by funext a; fin_cases a <;> rfl) inb_S8x1x6_S8x1x6_0_0_0 g1)
    have q7 : tail1.sl.r_21 c arg2 g2 = k0_pay7 (arg2.view.read (Elt F) g2) :=
        congrArg k0_pay7 (load_zero arg2.view (by funext a; fin_cases a <;> rfl) inb_S8x1x6_S8x1x6_0_0_0 g2)
    irw [q3, q4, q6, q7]
    iapply (hK _ _ (hT fT))
    isplitl [HR]; · iexact HR
    isplitl [H1]; · iexact H1
    isplitl [H2]; · iexact H2
    isplitl [HnA HnB Hc0 Hc1]
    · unfold firstP
      irw [if_pos hn]
      have he : eAt (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) 0 = eOf (tail1.sl.r_17 (F := F) c v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw) := congrArg eOf hw1.symm
      irw [he]
      unfold fly
      isplitl [Hc0]; · iexists e0; iexact Hc0
      isplitl [Hc1]; · iexists e1; iexact Hc1
      isplitl [HnA]; · iexact HnA
      iexact HnB
    iexact HT
  · have hc := (cond1_iff v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384).not.2 hn
    sl_exec
    have q3 : tail1.sl.r_22 c arg1 g1 = k0_pay3 (arg1.view.read (Elt F) g1) :=
        congrArg k0_pay3 (load_zero arg1.view (by funext a; fin_cases a <;> rfl) inb_S8x1x6_S8x1x6_0_0_0 g1)
    have q4 : tail1.sl.r_23 c arg2 g2 = k0_pay4 (arg2.view.read (Elt F) g2) :=
        congrArg k0_pay4 (load_zero arg2.view (by funext a; fin_cases a <;> rfl) inb_S8x1x6_S8x1x6_0_0_0 g2)
    have q6 : tail1.sl.r_24 c arg1 g1 = k0_pay6 (arg1.view.read (Elt F) g1) :=
        congrArg k0_pay6 (load_zero arg1.view (by funext a; fin_cases a <;> rfl) inb_S8x1x6_S8x1x6_0_0_0 g1)
    have q7 : tail1.sl.r_25 c arg2 g2 = k0_pay7 (arg2.view.read (Elt F) g2) :=
        congrArg k0_pay7 (load_zero arg2.view (by funext a; fin_cases a <;> rfl) inb_S8x1x6_S8x1x6_0_0_0 g2)
    irw [q3, q4, q6, q7]
    iapply (hK _ _ (hT fT))
    isplitl [HR]; · iexact HR
    isplitl [H1]; · iexact H1
    isplitl [H2]; · iexact H2
    isplitl [HI]
    · unfold firstP
      irw [if_neg hn]
      iexact HI
    iexact HT

end Body

section Top
variable (c : Dev nD)
  (XA : Buf (Elt F) (wA.view.loc (c : Thread nD τ))) (XB : Buf (Elt F) (wB.view.loc (c : Thread nD τ)))
  (XsA : Buf (Elt F) (shA.view.loc (c : Thread nD τ))) (XsB : Buf (Elt F) (shB.view.loc (c : Thread nD τ)))
  (arg0 : Memref sig .tc .smem S8x1x6 .i32) (harg0 : arg0.IsWhole) (arg1 : Memref sig .tc .vmem S8x1x6 .i32) (harg1 : arg1.IsWhole) (arg2 : Memref sig .tc .vmem S8x1x6 .f32) (harg2 : arg2.IsWhole) (arg3 : Memref sig .tc .vmem S8x1x2816 .bf16) (harg3 : arg3.IsWhole) (arg4 : Memref sig .tc .vmem S16x2816 .f32) (harg4 : arg4.IsWhole) (arg5 : Memref sig .tc .vmem S16x2816 .f32) (harg5 : arg5.IsWhole) (arg6 : Memref sig .tc .vmem S1x2816 .f32) (harg6 : arg6.IsWhole) (arg7 : Memref sig .tc .vmem S1x2816 .f32) (harg7 : arg7.IsWhole) (arg12 : Memref sig .tc .vmem S8x1x2816 .bf16) (harg12 : arg12.IsWhole)
  (g0 : Buf (Elt F) (arg0.view.loc (c : Thread nD τ))) (g1 : Buf (Elt F) (arg1.view.loc (c : Thread nD τ))) (g2 : Buf (Elt F) (arg2.view.loc (c : Thread nD τ)))
  (g3 : Buf (Elt F) (arg3.view.loc (c : Thread nD τ))) (g4 : Buf (Elt F) (arg4.view.loc (c : Thread nD τ))) (g5 : Buf (Elt F) (arg5.view.loc (c : Thread nD τ)))
  (g6 : Buf (Elt F) (arg6.view.loc (c : Thread nD τ))) (g7 : Buf (Elt F) (arg7.view.loc (c : Thread nD τ)))

/-- Word `i` of the ids, token by token. -/
def ix6 (i : Fin 48) : S8x1x6.Idx := fun a => match a with
  | 0 => ⟨i.val / 6, by show i.val / 6 < 8; omega⟩ | 1 => ⟨0, Nat.one_pos⟩ | 2 => ⟨i.val % 6, by show i.val % 6 < 6; omega⟩

/-- What the body is given beside the three windows of the routing, the output window's contents not named. -/
abbrev given : sProp 𝕄 :=
  iprop(idle c XA XB 1 ∗ idle c XA XB 0
    ∗ (shA.view.loc (c : Thread nD τ) ↦[shA.view.set]{fullShare} XsA) ∗ (shB.view.loc (c : Thread nD τ) ↦[shB.view.set]{fullShare} XsB)
    ∗ (∃ fW, wteM.view.loc (c : Thread nD τ) ↦[wteM.view.set]{fullShare} fW)
    ∗ (∃ fa, accM.view.loc (c : Thread nD τ) ↦[accM.view.set]{fullShare} fa)
    ∗ (∃ fT, ordM.view.loc (c : Thread nD τ) ↦[ordM.view.set]{fullShare} fT)
    ∗ wins c arg3 arg4 arg5 arg6 arg7 g3 g4 g5 g6 g7
    ∗ ∃ g12, arg12.view.loc (c : Thread nD τ) ↦[arg12.view.set]{fullShare} g12)

/-- The word of token `t`, lane `l`. -/
theorem word (t l : ℕ) (ht : ∀ a, (![t, 0, l] : Fin 3 → ℕ) a + S1x1x1.size a ≤ S8x1x6.size a) (hi : 6 * t + l < 48) (hf) :
    arg0.view.readAt (Elt F) (Rect.unit (s := S8x1x6) ![t, 0, l] S1x1x1.size ht).toLoadRect g0 (Shape.Idx.first hf)
      = arg0.view.read (Elt F) g0 (ix6 ⟨6 * t + l, hi⟩) := by
  rw [View.readAt_apply]
  have h2 : l + 1 ≤ 6 := ht 2
  refine congrArg (arg0.view.read (Elt F) g0) (funext fun a => ?_)
  fin_cases a
  · exact Fin.ext (by show t + 1 * 0 = (6 * t + l) / 6; omega)
  · exact Fin.ext (by show 0 + 1 * 0 = 0; omega)
  · exact Fin.ext (by show l + 1 * 0 = (6 * t + l) % 6; omega)

/-- A return gives its value to what follows. -/
theorem ret_intro {α : Type} {Ef : Type → Type*} {Mask : Type*} {Fr : Mask → sProp 𝕄} {E : Mask} {Λ : Mask → ∀ ⦃β : Type⦄, Ef β → sWPT 𝕄 β} (a : α) (Q : α → sProp 𝕄) :
    Q a ⊢ wp Fr Λ E (Pure.pure a) Q := fupd_intro

section Rest
variable (v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 : BitVec 32) (hw : k0_chk1 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) (v383 : BitVec 32) (v385 : BitVec 1)

/-- The body after the order table: the weights per lane, the shared expert, the loop, the store. -/
abbrev restK : RetT F → Prog (TpuEff nD τ sig (Elt F) Λ₀ .tc) PUnit := fun r => match r with
  | ⟨v470, v475, v477, v478, v479, v482, cst_428, v484⟩ => do
    k0_part19 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v475 v477 v478 v479 v482 cst_428 v484
    let ⟨v550, v552, v561, v565⟩ : Σ' (v550 : FVec F S1x2816 .f32) (v552 : FVec F S1x2816 .f32) (v561 : FVec F S8x1408 .f32), FVec F S8x1408 .f32 ← k0_part20 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5
    k0_part21 (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 v478 v550 v552 v561 v565
    pure ⟨⟩

/-- What the body holds when the ids are read, the routing's windows, the order table and slot 1 apart. -/
abbrev held : sProp 𝕄 :=
  iprop((arg0.view.loc (c : Thread nD τ) ↦[arg0.view.set]{fullShare} g0)
    ∗ (∃ f, flySA c XsA f) ∗ (∃ f, flySB c XsB f) ∗ homeA c XA 0 ∗ homeB c XB 0
    ∗ (∃ fW, wteM.view.loc (c : Thread nD τ) ↦[wteM.view.set]{fullShare} fW)
    ∗ (∃ fa, accM.view.loc (c : Thread nD τ) ↦[accM.view.set]{fullShare} fa)
    ∗ wins c arg3 arg4 arg5 arg6 arg7 g3 g4 g5 g6 g7
    ∗ ∃ g12, arg12.view.loc (c : Thread nD τ) ↦[arg12.view.set]{fullShare} g12)

/-- What the body leaves, with the mask `M` of the used experts. -/
abbrev left (M : BitVec 32) : sProp 𝕄 :=
  iprop((arg0.view.loc (c : Thread nD τ) ↦[arg0.view.set]{fullShare} g0)
    ∗ (arg1.view.loc (c : Thread nD τ) ↦[arg1.view.set]{fullShare} g1)
    ∗ (arg2.view.loc (c : Thread nD τ) ↦[arg2.view.set]{fullShare} g2)
    ∗ done c XA XB XsA XsB arg3 arg4 arg5 arg6 arg7 arg12 (arg1.view.read (Elt F) g1) (arg2.view.read (Elt F) g2) g3 g4 g5 g6 g7 M)

theorem rest :
    iprop(held c XA XB XsA XsB arg0 arg3 arg4 arg5 arg6 arg7 arg12 g0 g3 g4 g5 g6 g7
      ∗ (arg1.view.loc (c : Thread nD τ) ↦[arg1.view.set]{fullShare} g1)
      ∗ (arg2.view.loc (c : Thread nD τ) ↦[arg2.view.set]{fullShare} g2)
      ∗ idle c XA XB 1
      ∗ (∃ fT, ordM.view.loc (c : Thread nD τ) ↦[ordM.view.set]{fullShare} fT))
    ⊢ wp frame (wpE (defs₀ (F := F)) 𝒱₀ (c : Thread nD τ) none) Set.univ
      (tail1G arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 (restK arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw))
      (fun _ => left c XA XB XsA XsB arg0 arg1 arg2 arg3 arg4 arg5 arg6 arg7 arg12 g0 g1 g2 g3 g4 g5 g6 g7 (msk v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384)) := by
  refine tail1 c XA XB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v383 v385 g1 g2 (restK arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw) _ _ fun v470 fT hT => ?_
  have T := tail2 c XA XB XsA XsB arg0 harg0 arg1 harg1 arg2 harg2 arg3 harg3 arg4 harg4 arg5 harg5 arg6 harg6 arg7 harg7 arg12 harg12 v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384 hw v470 (arg1.view.read (Elt F) g1) (arg2.view.read (Elt F) g2) fT g3 g4 g5 g6 g7 hT
    (firstP c XA XB v8 v16 v24 v32 v40 v48 v56 v64 v72 v80 v88 v96 v104 v112 v120 v128 v136 v144 v152 v160 v168 v176 v184 v192 v200 v208 v216 v224 v232 v240 v248 v256 v264 v272 v280 v288 v296 v304 v312 v320 v328 v336 v344 v352 v360 v368 v376 v384) rfl
  iintro ⟨⟨H0, HFA, HFB, HhA, HhB, HW, HACC, HWI, H12⟩, H1, H2, HF, HT⟩
  iapply (wp_wand_r Idealize.ShloMosaic.frame (wpE (defs₀ (F := F)) 𝒱₀ (c : Thread nD τ) none) Set.univ)
  isplitl [HFA HFB HhA HhB HW HACC HWI H12 HF HT]
  · iapply T
    isplitl [HF]; · iexact HF
    isplitl [HFA]; · iexact HFA
    isplitl [HFB]; · iexact HFB
    isplitl [HhA]; · iexact HhA
    isplitl [HhB]; · iexact HhB
    isplitl [HW]; · iexact HW
    isplitl [HACC]; · iexact HACC
    isplitl [HT]; · iexact HT
    isplitl [HWI]; · iexact HWI
    iexact H12
  · iintro %_ HD
    isplitl [H0]; · iexact H0
    isplitl [H1]; · iexact H1
    isplitl [H2]; · iexact H2
    iexact HD

end Rest

set_option maxHeartbeats 4000000 in
theorem body :
    iprop((arg0.view.loc (c : Thread nD τ) ↦[arg0.view.set]{fullShare} g0)
      ∗ (arg1.view.loc (c : Thread nD τ) ↦[arg1.view.set]{fullShare} g1)
      ∗ (arg2.view.loc (c : Thread nD τ) ↦[arg2.view.set]{fullShare} g2)
      ∗ given c XA XB XsA XsB arg3 arg4 arg5 arg6 arg7 arg12 g3 g4 g5 g6 g7)
    ⊢ wp frame (wpE (defs₀ (F := F)) 𝒱₀ (c : Thread nD τ) none) Set.univ (cc0__body (F := F) arg0 harg0 arg1 harg1 arg2 harg2 arg3 harg3 arg4 harg4 arg5 harg5 arg6 harg6 arg7 harg7 wA (Memref.isWhole_whole _) wB (Memref.isWhole_whole _) shA (Memref.isWhole_whole _) shB (Memref.isWhole_whole _) arg12 harg12 bufA (Memref.isWhole_whole _) bufB (Memref.isWhole_whole _) accM (Memref.isWhole_whole _) wteM (Memref.isWhole_whole _) ordM (Memref.isWhole_whole _) cc0_scratch5)
      (fun _ => left c XA XB XsA XsB arg0 arg1 arg2 arg3 arg4 arg5 arg6 arg7 arg12 g0 g1 g2 g3 g4 g5 g6 g7
        (maskOf (List.ofFn fun i : Fin 48 => arg0.view.read (Elt F) g0 (ix6 i)))) := by
  unfold given
  iintro ⟨H0, H1, H2, HI1, HI0, HsA', HsB', HW, HACC, HT, HWI, H12⟩
  ihave HI0 := (show idle c XA XB 0 ⊢ iprop((∃ f, slotA c 0 f) ∗ (∃ f, slotB c 0 f) ∗ cellP c 0 0 ∗ cellP c 1 0 ∗ homeA c XA 0 ∗ homeB c XB 0) from .rfl) $$ HI0
  icases HI0 with ⟨⟨%e0, HtA⟩, ⟨%e1, HtB⟩, Hd0, Hd1, HhA, HhB⟩
  sl_unfold [cc0__body]
  sl_exec
  have hw : k0_chk1 (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0) := chk1 (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0)
  have hm : msk (body.sl.r c arg0 g0) (body.sl.r_1 c arg0 g0) (body.sl.r_2 c arg0 g0) (body.sl.r_3 c arg0 g0) (body.sl.r_4 c arg0 g0) (body.sl.r_5 c arg0 g0) (body.sl.r_6 c arg0 g0) (body.sl.r_7 c arg0 g0) (body.sl.r_8 c arg0 g0) (body.sl.r_9 c arg0 g0) (body.sl.r_10 c arg0 g0) (body.sl.r_11 c arg0 g0) (body.sl.r_12 c arg0 g0) (body.sl.r_13 c arg0 g0) (body.sl.r_14 c arg0 g0) (body.sl.r_15 c arg0 g0) (body.sl.r_16 c arg0 g0) (body.sl.r_17 c arg0 g0) (body.sl.r_18 c arg0 g0) (body.sl.r_19 c arg0 g0) (body.sl.r_20 c arg0 g0) (body.sl.r_21 c arg0 g0) (body.sl.r_22 c arg0 g0) (body.sl.r_23 c arg0 g0) (body.sl.r_24 c arg0 g0) (body.sl.r_25 c arg0 g0) (body.sl.r_26 c arg0 g0) (body.sl.r_27 c arg0 g0) (body.sl.r_28 c arg0 g0) (body.sl.r_29 c arg0 g0) (body.sl.r_30 c arg0 g0) (body.sl.r_31 c arg0 g0) (body.sl.r_32 c arg0 g0) (body.sl.r_33 c arg0 g0) (body.sl.r_34 c arg0 g0) (body.sl.r_35 c arg0 g0) (body.sl.r_36 c arg0 g0) (body.sl.r_37 c arg0 g0) (body.sl.r_38 c arg0 g0) (body.sl.r_39 c arg0 g0) (body.sl.r_40 c arg0 g0) (body.sl.r_41 c arg0 g0) (body.sl.r_42 c arg0 g0) (body.sl.r_43 c arg0 g0) (body.sl.r_44 c arg0 g0) (body.sl.r_45 c arg0 g0) (body.sl.r_46 c arg0 g0) (body.sl.r_47 c arg0 g0) = maskOf (List.ofFn fun i : Fin 48 => arg0.view.read (Elt F) g0 (ix6 i)) := by
    unfold msk
    refine congrArg maskOf ?_
    symm
    refine (show List.ofFn _ = _ from List.ofFn_succ).trans ?_
    repeat' (first | exact (List.ofFn_zero) | refine congrArg₂ List.cons ?_ (Eq.trans List.ofFn_succ ?_) | refine congrArg₂ List.cons ?_ ?_)
    all_goals exact Eq.symm (Eq.trans (word c arg0 g0 _ _ _ (by decide) _) rfl)
  rw [← hm]
  iapply (wp_assume _ _ _ _ hw)
  iapply (ret_intro)
  iapply (rest c XA XB XsA XsB arg0 harg0 arg1 harg1 arg2 harg2 arg3 harg3 arg4 harg4 arg5 harg5 arg6 harg6 arg7 harg7 arg12 harg12 g0 g1 g2 g3 g4 g5 g6 g7 _ _ _ _ _ _ _ _ _ _ _ _ _ _ _ _ _ _ _ _ _ _ _ _ _ _ _ _ _ _ _ _ _ _ _ _ _ _ _ _ _ _ _ _ _ _ _ _ hw _ _)
  isplitl [H0 Hd0 Hd1 HhA HhB HW HACC HWI H12]
  · isplitl [H0]; · iexact H0
    isplitl [Hd0]; · iexists e0; iexact Hd0
    isplitl [Hd1]; · iexists e1; iexact Hd1
    isplitl [HhA]; · iexact HhA
    isplitl [HhB]; · iexact HhB
    isplitl [HW]; · iexact HW
    isplitl [HACC]; · iexact HACC
    isplitl [HWI]; · iexact HWI
    iexact H12
  isplitl [H1]; · iexact H1
  isplitl [H2]; · iexact H2
  isplitl [HI1]; · iexact HI1
  iexact HT

end Top
end Cert.Proof.RunKernel
-- ==== Proof.KernelRun.lean ====
/-
  The launch: the region's proof data, the body's obligation, the run and the frame.
-/
module

public import proofs.«01_k».proof.Proof.KernelBody
public import proofs.«01_k».proof.Proof.Gen.Kernel.Frame
public import proofs.«01_k».proof.Proof.KernelIdealRun

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result, as one function of the arrays -/

/-- What the body stores: the experts of `ids0` in ascending order over the shared expert. -/
def outV (ids0 ids : Vec F S8x1x6 .i32) (wts : Vec F S8x1x6 .f32) (x : Vec F S8x1x2816 .bf16) (s13 s2 : Vec F S16x2816 .f32) (ss13 ss2 : Vec F S1x2816 .f32)
    (w13 : Vec F S16x2816x2816 .i8) (w2 : Vec F S16x2816x1408 .i8) (ws13 : Vec F S2816x2816 .i8) (ws2 : Vec F S2816x1408 .i8) : Vec F S8x1x2816 .bf16 :=
  k0_pay18 (accN (wteV ids wts) x s13 s2 w13 w2 (maskOf (List.ofFn fun i : Fin 48 => ids0 (ix6 i)))
    (sharedV x ss13 ss2 ws13 ws2) (cnt (maskOf (List.ofFn fun i : Fin 48 => ids0 (ix6 i)))))

/-! ## The launch's pieces -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 1 0 ∗ cellP c 1 1) := by
  rw [Pipeline.ownSems0_eq_of_list c osem0 [0, 1, 2, 3] (by decide) (by decide)]; rfl
/-- The weights left in HBM. -/
def H0 : Finset (Ref sig .tc) := {main_arg3, main_arg5, main_arg7, main_arg9}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)
          ∗ (((c : Thread nD τ).loc main_arg7) ↦{fullShare} V m c main_arg7) ∗ (((c : Thread nD τ).loc main_arg9) ↦{fullShare} V m c main_arg9)) := by
  rw [BI.bigSep_eq_bigSepL_of_eq [main_arg3, main_arg5, main_arg7, main_arg9] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f)
            ∗ (∃ f : Buf (Elt F) ((c : Thread nD τ).loc cc0_scratch4), ((c : Thread nD τ).loc cc0_scratch4) ↦{fullShare} f))
          ∗ (∃ r, prngReg c r)
          ∗ iprop(cellP c 0 0 ∗ cellP c 0 1 ∗ cellP c 1 0 ∗ cellP c 1 1)
          ∗ iprop((((c : Thread nD τ).loc main_arg3) ↦{fullShare} V m c main_arg3) ∗ (((c : Thread nD τ).loc main_arg5) ↦{fullShare} V m c main_arg5)
            ∗ (((c : Thread nD τ).loc main_arg7) ↦{fullShare} V m c main_arg7) ∗ (((c : Thread nD τ).loc main_arg9) ↦{fullShare} V m c main_arg9))) := by
  rw [Pipeline.ΦD_eq, scopedRest0_eq, ownSems00_eq, hbmPts0_eq]

/-- A buffer through its whole memref is the buffer. -/
theorem whole_pts (c : Dev nD) (b : Ref sig .tc) (q : PosShare TreeShare) (f : Buf (Elt F) ((c : Thread nD τ).loc b)) :
    ((View.whole b).loc (c : Thread nD τ) ↦[(View.whole b).set]{q} f : sProp 𝕄) = (((c : Thread nD τ).loc b) ↦{q} f) :=
  congrArg (fun S => (((c : Thread nD τ).loc b) ↦[S]{q} f : sProp 𝕄)) (View.set_whole b)

theorem to_whole (c : Dev nD) (b : Ref sig .tc) :
    iprop(∃ f : Buf (Elt F) ((c : Thread nD τ).loc b), ((c : Thread nD τ).loc b) ↦{fullShare} f)
      ⊢ (iprop(∃ f, (View.whole b).loc (c : Thread nD τ) ↦[(View.whole b).set]{fullShare} f) : sProp 𝕄) := by
  iintro ⟨%f, H⟩
  iexists f
  iapply (Entails.of_eq (whole_pts c b fullShare f).symm); iexact H
theorem of_whole (c : Dev nD) (b : Ref sig .tc) :
    (iprop(∃ f, (View.whole b).loc (c : Thread nD τ) ↦[(View.whole b).set]{fullShare} f) : sProp 𝕄)
      ⊢ iprop(∃ f : Buf (Elt F) ((c : Thread nD τ).loc b), ((c : Thread nD τ).loc b) ↦{fullShare} f) := by
  iintro ⟨%f, H⟩
  iexists f
  iapply (Entails.of_eq (whole_pts c b fullShare f)); iexact H

/-! ## The ring buffers as their slots -/

abbrev JA (s : Fin 2) : Finset S2x2816x2816.Idx := (Rect.unit (s := S2x2816x2816) (aOff s) S1x2816x2816.size (aOff_inbA s)).set
abbrev JB (s : Fin 2) : Finset S2x2816x1408.Idx := (Rect.unit (s := S2x2816x1408) (aOff s) S1x2816x1408.size (aOff_inbB s)).set
theorem setA (s : Fin 2) : (slA s).view.set = JA s := (View.set_reshape _ _).trans (View.set_slice_whole _ _)
theorem setB (s : Fin 2) : (slB s).view.set = JB s := (View.set_reshape _ _).trans (View.set_slice_whole _ _)
theorem aOff_zero : ∀ (s : Fin 2) (a : Fin 3), a ≠ 0 → aOff s a = 0 := by decide
theorem JA_disj : ∀ s s' : Fin 2, s ≠ s' → Disjoint (JA s) (JA s') :=
  Ring.lead_disjoint (s := S2x2816x2816) (0 : Fin 3) 1 aOff S1x2816x2816.size aOff_inbA (by decide) rfl
theorem JB_disj : ∀ s s' : Fin 2, s ≠ s' → Disjoint (JB s) (JB s') :=
  Ring.lead_disjoint (s := S2x2816x1408) (0 : Fin 3) 1 aOff S1x2816x1408.size aOff_inbB (by decide) rfl
theorem JA_cover : Finset.univ.biUnion JA = Finset.univ :=
  Ring.lead_cover (s := S2x2816x2816) (0 : Fin 3) 1 aOff S1x2816x2816.size aOff_inbA (by decide) aOff_zero rfl (by decide) rfl
theorem JB_cover : Finset.univ.biUnion JB = Finset.univ :=
  Ring.lead_cover (s := S2x2816x1408) (0 : Fin 3) 1 aOff S1x2816x1408.size aOff_inbB (by decide) aOff_zero rfl (by decide) rfl

theorem slotA_eq (c : Dev nD) (s : Fin 2) (f) : (slotA c s f : sProp 𝕄) = (((c : Thread nD τ).loc cc0_scratch0) ↦[JA s]{fullShare} f) :=
  congrArg (fun S => (_ ↦[S]{fullShare} f : sProp 𝕄)) (setA s)
theorem slotB_eq (c : Dev nD) (s : Fin 2) (f) : (slotB c s f : sProp 𝕄) = (((c : Thread nD τ).loc cc0_scratch1) ↦[JB s]{fullShare} f) :=
  congrArg (fun S => (_ ↦[S]{fullShare} f : sProp 𝕄)) (setB s)

theorem splitA (c : Dev nD) : iprop(∃ f : Buf (Elt F) ((c : Thread nD τ).loc cc0_scratch0), ((c : Thread nD τ).loc cc0_scratch0) ↦{fullShare} f) ⊢ (iprop((∃ f, slotA c 0 f) ∗ ∃ f, slotA c 1 f) : sProp 𝕄) :=
  Ring.slots2_split (Ix := Unit) (Name := ℕ) (U := Pipeline.UD sig nD τ) (Lvl := ℕ) (ℓ := (c : Thread nD τ).loc cc0_scratch0) (q := fullShare) JA JA_disj JA_cover
    (fun f => slotA c 0 f) (fun f => slotA c 1 f) (slotA_eq c 0) (slotA_eq c 1)
theorem joinA (c : Dev nD) : (iprop((∃ f, slotA c 0 f) ∗ ∃ f, slotA c 1 f) : sProp 𝕄) ⊢ iprop(∃ f : Buf (Elt F) ((c : Thread nD τ).loc cc0_scratch0), ((c : Thread nD τ).loc cc0_scratch0) ↦{fullShare} f) :=
  Ring.slots2_join (Ix := Unit) (Name := ℕ) (U := Pipeline.UD sig nD τ) (Lvl := ℕ) (ℓ := (c : Thread nD τ).loc cc0_scratch0) (q := fullShare) JA JA_disj JA_cover
    (fun f => slotA c 0 f) (fun f => slotA c 1 f) (slotA_eq c 0) (slotA_eq c 1)
theorem splitB (c : Dev nD) : iprop(∃ f : Buf (Elt F) ((c : Thread nD τ).loc cc0_scratch1), ((c : Thread nD τ).loc cc0_scratch1) ↦{fullShare} f) ⊢ (iprop((∃ f, slotB c 0 f) ∗ ∃ f, slotB c 1 f) : sProp 𝕄) :=
  Ring.slots2_split (Ix := Unit) (Name := ℕ) (U := Pipeline.UD sig nD τ) (Lvl := ℕ) (ℓ := (c : Thread nD τ).loc cc0_scratch1) (q := fullShare) JB JB_disj JB_cover
    (fun f => slotB c 0 f) (fun f => slotB c 1 f) (slotB_eq c 0) (slotB_eq c 1)
theorem joinB (c : Dev nD) : (iprop((∃ f, slotB c 0 f) ∗ ∃ f, slotB c 1 f) : sProp 𝕄) ⊢ iprop(∃ f : Buf (Elt F) ((c : Thread nD τ).loc cc0_scratch1), ((c : Thread nD τ).loc cc0_scratch1) ↦{fullShare} f) :=
  Ring.slots2_join (Ix := Unit) (Name := ℕ) (U := Pipeline.UD sig nD τ) (Lvl := ℕ) (ℓ := (c : Thread nD τ).loc cc0_scratch1) (q := fullShare) JB JB_disj JB_cover
    (fun f => slotB c 0 f) (fun f => slotB c 1 f) (slotB_eq c 0) (slotB_eq c 1)

section Home
variable (c : Dev nD)
  (XA : Buf (Elt F) (wA.view.loc (c : Thread nD τ))) (XB : Buf (Elt F) (wB.view.loc (c : Thread nD τ)))

theorem homeA_split : (((c : Thread nD τ).loc main_arg3) ↦{fullShare} XA : sProp 𝕄) ⊣⊢ iprop(homeA c XA 0 ∗ homeA c XA 1) := by
  rw [homeA, homeA, show shr 0 = (fullShare : PosShare TreeShare).left from rfl, show shr 1 = (fullShare : PosShare TreeShare).right from rfl]
  rw [show (wA.view.loc (c : Thread nD τ) ↦[wA.view.set]{(fullShare : PosShare TreeShare).left} XA : sProp 𝕄) = _ from whole_pts c main_arg3 _ XA,
    show (wA.view.loc (c : Thread nD τ) ↦[wA.view.set]{(fullShare : PosShare TreeShare).right} XA : sProp 𝕄) = _ from whole_pts c main_arg3 _ XA]
  exact pointsTo_share (PosShare.mem_left_op_right _)
theorem homeB_split : (((c : Thread nD τ).loc main_arg5) ↦{fullShare} XB : sProp 𝕄) ⊣⊢ iprop(homeB c XB 0 ∗ homeB c XB 1) := by
  rw [homeB, homeB, show shr 0 = (fullShare : PosShare TreeShare).left from rfl, show shr 1 = (fullShare : PosShare TreeShare).right from rfl]
  rw [show (wB.view.loc (c : Thread nD τ) ↦[wB.view.set]{(fullShare : PosShare TreeShare).left} XB : sProp 𝕄) = _ from whole_pts c main_arg5 _ XB,
    show (wB.view.loc (c : Thread nD τ) ↦[wB.view.set]{(fullShare : PosShare TreeShare).right} XB : sProp 𝕄) = _ from whole_pts c main_arg5 _ XB]
  exact pointsTo_share (PosShare.mem_left_op_right _)

/-- The ring buffers, the semaphores and the stacked weights make the two idle slots, -/
theorem idle_open :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XA) ∗ (((c : Thread nD τ).loc main_arg5) ↦{fullShare} XB))
    ⊢ (iprop(idle c XA XB 1 ∗ idle c XA XB 0) : sProp 𝕄) := by
  iintro ⟨HA, HB, ⟨C00, C01, C10, C11⟩, WA, WB⟩
  ihave HA2 := (splitA c) $$ HA
  ihave HB2 := (splitB c) $$ HB
  ihave WA2 := (homeA_split c XA).1 $$ WA
  ihave WB2 := (homeB_split c XB).1 $$ WB
  icases HA2 with ⟨A0, A1⟩
  icases HB2 with ⟨B0, B1⟩
  icases WA2 with ⟨WA0, WA1⟩
  icases WB2 with ⟨WB0, WB1⟩
  unfold idle
  isplitl [A1 B1 C01 C11 WA1 WB1]
  · isplitl [A1]; · iexact A1
    isplitl [B1]; · iexact B1
    isplitl [C01]; · iexact C01
    isplitl [C11]; · iexact C11
    isplitl [WA1]; · iexact WA1
    iexact WB1
  isplitl [A0]; · iexact A0
  isplitl [B0]; · iexact B0
  isplitl [C00]; · iexact C00
  isplitl [C10]; · iexact C10
  isplitl [WA0]; · iexact WA0
  iexact WB0

/-- and back. -/
theorem idle_close :
    (iprop(idle c XA XB 1 ∗ idle c XA XB 0) : sProp 𝕄) ⊢
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XA) ∗ (((c : Thread nD τ).loc main_arg5) ↦{fullShare} XB)) := by
  unfold idle
  iintro ⟨⟨A1, B1, C01, C11, WA1, WB1⟩, A0, B0, C00, C10, WA0, WB0⟩
  isplitl [A0 A1]
  · iapply (joinA c)
    isplitl [A0]; · iexact A0
    iexact A1
  isplitl [B0 B1]
  · iapply (joinB c)
    isplitl [B0]; · iexact B0
    iexact B1
  isplitl [C00 C01 C10 C11]
  · isplitl [C00]; · iexact C00
    isplitl [C01]; · iexact C01
    isplitl [C10]; · iexact C10
    iexact C11
  isplitl [WA0 WA1]
  · iapply (homeA_split c XA).2
    isplitl [WA0]; · iexact WA0
    iexact WA1
  iapply (homeB_split c XB).2
  isplitl [WB0]; · iexact WB0
  iexact WB1
end Home

/-! ## The region's proof data -/

/-- The result at point `t`, from the windows' blocks and the weights left in HBM. -/
def outAt (c : Dev nD) (t : Fin cfg0.N) : Vec F S8x1x2816 .bf16 :=
  outV (F := F) (iblk m c 0 t) (iblk m c 1 t) (iblk m c 2 t) (iblk m c 3 t) (iblk m c 4 t) (iblk m c 5 t) (iblk m c 6 t) (iblk m c 7 t)
    (wA.view.read (Elt F) (V m c main_arg3)) (wB.view.read (Elt F) (V m c main_arg5))
    (shA.view.read (Elt F) (V m c main_arg7)) (shB.view.read (Elt F) (V m c main_arg9))

/-- The arrays as the region finds them; each input's block left in place, the result's at `outAt`; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦD osem0 spec0 H0 (V m) c
  q w := Pipeline.shareOf spec0 w
  owed _ := 0

theorem A_eq (c : Dev nD) (w : Fin cfg0.W) : (dats m 0 c).A w = V m c (Pipeline.arrRef spec0 w) := by
  dsimp only [dats]

/-! An input window holds its block at every point. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [show (dats m 0 c).after 2 t = iblk m c 2 t from rfl]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [show (dats m 0 c).after 3 t = iblk m c 3 t from rfl]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [show (dats m 0 c).after 4 t = iblk m c 4 t from rfl]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [show (dats m 0 c).after 5 t = iblk m c 5 t from rfl]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [show (dats m 0 c).after 6 t = iblk m c 6 t from rfl]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [show (dats m 0 c).after 7 t = iblk m c 7 t from rfl]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = Pipeline.ΦD osem0 spec0 H0 (V m) c from rfl,
    show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨HA, HB, HC, HD, HE⟩, Hg, HS, ⟨W3, W5, W7, W9⟩⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  ihave HI := (idle_open c (V m c main_arg3) (V m c main_arg5)) $$ [HA HB HS W3 W5]
  · isplitl [HA]; · iexact HA
    isplitl [HB]; · iexact HB
    isplitl [HS]; · iexact HS
    isplitl [W3]; · iexact W3
    iexact W5
  icases HI with ⟨HI1, HI0⟩
  iapply (wp_wand_r Idealize.ShloMosaic.frame (wpE (defs₀ (F := F)) 𝒱₀ (c : Thread nD τ) none) Set.univ)
  isplitr [Hg]
  · iapply (body c (V m c main_arg3) (V m c main_arg5) (V m c main_arg7) (V m c main_arg9)
      (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) f0 f1 f2 f3 f4 f5 f6 f7)
    isplitl [H0]; · iexact H0
    isplitl [H1]; · iexact H1
    isplitl [H2]; · iexact H2
    isplitl [HI1]; · iexact HI1
    isplitl [HI0]; · iexact HI0
    isplitl [W7]; · iapply (Entails.of_eq (whole_pts c main_arg7 fullShare (V m c main_arg7)).symm); iexact W7
    isplitl [W9]; · iapply (Entails.of_eq (whole_pts c main_arg9 fullShare (V m c main_arg9)).symm); iexact W9
    isplitl [HD]; · iapply (to_whole c cc0_scratch3); iexact HD
    isplitl [HC]; · iapply (to_whole c cc0_scratch2); iexact HC
    isplitl [HE]; · iapply (to_whole c cc0_scratch4); iexact HE
    isplitl [H3 H4 H5 H6 H7 HW]
    · isplitl [H3]; · iexact H3
      isplitl [H4]; · iexact H4
      isplitl [H5]; · iexact H5
      isplitl [H6]; · iexact H6
      isplitl [H7]; · iexact H7
      iexists W; iexact HW
    iexists f8; iexact H8
  iintro %_ ⟨H0, H1, H2, HI1, HI0, W7, W9, HD, HC, HE, ⟨H3, H4, H5, H6, H7, ⟨%W', HW'⟩⟩, ⟨%g8, %e8', H8⟩⟩
  ihave HI := (idle_close c (V m c main_arg3) (V m c main_arg5)) $$ [HI1 HI0]
  · isplitl [HI1]; · iexact HI1
    iexact HI0
  icases HI with ⟨HA, HB, HS, W3, W5⟩
  isplitl [HA HB HC HD HE Hg HS W3 W5 W7 W9]
  · isplitl [HA HB HC HD HE]
    · isplitl [HA]; · iexact HA
      isplitl [HB]; · iexact HB
      isplitl [HC]; · iapply (of_whole c cc0_scratch2); iexact HC
      isplitl [HD]; · iapply (of_whole c cc0_scratch3); iexact HD
      iapply (of_whole c cc0_scratch4); iexact HE
    isplitl [Hg]; · iexact Hg
    isplitl [HS]; · iexact HS
    isplitl [W3]; · iexact W3
    isplitl [W5]; · iexact W5
    isplitl [W7]; · iapply (Entails.of_eq (whole_pts c main_arg7 fullShare (V m c main_arg7))); iexact W7
    iapply (Entails.of_eq (whole_pts c main_arg9 fullShare (V m c main_arg9))); iexact W9
  isplitl [HW']
  · iexists W'; isplitr; · ipureintro; exact fun _ _ => Or.inl trivial
    iexact HW'
  isplitl [H0]; · iexists f0; isplitr; · ipureintro; exact e0.trans (before_0 m c t d0)
                  · iexact H0
  isplitl [H1]; · iexists f1; isplitr; · ipureintro; exact e1.trans (before_1 m c t d1)
                  · iexact H1
  isplitl [H2]; · iexists f2; isplitr; · ipureintro; exact e2.trans (before_2 m c t d2)
                  · iexact H2
  isplitl [H3]; · iexists f3; isplitr; · ipureintro; exact e3.trans (before_3 m c t d3)
                  · iexact H3
  isplitl [H4]; · iexists f4; isplitr; · ipureintro; exact e4.trans (before_4 m c t d4)
                  · iexact H4
  isplitl [H5]; · iexists f5; isplitr; · ipureintro; exact e5.trans (before_5 m c t d5)
                  · iexact H5
  isplitl [H6]; · iexists f6; isplitr; · ipureintro; exact e6.trans (before_6 m c t d6)
                  · iexact H6
  isplitl [H7]; · iexists f7; isplitr; · ipureintro; exact e7.trans (before_7 m c t d7)
                  · iexact H7
  iexists g8; isplitr
  · ipureintro
    rw [before_0] at e0; rw [before_1] at e1; rw [before_2] at e2; rw [before_3] at e3
    rw [before_4] at e4; rw [before_5] at e5; rw [before_6] at e6; rw [before_7] at e7
    refine e8'.trans ?_
    unfold outOf
    show _ = outV _ _ _ _ _ _ _ _ _ _ _ _
    rw [← e0, ← e1, ← e2, ← e3, ← e4, ← e5, ← e6, ← e7]
    rfl
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [Gen.bigSep_W0, Gen.bigSep_W0, defs₀_row]
  exact triple_restated (sound_body m c t) rfl .rfl fun _ => .rfl

/-! ## The run and the frame -/

theorem hmain0 : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ 𝒱₀ ownSemFacts0 H0 H0_sub m ρ main
    (hbody := fun c => (body_obligation m c).loose) (hq := fun c w _ => rfl)
    (howed := fun _ _ => rfl) (V := V m) (hmain := hmain0 m) (hA := A_eq m)
    (hin := fun _ => .rfl) (hout := fun _ => .rfl)

/-- The result array after the run. -/
abbrev outBuf (c : Dev nD) : Buf (Elt F) ((c.tc : Thread nD τ).loc main_v2) := outAt m c t0_0

end Cert.Proof.RunKernel
-- ==== Proof.KernelFrame.lean ====
/-
  What the kernel leaves behind: its eleven arguments as they were, every semaphore at zero, and in the result the one
  block the body wrote back.
-/
module

public import proofs.«01_k».proof.Proof.KernelIdealFrame
public import proofs.«01_k».proof.Proof.KernelRun
public import Idealize.ShloMosaic.Lib.Pipeline.ValueKit.Geometry

@[expose] public section

noncomputable section

namespace Cert.Proof.RunKernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Bits

variable {F : FTy → Type} [FloatOps F]

variable (m : (ℓ : Loc nD τ sig) → Buf (Elt F) ℓ) (ρ : Dev nD → PrngReg)

/-- The one point's block of the result is the whole result. -/
theorem final (c : Dev nD) : (dats (F := F) m 0 c).arrAt 8 cfg0.N = outBuf m c :=
  (dats (F := F) m 0 c).arrAt_eq_of_after_last 8 t0_0 (by decide +kernel) (outBuf m c) (fun _ => rfl)

/-- The run's post: the result, the arguments, the semaphores. -/
theorem run : θ_run defs (onTc (τ := τ) (main (F := F))) ⟨m, fun _ => 0, ρ⟩ (fun r => (∀ c : Dev nD,
      r.2.mem ((c.tc : Thread nD τ).loc main_v2) = outBuf m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)))
      ∧ r.2.sem = fun _ => 0) :=
  (θ_run defs _ _).mono (fun _ h => ⟨fun c => ⟨((h.1 c).1 8).trans (final m c),
      ((h.1 c).1 3).trans (((dats m 0 c).arrAt_in 3 rfl _).trans ((A_eq m c 3).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).1 4).trans (((dats m 0 c).arrAt_in 4 rfl _).trans ((A_eq m c 4).trans (V_main_arg4 m c))),
      ((h.1 c).2 main_arg5 (Pipeline.mem_restRefs_of main_arg5 (by decide) (by decide))).trans (V_main_arg5 m c),
      ((h.1 c).1 5).trans (((dats m 0 c).arrAt_in 5 rfl _).trans ((A_eq m c 5).trans (V_main_arg6 m c))),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run m ρ)

end Cert.Proof.RunKernel
-- ==== Proof.Layer.lean ====
/-
  The layer as a formula over the extended reals: what both programs are shown to compute.
-/
module

public import Idealize.ShloMosaic.PureOps.Ideal
public import Idealize.ShloMosaic.Lib.Pointwise

@[expose] public section

noncomputable section

namespace Cert.Proof.Layer

open Idealize.ShloMosaic
open scoped BigOperators

/-- Row `i` of the first half, -/
def lo (i : Fin 1408) : Fin 2816 := ⟨i.val, by omega⟩
/-- of the second half, of 2816 rows. -/
def hi (i : Fin 1408) : Fin 2816 := ⟨1408 + i.val, by omega⟩

/-- A stored weight as a number. -/
def num (b : BitVec 8) : EReal := ((b.toInt : ℝ) : EReal)

/-- Hidden unit `i` of a gated layer on the token `X`: gate times its logistic, times the other half. -/
def hid (X : Fin 2816 → EReal) (P : Fin 2816 → Fin 2816 → BitVec 8) (s : Fin 2816 → EReal) (i : Fin 1408) : EReal :=
  (∑ k, X k * num (P (lo i) k)) * s (lo i) * Ideal.logistic ((∑ k, X k * num (P (lo i) k)) * s (lo i))
    * ((∑ k, X k * num (P (hi i) k)) * s (hi i))

/-- Output `j` of the gated layer with second weights `Q` and their scales `r`. -/
def mlp (X : Fin 2816 → EReal) (P : Fin 2816 → Fin 2816 → BitVec 8) (s : Fin 2816 → EReal)
    (Q : Fin 2816 → Fin 1408 → BitVec 8) (r : Fin 2816 → EReal) (j : Fin 2816) : EReal :=
  (∑ i, hid X P s i * num (Q j i)) * r j

/-- A token's weight for expert `e`: the weights of its six choices that are `e`, summed. -/
def wt (ids : Fin 6 → BitVec 32) (wts : Fin 6 → EReal) (e : ℕ) : EReal := ∑ k, if ids k = BitVec.ofNat 32 e then wts k else 0

/-- Output `j` of token `t`: all experts, weighted, and the shared one. -/
def moe (ids : Fin 8 → Fin 6 → BitVec 32) (wts : Fin 8 → Fin 6 → EReal) (X : Fin 8 → Fin 2816 → EReal)
    (P : Fin 16 → Fin 2816 → Fin 2816 → BitVec 8) (s : Fin 16 → Fin 2816 → EReal)
    (Q : Fin 16 → Fin 2816 → Fin 1408 → BitVec 8) (r : Fin 16 → Fin 2816 → EReal)
    (Ps : Fin 2816 → Fin 2816 → BitVec 8) (ss : Fin 2816 → EReal)
    (Qs : Fin 2816 → Fin 1408 → BitVec 8) (rs : Fin 2816 → EReal) (t : Fin 8) (j : Fin 2816) : EReal :=
  (∑ e : Fin 16, mlp (X t) (P e) (s e) (Q e) (r e) j * wt (ids t) (wts t) e.val) + mlp (X t) Ps ss Qs rs j

theorem sitofp_num (b : BitVec 8) : FloatOps.sitofp (F := Ideal) FTy.bf16 b = num b := rfl
theorem sitofp_ext (b : BitVec 8) : FloatOps.sitofp (F := Ideal) FTy.bf16 (BitVec.signExtend 32 b) = num b := by
  show ((((BitVec.signExtend 32 b).toInt : ℤ) : ℝ) : EReal) = _
  rw [BitVec.toInt_signExtend_of_le (by decide)]; rfl
theorem silu_host (z : EReal) : Ideal.div 1 (1 + Ideal.exp (-z)) = Ideal.logistic z := rfl
theorem select_eq {A : Type} {n : ℕ} (a b : BitVec n) (u v : A) :
    Scalar.select (IntOp.cmpi CmpIPredicate.eq a b) u v = if a = b then u else v := by
  by_cases h : a = b
  · simp [Scalar.select, IntOp.cmpi, h]
  · have hb : (a == b) = false := by simpa using h
    simp [Scalar.select, IntOp.cmpi, h, hb]
theorem num_mul (b : BitVec 8) (z : EReal) : num b * z = z * num b := mul_comm _ _

/-- A list's sum over `0, …, n - 1`. -/
theorem sum_range {A : Type} [AddCommMonoid A] (g : ℕ → A) : ∀ n, ((List.range n).map g).sum = ∑ e : Fin n, g e.val
  | 0 => by simp
  | n + 1 => by
    rw [List.range_succ, List.map_append, List.sum_append, sum_range g n, Fin.sum_univ_castSucc]; simp

end Cert.Proof.Layer
-- ==== Proof.KernelIdealValue.lean ====
/-
  The kernel's value at an index, over the extended reals.
-/
module

public import proofs.«01_k».proof.Proof.KernelIdealFrame
public import proofs.«01_k».proof.Proof.Layer
public import Idealize.ShloMosaic.Lib.Pointwise
public import Idealize.ShloMosaic.Lib.Claim
public import Idealize.ShloMosaic.PureOps.Ideal
public import Idealize.ShloMosaic.Lib.IdealHost

@[expose] public section

noncomputable section

namespace Cert.Proof.RunKernelIdeal

open Cert.KernelIdeal Cert.KernelIdeal.Gen
open Idealize.ShloMosaic
open Cert.Proof.Bits
open Cert.Proof.Layer (num hid mlp wt moe sitofp_num select_eq)

/-! The index functions of the reads are the plain indices. -/

theorem ixA_eq (e : Fin 16) (b c : Fin 2816) : ixA e b c = ix3 e b c := by funext a; fin_cases a <;> rfl
theorem ixB_eq (e : Fin 16) (b : Fin 2816) (c : Fin 1408) : ixB e b c = ix3 e b c := by funext a; fin_cases a <;> rfl
theorem ixa_eq (b c : Fin 2816) : ixa b c = ix2 b c := by funext a; fin_cases a <;> rfl
theorem ixb_eq (b : Fin 2816) (c : Fin 1408) : ixb b c = ix2 b c := by funext a; fin_cases a <;> rfl
theorem ixs_eq (e : Fin 16) (c : Fin 2816) : ixs e c = ix2 e c := by funext a; fin_cases a <;> rfl
/-- The ids in one list are the ids token by token. -/
theorem ix6_eq (t : Fin 8) (k : Fin 6) : ix6 ⟨6 * t.val + k.val, by omega⟩ = ix3 t 0 k := by
  funext a; fin_cases a
  · exact Fin.ext (by show (6 * t.val + k.val) / 6 = t.val; omega)
  · rfl
  · exact Fin.ext (by show (6 * t.val + k.val) % 6 = k.val; omega)

/-- The table of weights at a token and a lane. -/
theorem wte_apply (ids : Vec Ideal S8x1x6 .i32) (wts : Vec Ideal S8x1x6 .f32) (t : Fin 8) (l : Fin 128) :
    wteV ids wts (ix2 t l) = wt (fun k => ids (ix3 t 0 k)) (fun k => wts (ix3 t 0 k)) l.val := by
  unfold wteV k0_pay8 k0_pay7 k0_pay6 k0_pay5 k0_pay4 k0_pay3
  pointwise [lanes]
  simp only [select_eq, wt, Fin.sum_univ_succ, Fin.sum_univ_zero, add_zero, add_assoc, eq_comm (a := BitVec.ofNat 32 l.val)]
  rfl

/-- The lane of one expert, picked by comparing every lane with the expert's number. -/
theorem lane_sum (g : Fin 128 → EReal) (e : ℕ) (he : e < 16) :
    (∑ l : Fin 128, Scalar.select (IntOp.cmpi CmpIPredicate.eq (BitVec.ofNat 32 l.val) (BitVec.ofNat 32 e)) (g l) 0) = g ⟨e, by omega⟩ := by
  rw [Finset.sum_eq_single (⟨e, by omega⟩ : Fin 128)]
  · rw [select_eq, if_pos rfl]
  · intro l _ hl
    rw [select_eq, if_neg]
    intro h
    have := congrArg BitVec.toNat h
    simp only [BitVec.toNat_ofNat] at this
    exact hl (Fin.ext (by show l.val = e; omega))
  · intro h; exact absurd (Finset.mem_univ _) h

set_option maxRecDepth 16384 in
/-- One expert's contribution. -/
theorem step_apply (wte : Vec Ideal S8x128 .f32) (x : Vec Ideal S8x1x2816 .bf16) (s13 s2 : Vec Ideal S16x2816 .f32)
    (w13 : Vec Ideal S16x2816x2816 .i8) (w2 : Vec Ideal S16x2816x1408 .i8) (e : ℕ) (he : e < 16) (a : Vec Ideal S8x2816 .f32)
    (t : Fin 8) (j : Fin 2816) :
    accStep lanes wte x s13 s2 w13 w2 (BitVec.ofNat 32 e) a (ix2 t j)
      = a (ix2 t j) + mlp (fun k => x (ix3 t 0 k)) (fun b k => w13 (ix3 ⟨e, he⟩ b k)) (fun k => s13 (ix2 ⟨e, he⟩ k))
          (fun b k => w2 (ix3 ⟨e, he⟩ b k)) (fun k => s2 (ix2 ⟨e, he⟩ k)) j * wte (ix2 t ⟨e, by omega⟩) := by
  have hE : eOf (BitVec.ofNat 32 e) = ⟨e, he⟩ := Fin.ext (by simp; omega)
  unfold accStep k0_pay16 k0_pay1
  rw [hE]
  pointwise [row, gate, up, down, exA, exB, lanes]
  rw [lane_sum (fun l => wte (ix2 t l)) e he]
  have hA : ∀ i : S2816x2816.Idx, ixA ⟨e, he⟩ (i 0) (i 1) = ix3 ⟨e, he⟩ (i 0) (i 1) := fun i => ixA_eq _ _ _
  have hB : ∀ i : S2816x1408.Idx, ixB ⟨e, he⟩ (i 0) (i 1) = ix3 ⟨e, he⟩ (i 0) (i 1) := fun i => ixB_eq _ _ _
  simp only [sitofp_num, hA, hB, ixs_eq]
  rfl

set_option maxRecDepth 16384 in
/-- The shared expert's. -/
theorem shared_apply (x : Vec Ideal S8x1x2816 .bf16) (s1 s2 : Vec Ideal S1x2816 .f32) (w13 : Vec Ideal S2816x2816 .i8) (w2 : Vec Ideal S2816x1408 .i8)
    (t : Fin 8) (j : Fin 2816) :
    sharedV x s1 s2 w13 w2 (ix2 t j)
      = mlp (fun k => x (ix3 t 0 k)) (fun b k => w13 (ix2 b k)) (fun k => s1 (ix2 0 k)) (fun b k => w2 (ix2 b k)) (fun k => s2 (ix2 0 k)) j := by
  unfold sharedV k0_pay15 k0_pay13 k0_pay14 k0_pay12 k0_pay11 k0_pay10 k0_pay9
  pointwise [gate, up, down]
  simp only [sitofp_num, ixa_eq, ixb_eq]
  rfl

/-- The accumulator after the first `n` members. -/
theorem acc_apply (wte : Vec Ideal S8x128 .f32) (x : Vec Ideal S8x1x2816 .bf16) (s13 s2 : Vec Ideal S16x2816 .f32)
    (w13 : Vec Ideal S16x2816x2816 .i8) (w2 : Vec Ideal S16x2816x1408 .i8) (M : BitVec 32) (a : Vec Ideal S8x2816 .f32)
    (t : Fin 8) (j : Fin 2816) (f : ℕ → EReal)
    (hf : ∀ e (he : e < 16), f e = mlp (fun k => x (ix3 t 0 k)) (fun b k => w13 (ix3 ⟨e, he⟩ b k)) (fun k => s13 (ix2 ⟨e, he⟩ k))
          (fun b k => w2 (ix3 ⟨e, he⟩ b k)) (fun k => s2 (ix2 ⟨e, he⟩ k)) j * wte (ix2 t ⟨e, by omega⟩)) :
    ∀ n, accN wte x s13 s2 w13 w2 M a n (ix2 t j) = a (ix2 t j) + ((List.range n).map (fun i => f (ord M i))).sum
  | 0 => by simp [accN]
  | n + 1 => by
    rw [accN, step_apply wte x s13 s2 w13 w2 (ord M n) (ord_lt M n), acc_apply wte x s13 s2 w13 w2 M a t j f hf n, ← hf _ (ord_lt M n),
      List.range_succ, List.map_append, List.sum_append, add_assoc]
    simp

/-- An expert that no token chose has weight zero. -/
theorem wt_zero (ids : Vec Ideal S8x1x6 .i32) (wts : Vec Ideal S8x1x6 .f32) (t : Fin 8) (e : ℕ) (he : e < 16)
    (h : (maskOf (List.ofFn fun i : Fin 48 => ids (ix6 i))).getLsbD e = false) :
    wt (fun k => ids (ix3 t 0 k)) (fun k => wts (ix3 t 0 k)) e = 0 := by
  unfold wt
  refine Finset.sum_eq_zero fun k _ => if_neg fun hk => ?_
  have : (maskOf (List.ofFn fun i : Fin 48 => ids (ix6 i))).getLsbD e = true := by
    rw [maskOf_getLsbD _ e he, List.mem_ofFn]
    exact ⟨⟨6 * t.val + k.val, by omega⟩, (congrArg ids (ix6_eq t k)).trans hk⟩
  rw [h] at this; exact Bool.false_ne_true this

/-- The kernel computes the layer. -/
theorem out_apply (ids : Vec Ideal S8x1x6 .i32) (wts : Vec Ideal S8x1x6 .f32) (x : Vec Ideal S8x1x2816 .bf16) (s13 s2 : Vec Ideal S16x2816 .f32)
    (ss13 ss2 : Vec Ideal S1x2816 .f32) (w13 : Vec Ideal S16x2816x2816 .i8) (w2 : Vec Ideal S16x2816x1408 .i8)
    (ws13 : Vec Ideal S2816x2816 .i8) (ws2 : Vec Ideal S2816x1408 .i8) (t : Fin 8) (j : Fin 2816) :
    outV ids ids wts x s13 s2 ss13 ss2 w13 w2 ws13 ws2 (ix3 t 0 j)
      = moe (fun t k => ids (ix3 t 0 k)) (fun t k => wts (ix3 t 0 k)) (fun t k => x (ix3 t 0 k))
          (fun e b k => w13 (ix3 e b k)) (fun e k => s13 (ix2 e k)) (fun e b k => w2 (ix3 e b k)) (fun e k => s2 (ix2 e k))
          (fun b k => ws13 (ix2 b k)) (fun k => ss13 (ix2 0 k)) (fun b k => ws2 (ix2 b k)) (fun k => ss2 (ix2 0 k)) t j := by
  have key : ∀ v : Vec Ideal S8x2816 .f32, k0_pay18 v (ix3 t 0 j) = v (ix2 t j) := by
    intro v; unfold k0_pay18; pointwise
  unfold outV
  rw [key]
  obtain ⟨f, hf⟩ : ∃ f : ℕ → EReal, ∀ e (he : e < 16), f e =
      mlp (fun k => x (ix3 t 0 k)) (fun b k => w13 (ix3 ⟨e, he⟩ b k)) (fun k => s13 (ix2 ⟨e, he⟩ k))
          (fun b k => w2 (ix3 ⟨e, he⟩ b k)) (fun k => s2 (ix2 ⟨e, he⟩ k)) j * wt (fun k => ids (ix3 t 0 k)) (fun k => wts (ix3 t 0 k)) e :=
    ⟨fun e => if he : e < 16 then _ else 0, fun e he => dif_pos he⟩
  rw [acc_apply _ x s13 s2 w13 w2 _ _ t j f (fun e he => by rw [hf e he, wte_apply])]
  rw [sum_ord, Cert.Proof.Layer.sum_range, shared_apply, add_comm]
  unfold moe
  congr 1
  refine Finset.sum_congr rfl fun e _ => ?_
  by_cases hb : (maskOf (List.ofFn fun i : Fin 48 => ids (ix6 i))).getLsbD e.val = true
  · rw [if_pos hb, hf e.val e.isLt]
  · rw [if_neg hb, wt_zero ids wts t e.val e.isLt (by simpa using hb), mul_zero]

section Arrays

variable (m : (ℓ : Loc nD τ sig) → Buf (Elt Ideal) ℓ) (c : Dev nD)

/-! The blocks the body reads are the arrays. -/

theorem blk_0 (t : Fin 8) (k : Fin 6) : iblk m c 0 t0_0 (ix3 t 0 k) = m ((c.tc : Thread nD τ).loc main_arg1) (ix3 t 0 k) := by
  rw [← V_main_arg1 m c]
  show V m c main_arg1 _ = V m c main_arg1 _
  congr 1; funext i; fin_cases i <;> exact Fin.ext (by simp <;> rfl)
theorem blk_1 (t : Fin 8) (k : Fin 6) : iblk m c 1 t0_0 (ix3 t 0 k) = m ((c.tc : Thread nD τ).loc main_arg1) (ix3 t 0 k) := by
  rw [← V_main_arg1 m c]
  show V m c main_arg1 _ = V m c main_arg1 _
  congr 1; funext i; fin_cases i <;> exact Fin.ext (by simp <;> rfl)
theorem blk_2 (t : Fin 8) (k : Fin 6) : iblk m c 2 t0_0 (ix3 t 0 k) = m ((c.tc : Thread nD τ).loc main_arg2) (ix3 t 0 k) := by
  rw [← V_main_arg2 m c]
  show V m c main_arg2 _ = V m c main_arg2 _
  congr 1; funext i; fin_cases i <;> exact Fin.ext (by simp <;> rfl)
theorem blk_3 (t : Fin 8) (k : Fin 2816) : iblk m c 3 t0_0 (ix3 t 0 k) = m ((c.tc : Thread nD τ).loc main_arg0) (ix3 t 0 k) := by
  rw [← V_main_arg0 m c]
  show V m c main_arg0 _ = V m c main_arg0 _
  congr 1; funext i; fin_cases i <;> exact Fin.ext (by simp <;> rfl)
theorem blk_4 (e : Fin 16) (k : Fin 2816) : iblk m c 4 t0_0 (ix2 e k) = m ((c.tc : Thread nD τ).loc main_arg4) (ix2 e k) := by
  rw [← V_main_arg4 m c]
  show V m c main_arg4 _ = V m c main_arg4 _
  congr 1; funext i; fin_cases i <;> exact Fin.ext (by simp <;> rfl)
theorem blk_5 (e : Fin 16) (k : Fin 2816) : iblk m c 5 t0_0 (ix2 e k) = m ((c.tc : Thread nD τ).loc main_arg6) (ix2 e k) := by
  rw [← V_main_arg6 m c]
  show V m c main_arg6 _ = V m c main_arg6 _
  congr 1; funext i; fin_cases i <;> exact Fin.ext (by simp <;> rfl)
/-- The host's reshape of the scales, read back. -/
theorem V_main_v0 (k : Fin 2816) : V m c main_v0 (ix2 0 k) = m ((c.tc : Thread nD τ).loc main_arg8) (ix1 k) := by
  entry_read
  pointwise
theorem blk_6 (k : Fin 2816) : iblk m c 6 t0_0 (ix2 0 k) = m ((c.tc : Thread nD τ).loc main_arg8) (ix1 k) := by
  rw [← V_main_v0 m c]
  show V m c main_v0 _ = V m c main_v0 _
  congr 1; funext i; fin_cases i <;> exact Fin.ext (by simp <;> rfl)
/-- The same of the second. -/
theorem V_main_v1 (k : Fin 2816) : V m c main_v1 (ix2 0 k) = m ((c.tc : Thread nD τ).loc main_arg10) (ix1 k) := by
  entry_read
  pointwise
theorem blk_7 (k : Fin 2816) : iblk m c 7 t0_0 (ix2 0 k) = m ((c.tc : Thread nD τ).loc main_arg10) (ix1 k) := by
  rw [← V_main_v1 m c]
  show V m c main_v1 _ = V m c main_v1 _
  congr 1; funext i; fin_cases i <;> exact Fin.ext (by simp <;> rfl)

/-- The result buffer holds the layer of the arrays. -/
theorem outBuf_apply (t : Fin 8) (j : Fin 2816) : outBuf m c (ix3 t 0 j)
    = moe (fun t k => m ((c.tc : Thread nD τ).loc main_arg1) (ix3 t 0 k)) (fun t k => m ((c.tc : Thread nD τ).loc main_arg2) (ix3 t 0 k))
        (fun t k => m ((c.tc : Thread nD τ).loc main_arg0) (ix3 t 0 k))
        (fun e b k => m ((c.tc : Thread nD τ).loc main_arg3) (ix3 e b k)) (fun e k => m ((c.tc : Thread nD τ).loc main_arg4) (ix2 e k))
        (fun e b k => m ((c.tc : Thread nD τ).loc main_arg5) (ix3 e b k)) (fun e k => m ((c.tc : Thread nD τ).loc main_arg6) (ix2 e k))
        (fun b k => m ((c.tc : Thread nD τ).loc main_arg7) (ix2 b k)) (fun k => m ((c.tc : Thread nD τ).loc main_arg8) (ix1 k))
        (fun b k => m ((c.tc : Thread nD τ).loc main_arg9) (ix2 b k)) (fun k => m ((c.tc : Thread nD τ).loc main_arg10) (ix1 k)) t j := by
  have h01 : iblk m c 0 t0_0 = iblk m c 1 t0_0 := rfl
  show outV (iblk m c 0 t0_0) _ _ _ _ _ _ _ _ _ _ _ (ix3 t 0 j) = _
  rw [h01, out_apply]
  rw [V_main_arg3, V_main_arg5, V_main_arg7, V_main_arg9]
  simp only [blk_1, blk_2, blk_3, blk_4, blk_5, blk_6, blk_7]
  rfl

end Arrays

end Cert.Proof.RunKernelIdeal
-- ==== Proof.ReferenceValue.lean ====
/-
  The reference's value at an index, over the extended reals.
-/
module

public import proofs.«01_k».proof.Proof.Gen.ReferenceIdeal.Run
public import proofs.«01_k».proof.Proof.Layer
public import Idealize.ShloMosaic.Lib.Pointwise
public import Idealize.ShloMosaic.Lib.Tactic.CleanTypes
public import Idealize.ShloMosaic.PureOps.Ideal
public import Idealize.ShloMosaic.Lib.IdealHost

@[expose] public section

noncomputable section

namespace Cert.Proof.RunReference

open Cert.ReferenceIdeal Cert.ReferenceIdeal.Gen
open Idealize.ShloMosaic
open Idealize.ShloMosaic.TcCoe
open Cert.Proof.Layer

variable (m : (ℓ : Loc nD τ sig) → Buf (Elt Ideal) ℓ) (c : Dev nD)

/-- The arrays of a memory. -/
abbrev a0 : Fin 8 → Fin 2816 → EReal := fun t k => m ((c.tc : Thread nD τ).loc main_arg0) (ix3 t 0 k)
abbrev a1 : Fin 8 → Fin 6 → BitVec 32 := fun t k => m ((c.tc : Thread nD τ).loc main_arg1) (ix3 t 0 k)
abbrev a2 : Fin 8 → Fin 6 → EReal := fun t k => m ((c.tc : Thread nD τ).loc main_arg2) (ix3 t 0 k)
abbrev a3 : Fin 16 → Fin 2816 → Fin 2816 → BitVec 8 := fun e b k => m ((c.tc : Thread nD τ).loc main_arg3) (ix3 e b k)
abbrev a4 : Fin 16 → Fin 2816 → EReal := fun e k => m ((c.tc : Thread nD τ).loc main_arg4) (ix2 e k)
abbrev a5 : Fin 16 → Fin 2816 → Fin 1408 → BitVec 8 := fun e b k => m ((c.tc : Thread nD τ).loc main_arg5) (ix3 e b k)
abbrev a6 : Fin 16 → Fin 2816 → EReal := fun e k => m ((c.tc : Thread nD τ).loc main_arg6) (ix2 e k)
abbrev a7 : Fin 2816 → Fin 2816 → BitVec 8 := fun b k => m ((c.tc : Thread nD τ).loc main_arg7) (ix2 b k)
abbrev a8 : Fin 2816 → EReal := fun k => m ((c.tc : Thread nD τ).loc main_arg8) (ix1 k)
abbrev a9 : Fin 2816 → Fin 1408 → BitVec 8 := fun b k => m ((c.tc : Thread nD τ).loc main_arg9) (ix2 b k)
abbrev a10 : Fin 2816 → EReal := fun k => m ((c.tc : Thread nD τ).loc main_arg10) (ix1 k)

theorem const_zero : (id (constant S_ FTy.f32 0#32) : FVec Ideal S_ .f32) ix0 = (0 : EReal) := Ideal.ofBits_zero .f32

set_option maxRecDepth 16384 in
set_option maxHeartbeats 2000000 in
/-- The reference computes the layer. -/
theorem res_apply (t : Fin 8) (j : Fin 2816) : Value.res_main_v54 m c (ix3 t 0 j)
    = moe (a1 m c) (a2 m c) (a0 m c) (a3 m c) (a4 m c) (a5 m c) (a6 m c) (a7 m c) (a8 m c) (a9 m c) (a10 m c) t j := by
  unfold Value.res_main_v54
  clean_types
  pointwise
  simp only [sitofp_ext, silu_host, select_eq, num_mul, const_zero]
  rfl

end Cert.Proof.RunReference
-- ==== Proof.lean ====
/-
  A small-batch mixture-of-experts layer with int8 weights: eight tokens, six experts a token out of sixteen, and one
  expert every token shares. What is proved of it, claim by claim:

  * the printed program, its idealization and the idealized reference all run to the end, leave their arguments as they
    were and every semaphore at zero;
  * idealizing the program rewrote nothing;
  * over the extended reals, on equal arguments, the idealized program and the idealized reference compute the same array.
    Both are shown equal to the layer written out as sums (`Cert.Proof.Layer.moe`): the program, which visits only the
    experts some token chose, because an expert no token chose has weight zero for every token.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.SL.Sem

/-- On equal arguments the reference's result is the program's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v54 m' c = Cert.Proof.RunKernelIdeal.outBuf m c := by
  funext i
  obtain ⟨t, j, rfl⟩ : ∃ (t : Fin 8) (j : Fin 2816), i = ix3 t 0 j :=
    ⟨i 0, i 2, (eq_ix3 i).trans (congrArg (fun z => ix3 (i 0) z (i 2)) (Subsingleton.elim (α := Fin 1) _ _))⟩
  refine (Cert.Proof.RunReference.res_apply m' c t j).trans (Eq.trans ?_ (Cert.Proof.RunKernelIdeal.outBuf_apply m c t j).symm)
  rw [show Cert.Proof.RunReference.a0 m' c = (fun t k => m ((c.tc : Thread Cert.KernelIdeal.nD Cert.KernelIdeal.τ).loc Cert.KernelIdeal.main_arg0) (ix3 t 0 k)) from by funext t k; exact congrFun h0 _,
    show Cert.Proof.RunReference.a1 m' c = (fun t k => m ((c.tc : Thread Cert.KernelIdeal.nD Cert.KernelIdeal.τ).loc Cert.KernelIdeal.main_arg1) (ix3 t 0 k)) from by funext t k; exact congrFun h1 _,
    show Cert.Proof.RunReference.a2 m' c = (fun t k => m ((c.tc : Thread Cert.KernelIdeal.nD Cert.KernelIdeal.τ).loc Cert.KernelIdeal.main_arg2) (ix3 t 0 k)) from by funext t k; exact congrFun h2 _,
    show Cert.Proof.RunReference.a3 m' c = (fun e b k => m ((c.tc : Thread Cert.KernelIdeal.nD Cert.KernelIdeal.τ).loc Cert.KernelIdeal.main_arg3) (ix3 e b k)) from by funext e b k; exact congrFun h3 _,
    show Cert.Proof.RunReference.a4 m' c = (fun e k => m ((c.tc : Thread Cert.KernelIdeal.nD Cert.KernelIdeal.τ).loc Cert.KernelIdeal.main_arg4) (ix2 e k)) from by funext e k; exact congrFun h4 _,
    show Cert.Proof.RunReference.a5 m' c = (fun e b k => m ((c.tc : Thread Cert.KernelIdeal.nD Cert.KernelIdeal.τ).loc Cert.KernelIdeal.main_arg5) (ix3 e b k)) from by funext e b k; exact congrFun h5 _,
    show Cert.Proof.RunReference.a6 m' c = (fun e k => m ((c.tc : Thread Cert.KernelIdeal.nD Cert.KernelIdeal.τ).loc Cert.KernelIdeal.main_arg6) (ix2 e k)) from by funext e k; exact congrFun h6 _,
    show Cert.Proof.RunReference.a7 m' c = (fun b k => m ((c.tc : Thread Cert.KernelIdeal.nD Cert.KernelIdeal.τ).loc Cert.KernelIdeal.main_arg7) (ix2 b k)) from by funext b k; exact congrFun h7 _,
    show Cert.Proof.RunReference.a8 m' c = (fun k => m ((c.tc : Thread Cert.KernelIdeal.nD Cert.KernelIdeal.τ).loc Cert.KernelIdeal.main_arg8) (ix1 k)) from by funext k; exact congrFun h8 _,
    show Cert.Proof.RunReference.a9 m' c = (fun b k => m ((c.tc : Thread Cert.KernelIdeal.nD Cert.KernelIdeal.τ).loc Cert.KernelIdeal.main_arg9) (ix2 b k)) from by funext b k; exact congrFun h9 _,
    show Cert.Proof.RunReference.a10 m' c = (fun k => m ((c.tc : Thread Cert.KernelIdeal.nD Cert.KernelIdeal.τ).loc Cert.KernelIdeal.main_arg10) (ix1 k)) from by funext k; exact congrFun h10 _]

theorem claim : Cert.Claim := ⟨Cert.Kernel.Gen.facts, Cert.KernelIdeal.Gen.facts, Cert.ReferenceIdeal.Gen.facts,
  fun m g _ => Cert.Proof.RunKernel.frame m g,
  fun m g _ => Cert.Proof.RunKernelIdeal.frame m g,
  fun m g _ => (θ_run _ _ _).mono (fun _ h => ⟨fun c => (h c).2, sem_eq_zero_of_no_sems rfl _⟩)
    (Cert.ReferenceIdeal.Value.run (F := Ideal) m g),
  trivial,
  fun m g m' g' _ h => ⟨fun c => Cert.Proof.RunKernelIdeal.outBuf m c,
    (θ_run _ _ _).mono (fun _ k c => k.1 c) (Cert.Proof.RunKernelIdeal.run m g),
    (θ_run _ _ _).mono (fun _ k c => ⟨(k c).1.trans (by
      obtain ⟨h0, h1, h2, h3, h4, h5, h6, h7, h8, h9, h10⟩ := h c
      exact value_eq m m' c h0 h1 h2 h3 h4 h5 h6 h7 h8 h9 h10), (k c).2⟩)
      (Cert.ReferenceIdeal.Value.run (F := Ideal) m' g')⟩⟩

end Cert.Proof

end
